-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S1x2048 : Shape := ⟨2, ![1, 2048]⟩
abbrev S2x512x2048 : Shape := ⟨3, ![2, 512, 2048]⟩
abbrev S512x2048 : Shape := ⟨2, ![512, 2048]⟩
abbrev S3x512x2048 : Shape := ⟨3, ![3, 512, 2048]⟩
abbrev S2048x2048 : Shape := ⟨2, ![2048, 2048]⟩
abbrev S23 : Shape := ⟨1, ![23]⟩
abbrev S3 : Shape := ⟨1, ![3]⟩
abbrev S16 : Shape := ⟨1, ![16]⟩
abbrev S_ : Shape := ⟨0, ![]⟩
abbrev S1 : Shape := ⟨1, ![1]⟩
abbrev S1x512x2048 : Shape := ⟨3, ![1, 512, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .local _ .vmem, ⟨0, _⟩ => ⟨S1x2048, .f32⟩
  | .local _ .vmem, ⟨1, _⟩ => ⟨S2x512x2048, .f32⟩
  | .local _ .vmem, ⟨2, _⟩ => ⟨S512x2048, .bf16⟩
  | .local _ .vmem, ⟨3, _⟩ => ⟨S3x512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v51 : BitVec 32 := Scalar.muli v2 c8_i32_28
  let v52 : BitVec 32 := Scalar.addi c0_i32_29 v51
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v53 : BitVec 32 := Scalar.muli v5 c4_i32_30
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_31 : BitVec 32 := 1#32
  let v55 : BitVec 32 := Scalar.muli v31 c1_i32_31
  let v56 : BitVec 32 := Scalar.addi v54 v55
  v56.toNat
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v57 : BitVec 32 := Scalar.muli v2 c8_i32_33
  let v58 : BitVec 32 := Scalar.addi c0_i32_34 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v59 : BitVec 32 := Scalar.muli v5 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_36 : BitVec 32 := 1#32
  let v61 : BitVec 32 := Scalar.muli v19 c1_i32_36
  let v62 : BitVec 32 := Scalar.addi v60 v61
  v62.toNat
def k0_dev3 (d0 : Dev nD) : Nat :=
  let c0_i32_39 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_38 : BitVec 32 := 8#32
  let v63 : BitVec 32 := Scalar.muli v32 c8_i32_38
  let v64 : BitVec 32 := Scalar.addi c0_i32_39 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v65 : BitVec 32 := Scalar.muli v5 c4_i32_40
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.muli v8 c1_i32_41
  let v68 : BitVec 32 := Scalar.addi v66 v67
  v68.toNat
def k0_dev4 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v69 : BitVec 32 := Scalar.muli v2 c8_i32_43
  let v70 : BitVec 32 := Scalar.addi c0_i32_44 v69
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_45 : BitVec 32 := 4#32
  let v71 : BitVec 32 := Scalar.muli v33 c4_i32_45
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v73 : BitVec 32 := Scalar.muli v8 c1_i32_46
  let v74 : BitVec 32 := Scalar.addi v72 v73
  v74.toNat
def k0_off1 (d0 : Dev nD) (c1_i32_49 : BitVec 32) : Fin 3 → Nat :=
  let c0_i32_56 : BitVec 32 := 0#32
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.muli c2_i32_26 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.addi v47 v5
  let c2048_i32 : BitVec 32 := 2048#32
  let v49 : BitVec 32 := Scalar.muli v48 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_48 : BitVec 32 := 4#32
  let v75 : BitVec 32 := Scalar.addi v8 c4_i32_48
  let v76 : BitVec 32 := Scalar.subi v75 c1_i32_49
  let c4_i32_50 : BitVec 32 := 4#32
  let c0_i32_51 : BitVec 32 := 0#32
  let v77 : BitVec 1 := Scalar.cmpi .eq c4_i32_50 c0_i32_51
  let c1_i32_52 : BitVec 32 := 1#32
  let v78 : BitVec 32 := Scalar.select v77 c1_i32_52 c4_i32_50
  let v79 : BitVec 32 := Scalar.remsi v76 v78
  let c0_i32_54 : BitVec 32 := 0#32
  let v81 : BitVec 1 := Scalar.cmpi .slt v79 c0_i32_54
  let c0_i32_55 : BitVec 32 := 0#32
  let v82 : BitVec 1 := Scalar.cmpi .slt v78 c0_i32_55
  let v83 : BitVec 1 := Scalar.xori v81 v82
  let c0_i32_53 : BitVec 32 := 0#32
  let v80 : BitVec 1 := Scalar.cmpi .ne v79 c0_i32_53
  let v84 : BitVec 1 := Scalar.andi v83 v80
  let v85 : BitVec 32 := Scalar.addi v79 v78
  let v86 : BitVec 32 := Scalar.select v84 v85 v79
  let c512_i32 : BitVec 32 := 512#32
  let v87 : BitVec 32 := Scalar.muli v86 c512_i32
  let v88 : BitVec 32 := Scalar.addi v49 v87
  let c0_i32_61 : BitVec 32 := 0#32
  ![0, v88.toNat, 0]
def k0_off2 (d0 : Dev nD) : Fin 2 → Nat :=
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.muli c2_i32_26 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.addi v47 v5
  let c2048_i32 : BitVec 32 := 2048#32
  let v49 : BitVec 32 := Scalar.muli v48 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_77 : BitVec 32 := 512#32
  let v115 : BitVec 32 := Scalar.muli v8 c512_i32_77
  let v116 : BitVec 32 := Scalar.addi v49 v115
  let c0_i32_79 : BitVec 32 := 0#32
  ![v116.toNat, 0]
def k0_dev5 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v132 : BitVec 32 := Scalar.muli v2 c8_i32_93
  let v133 : BitVec 32 := Scalar.addi c0_i32_94 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v134 : BitVec 32 := Scalar.muli v5 c4_i32_95
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_96 : BitVec 32 := 1#32
  let v136 : BitVec 32 := Scalar.muli v19 c1_i32_96
  let v137 : BitVec 32 := Scalar.addi v135 v136
  v137.toNat
def k0_dev6 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v151 : BitVec 32 := Scalar.muli v2 c8_i32_108
  let v152 : BitVec 32 := Scalar.addi c0_i32_109 v151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v153 : BitVec 32 := Scalar.muli v5 c4_i32_110
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_111 : BitVec 32 := 1#32
  let v155 : BitVec 32 := Scalar.muli v19 c1_i32_111
  let v156 : BitVec 32 := Scalar.addi v154 v155
  v156.toNat
def k0_dev7 (d0 : Dev nD) : Nat :=
  let c0_i32_167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_166 : BitVec 32 := 8#32
  let v216 : BitVec 32 := Scalar.muli v2 c8_i32_166
  let v217 : BitVec 32 := Scalar.addi c0_i32_167 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_168 : BitVec 32 := 4#32
  let v218 : BitVec 32 := Scalar.muli v5 c4_i32_168
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_169 : BitVec 32 := 1#32
  let v220 : BitVec 32 := Scalar.muli v19 c1_i32_169
  let v221 : BitVec 32 := Scalar.addi v219 v220
  v221.toNat
def k0_dev8 (d0 : Dev nD) : Nat :=
  let c0_i32_207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_206 : BitVec 32 := 8#32
  let v256 : BitVec 32 := Scalar.muli v2 c8_i32_206
  let v257 : BitVec 32 := Scalar.addi c0_i32_207 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_208 : BitVec 32 := 4#32
  let v258 : BitVec 32 := Scalar.muli v5 c4_i32_208
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_209 : BitVec 32 := 1#32
  let v260 : BitVec 32 := Scalar.muli v19 c1_i32_209
  let v261 : BitVec 32 := Scalar.addi v259 v260
  v261.toNat
def k0_off3 (d0 : Dev nD) : Fin 3 → Nat :=
  let c0_i32_215 : BitVec 32 := 0#32
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.muli c2_i32_26 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.addi v47 v5
  let c2048_i32 : BitVec 32 := 2048#32
  let v49 : BitVec 32 := Scalar.muli v48 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_214 : BitVec 32 := 512#32
  let v270 : BitVec 32 := Scalar.muli v8 c512_i32_214
  let v271 : BitVec 32 := Scalar.addi v49 v270
  let c0_i32_220 : BitVec 32 := 0#32
  ![0, v271.toNat, 0]
def k0_dev9 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v312 : BitVec 32 := Scalar.muli v2 c8_i32_261
  let v313 : BitVec 32 := Scalar.addi c0_i32_262 v312
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v314 : BitVec 32 := Scalar.muli v5 c4_i32_263
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_264 : BitVec 32 := 1#32
  let v316 : BitVec 32 := Scalar.muli v19 c1_i32_264
  let v317 : BitVec 32 := Scalar.addi v315 v316
  v317.toNat
def k0_dev10 (d0 : Dev nD) : Nat :=
  let c0_i32_303 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_302 : BitVec 32 := 8#32
  let v354 : BitVec 32 := Scalar.muli v2 c8_i32_302
  let v355 : BitVec 32 := Scalar.addi c0_i32_303 v354
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_304 : BitVec 32 := 4#32
  let v356 : BitVec 32 := Scalar.muli v5 c4_i32_304
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_305 : BitVec 32 := 1#32
  let v358 : BitVec 32 := Scalar.muli v19 c1_i32_305
  let v359 : BitVec 32 := Scalar.addi v357 v358
  v359.toNat
def k0_off4 (d0 : Dev nD) (c0_i32_351 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_350 : BitVec 32 := 512#32
  let v418 : BitVec 32 := Scalar.muli v8 c512_i32_350
  let v419 : BitVec 32 := Scalar.addi v418 c0_i32_351
  let v420 : Index := Scalar.indexCast v419
  let c0_352 : Index := 0#32
  ![v420.toNat, 0]
def k0_off5 (d0 : Dev nD) (c0_i32_391 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_390 : BitVec 32 := 4#32
  let v471 : BitVec 32 := Scalar.addi v8 c4_i32_390
  let v472 : BitVec 32 := Scalar.subi v471 c0_i32_391
  let c4_i32_392 : BitVec 32 := 4#32
  let c0_i32_393 : BitVec 32 := 0#32
  let v473 : BitVec 1 := Scalar.cmpi .eq c4_i32_392 c0_i32_393
  let c1_i32_394 : BitVec 32 := 1#32
  let v474 : BitVec 32 := Scalar.select v473 c1_i32_394 c4_i32_392
  let v475 : BitVec 32 := Scalar.remsi v472 v474
  let c0_i32_396 : BitVec 32 := 0#32
  let v477 : BitVec 1 := Scalar.cmpi .slt v475 c0_i32_396
  let c0_i32_397 : BitVec 32 := 0#32
  let v478 : BitVec 1 := Scalar.cmpi .slt v474 c0_i32_397
  let v479 : BitVec 1 := Scalar.xori v477 v478
  let c0_i32_395 : BitVec 32 := 0#32
  let v476 : BitVec 1 := Scalar.cmpi .ne v475 c0_i32_395
  let v480 : BitVec 1 := Scalar.andi v479 v476
  let v481 : BitVec 32 := Scalar.addi v475 v474
  let v482 : BitVec 32 := Scalar.select v480 v481 v475
  let c512_i32_398 : BitVec 32 := 512#32
  let v483 : BitVec 32 := Scalar.muli v482 c512_i32_398
  let c0_i32_404 : BitVec 32 := 0#32
  ![v483.toNat, 0]
def k0_dev11 (d0 : Dev nD) : Nat :=
  let c0_i32_401 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_400 : BitVec 32 := 8#32
  let v484 : BitVec 32 := Scalar.muli v2 c8_i32_400
  let v485 : BitVec 32 := Scalar.addi c0_i32_401 v484
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_402 : BitVec 32 := 4#32
  let v486 : BitVec 32 := Scalar.muli v5 c4_i32_402
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_403 : BitVec 32 := 1#32
  let v488 : BitVec 32 := Scalar.muli v19 c1_i32_403
  let v489 : BitVec 32 := Scalar.addi v487 v488
  v489.toNat
def k0_dev12 (d0 : Dev nD) : Nat :=
  let c0_i32_417 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_416 : BitVec 32 := 8#32
  let v509 : BitVec 32 := Scalar.muli v32 c8_i32_416
  let v510 : BitVec 32 := Scalar.addi c0_i32_417 v509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v511 : BitVec 32 := Scalar.muli v5 c4_i32_418
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v513 : BitVec 32 := Scalar.muli v8 c1_i32_419
  let v514 : BitVec 32 := Scalar.addi v512 v513
  v514.toNat
def k0_dev13 (d0 : Dev nD) : Nat :=
  let c0_i32_424 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_423 : BitVec 32 := 8#32
  let v521 : BitVec 32 := Scalar.muli v2 c8_i32_423
  let v522 : BitVec 32 := Scalar.addi c0_i32_424 v521
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_425 : BitVec 32 := 4#32
  let v523 : BitVec 32 := Scalar.muli v33 c4_i32_425
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v525 : BitVec 32 := Scalar.muli v8 c1_i32_426
  let v526 : BitVec 32 := Scalar.addi v524 v525
  v526.toNat
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_429 : BitVec 32 := 512#32
  let v533 : BitVec 32 := Scalar.muli v8 c512_i32_429
  let c0_i32_433 : BitVec 32 := 0#32
  ![v533.toNat, 0]
def k0_dev14 (d0 : Dev nD) : Nat :=
  let c0_i32_458 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_457 : BitVec 32 := 8#32
  let v567 : BitVec 32 := Scalar.muli v2 c8_i32_457
  let v568 : BitVec 32 := Scalar.addi c0_i32_458 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_459 : BitVec 32 := 4#32
  let v569 : BitVec 32 := Scalar.muli v5 c4_i32_459
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_460 : BitVec 32 := 1#32
  let v571 : BitVec 32 := Scalar.muli v19 c1_i32_460
  let v572 : BitVec 32 := Scalar.addi v570 v571
  v572.toNat
def k0_dev15 (d0 : Dev nD) : Nat :=
  let c0_i32_482 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_481 : BitVec 32 := 8#32
  let v604 : BitVec 32 := Scalar.muli v32 c8_i32_481
  let v605 : BitVec 32 := Scalar.addi c0_i32_482 v604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_483 : BitVec 32 := 4#32
  let v606 : BitVec 32 := Scalar.muli v5 c4_i32_483
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v608 : BitVec 32 := Scalar.muli v8 c1_i32_484
  let v609 : BitVec 32 := Scalar.addi v607 v608
  v609.toNat
def k0_dev16 (d0 : Dev nD) : Nat :=
  let c0_i32_489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_488 : BitVec 32 := 8#32
  let v616 : BitVec 32 := Scalar.muli v2 c8_i32_488
  let v617 : BitVec 32 := Scalar.addi c0_i32_489 v616
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_490 : BitVec 32 := 4#32
  let v618 : BitVec 32 := Scalar.muli v33 c4_i32_490
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v620 : BitVec 32 := Scalar.muli v8 c1_i32_491
  let v621 : BitVec 32 := Scalar.addi v619 v620
  v621.toNat
def k0_off7 (d0 : Dev nD) (c1_i32_464 : BitVec 32) : Fin 2 → Nat :=
  let c2_i32_26 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.muli c2_i32_26 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.addi v47 v5
  let c2048_i32 : BitVec 32 := 2048#32
  let v49 : BitVec 32 := Scalar.muli v48 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_463 : BitVec 32 := 4#32
  let v579 : BitVec 32 := Scalar.addi v8 c4_i32_463
  let v580 : BitVec 32 := Scalar.subi v579 c1_i32_464
  let c4_i32_465 : BitVec 32 := 4#32
  let c0_i32_466 : BitVec 32 := 0#32
  let v581 : BitVec 1 := Scalar.cmpi .eq c4_i32_465 c0_i32_466
  let c1_i32_467 : BitVec 32 := 1#32
  let v582 : BitVec 32 := Scalar.select v581 c1_i32_467 c4_i32_465
  let v583 : BitVec 32 := Scalar.remsi v580 v582
  let c0_i32_469 : BitVec 32 := 0#32
  let v585 : BitVec 1 := Scalar.cmpi .slt v583 c0_i32_469
  let c0_i32_470 : BitVec 32 := 0#32
  let v586 : BitVec 1 := Scalar.cmpi .slt v582 c0_i32_470
  let v587 : BitVec 1 := Scalar.xori v585 v586
  let c0_i32_468 : BitVec 32 := 0#32
  let v584 : BitVec 1 := Scalar.cmpi .ne v583 c0_i32_468
  let v588 : BitVec 1 := Scalar.andi v587 v584
  let v589 : BitVec 32 := Scalar.addi v583 v582
  let v590 : BitVec 32 := Scalar.select v588 v589 v583
  let c512_i32_495 : BitVec 32 := 512#32
  let v629 : BitVec 32 := Scalar.muli v590 c512_i32_495
  let v630 : BitVec 32 := Scalar.addi v49 v629
  let c0_i32_497 : BitVec 32 := 0#32
  ![v630.toNat, 0]
def k0_dev17 (d0 : Dev nD) : Nat :=
  let c0_i32_524 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_523 : BitVec 32 := 8#32
  let v662 : BitVec 32 := Scalar.muli v2 c8_i32_523
  let v663 : BitVec 32 := Scalar.addi c0_i32_524 v662
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_525 : BitVec 32 := 4#32
  let v664 : BitVec 32 := Scalar.muli v5 c4_i32_525
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_526 : BitVec 32 := 1#32
  let v666 : BitVec 32 := Scalar.muli v19 c1_i32_526
  let v667 : BitVec 32 := Scalar.addi v665 v666
  v667.toNat
def k0_dev18 (d0 : Dev nD) : Nat :=
  let c0_i32_548 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_547 : BitVec 32 := 8#32
  let v699 : BitVec 32 := Scalar.muli v32 c8_i32_547
  let v700 : BitVec 32 := Scalar.addi c0_i32_548 v699
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_549 : BitVec 32 := 4#32
  let v701 : BitVec 32 := Scalar.muli v5 c4_i32_549
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v703 : BitVec 32 := Scalar.muli v8 c1_i32_550
  let v704 : BitVec 32 := Scalar.addi v702 v703
  v704.toNat
def k0_dev19 (d0 : Dev nD) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_554 : BitVec 32 := 8#32
  let v711 : BitVec 32 := Scalar.muli v2 c8_i32_554
  let v712 : BitVec 32 := Scalar.addi c0_i32_555 v711
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_556 : BitVec 32 := 4#32
  let v713 : BitVec 32 := Scalar.muli v33 c4_i32_556
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v715 : BitVec 32 := Scalar.muli v8 c1_i32_557
  let v716 : BitVec 32 := Scalar.addi v714 v715
  v716.toNat
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_586 : BitVec 32 := 4#32
  let v756 : BitVec 32 := Scalar.addi v8 c4_i32_586
  let c3_i32_587 : BitVec 32 := 3#32
  let v757 : BitVec 32 := Scalar.subi v756 c3_i32_587
  let c4_i32_588 : BitVec 32 := 4#32
  let c0_i32_589 : BitVec 32 := 0#32
  let v758 : BitVec 1 := Scalar.cmpi .eq c4_i32_588 c0_i32_589
  let c1_i32_590 : BitVec 32 := 1#32
  let v759 : BitVec 32 := Scalar.select v758 c1_i32_590 c4_i32_588
  let v760 : BitVec 32 := Scalar.remsi v757 v759
  let c0_i32_592 : BitVec 32 := 0#32
  let v762 : BitVec 1 := Scalar.cmpi .slt v760 c0_i32_592
  let c0_i32_593 : BitVec 32 := 0#32
  let v763 : BitVec 1 := Scalar.cmpi .slt v759 c0_i32_593
  let v764 : BitVec 1 := Scalar.xori v762 v763
  let c0_i32_591 : BitVec 32 := 0#32
  let v761 : BitVec 1 := Scalar.cmpi .ne v760 c0_i32_591
  let v765 : BitVec 1 := Scalar.andi v764 v761
  let v766 : BitVec 32 := Scalar.addi v760 v759
  let v767 : BitVec 32 := Scalar.select v765 v766 v760
  let c512_i32_594 : BitVec 32 := 512#32
  let v768 : BitVec 32 := Scalar.muli v767 c512_i32_594
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v8 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c256_i32_595 : BitVec 32 := 256#32
  let v769 : BitVec 32 := Scalar.muli v43 c256_i32_595
  let v770 : BitVec 32 := Scalar.addi v768 v769
  let c0_i32_601 : BitVec 32 := 0#32
  ![v770.toNat, 0]
def k0_dev20 (d0 : Dev nD) : Nat :=
  let c0_i32_598 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_597 : BitVec 32 := 8#32
  let v771 : BitVec 32 := Scalar.muli v32 c8_i32_597
  let v772 : BitVec 32 := Scalar.addi c0_i32_598 v771
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_599 : BitVec 32 := 4#32
  let v773 : BitVec 32 := Scalar.muli v5 c4_i32_599
  let v774 : BitVec 32 := Scalar.addi v772 v773
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_600 : BitVec 32 := 1#32
  let v775 : BitVec 32 := Scalar.muli v8 c1_i32_600
  let v776 : BitVec 32 := Scalar.addi v774 v775
  v776.toNat
def k0_dev21 (d0 : Dev nD) : Nat :=
  let c0_i32_605 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_604 : BitVec 32 := 8#32
  let v783 : BitVec 32 := Scalar.muli v2 c8_i32_604
  let v784 : BitVec 32 := Scalar.addi c0_i32_605 v783
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_606 : BitVec 32 := 4#32
  let v785 : BitVec 32 := Scalar.muli v33 c4_i32_606
  let v786 : BitVec 32 := Scalar.addi v784 v785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_607 : BitVec 32 := 1#32
  let v787 : BitVec 32 := Scalar.muli v8 c1_i32_607
  let v788 : BitVec 32 := Scalar.addi v786 v787
  v788.toNat
def k0_dev22 (d0 : Dev nD) : Nat :=
  let c0_i32_646 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_645 : BitVec 32 := 8#32
  let v839 : BitVec 32 := Scalar.muli v32 c8_i32_645
  let v840 : BitVec 32 := Scalar.addi c0_i32_646 v839
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_647 : BitVec 32 := 4#32
  let v841 : BitVec 32 := Scalar.muli v5 c4_i32_647
  let v842 : BitVec 32 := Scalar.addi v840 v841
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_648 : BitVec 32 := 1#32
  let v843 : BitVec 32 := Scalar.muli v8 c1_i32_648
  let v844 : BitVec 32 := Scalar.addi v842 v843
  v844.toNat
def k0_off9 (d0 : Dev nD) (c0_i32_623 : BitVec 32) : Fin 2 → Nat :=
  let c2_i32_616 : BitVec 32 := 2#32
  let c1_i32_615 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v802 : BitVec 32 := Scalar.subi c1_i32_615 v2
  let v803 : BitVec 32 := Scalar.muli c2_i32_616 v802
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v804 : BitVec 32 := Scalar.addi v803 v5
  let c2048_i32_664 : BitVec 32 := 2048#32
  let v865 : BitVec 32 := Scalar.muli v804 c2048_i32_664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_622 : BitVec 32 := 4#32
  let v812 : BitVec 32 := Scalar.addi v8 c4_i32_622
  let v813 : BitVec 32 := Scalar.subi v812 c0_i32_623
  let c4_i32_624 : BitVec 32 := 4#32
  let c0_i32_625 : BitVec 32 := 0#32
  let v814 : BitVec 1 := Scalar.cmpi .eq c4_i32_624 c0_i32_625
  let c1_i32_626 : BitVec 32 := 1#32
  let v815 : BitVec 32 := Scalar.select v814 c1_i32_626 c4_i32_624
  let v816 : BitVec 32 := Scalar.remsi v813 v815
  let c0_i32_628 : BitVec 32 := 0#32
  let v818 : BitVec 1 := Scalar.cmpi .slt v816 c0_i32_628
  let c0_i32_629 : BitVec 32 := 0#32
  let v819 : BitVec 1 := Scalar.cmpi .slt v815 c0_i32_629
  let v820 : BitVec 1 := Scalar.xori v818 v819
  let c0_i32_627 : BitVec 32 := 0#32
  let v817 : BitVec 1 := Scalar.cmpi .ne v816 c0_i32_627
  let v821 : BitVec 1 := Scalar.andi v820 v817
  let v822 : BitVec 32 := Scalar.addi v816 v815
  let v823 : BitVec 32 := Scalar.select v821 v822 v816
  let c512_i32_665 : BitVec 32 := 512#32
  let v866 : BitVec 32 := Scalar.muli v823 c512_i32_665
  let v867 : BitVec 32 := Scalar.addi v865 v866
  let c0_i32_667 : BitVec 32 := 0#32
  ![v867.toNat, 0]
def k0_off10 (d0 : Dev nD) (c0_i32_623 : BitVec 32) : Fin 2 → Nat :=
  let c2_i32_617 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v805 : BitVec 32 := Scalar.muli c2_i32_617 v2
  let c1_i32_618 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v806 : BitVec 32 := Scalar.subi c1_i32_618 v5
  let v807 : BitVec 32 := Scalar.addi v805 v806
  let c2048_i32_669 : BitVec 32 := 2048#32
  let v872 : BitVec 32 := Scalar.muli v807 c2048_i32_669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_622 : BitVec 32 := 4#32
  let v812 : BitVec 32 := Scalar.addi v8 c4_i32_622
  let v813 : BitVec 32 := Scalar.subi v812 c0_i32_623
  let c4_i32_624 : BitVec 32 := 4#32
  let c0_i32_625 : BitVec 32 := 0#32
  let v814 : BitVec 1 := Scalar.cmpi .eq c4_i32_624 c0_i32_625
  let c1_i32_626 : BitVec 32 := 1#32
  let v815 : BitVec 32 := Scalar.select v814 c1_i32_626 c4_i32_624
  let v816 : BitVec 32 := Scalar.remsi v813 v815
  let c0_i32_628 : BitVec 32 := 0#32
  let v818 : BitVec 1 := Scalar.cmpi .slt v816 c0_i32_628
  let c0_i32_629 : BitVec 32 := 0#32
  let v819 : BitVec 1 := Scalar.cmpi .slt v815 c0_i32_629
  let v820 : BitVec 1 := Scalar.xori v818 v819
  let c0_i32_627 : BitVec 32 := 0#32
  let v817 : BitVec 1 := Scalar.cmpi .ne v816 c0_i32_627
  let v821 : BitVec 1 := Scalar.andi v820 v817
  let v822 : BitVec 32 := Scalar.addi v816 v815
  let v823 : BitVec 32 := Scalar.select v821 v822 v816
  let c512_i32_670 : BitVec 32 := 512#32
  let v873 : BitVec 32 := Scalar.muli v823 c512_i32_670
  let v874 : BitVec 32 := Scalar.addi v872 v873
  let c0_i32_672 : BitVec 32 := 0#32
  ![v874.toNat, 0]
def k0_dev23 (d0 : Dev nD) : Nat :=
  let c0_i32_698 : BitVec 32 := 0#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let c8_i32_697 : BitVec 32 := 8#32
  let v906 : BitVec 32 := Scalar.muli v32 c8_i32_697
  let v907 : BitVec 32 := Scalar.addi c0_i32_698 v906
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_699 : BitVec 32 := 4#32
  let v908 : BitVec 32 := Scalar.muli v5 c4_i32_699
  let v909 : BitVec 32 := Scalar.addi v907 v908
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_700 : BitVec 32 := 1#32
  let v910 : BitVec 32 := Scalar.muli v8 c1_i32_700
  let v911 : BitVec 32 := Scalar.addi v909 v910
  v911.toNat
def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_748 : BitVec 32 := 2#32
  let v973 : BitVec 32 := Scalar.addi v8 c2_i32_748
  let c2_i32_749 : BitVec 32 := 2#32
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v8 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let v974 : BitVec 32 := Scalar.muli c2_i32_749 v43
  let v975 : BitVec 32 := Scalar.subi v973 v974
  let c4_i32_750 : BitVec 32 := 4#32
  let c0_i32_751 : BitVec 32 := 0#32
  let v976 : BitVec 1 := Scalar.cmpi .eq c4_i32_750 c0_i32_751
  let c1_i32_752 : BitVec 32 := 1#32
  let v977 : BitVec 32 := Scalar.select v976 c1_i32_752 c4_i32_750
  let v978 : BitVec 32 := Scalar.remsi v975 v977
  let c0_i32_754 : BitVec 32 := 0#32
  let v980 : BitVec 1 := Scalar.cmpi .slt v978 c0_i32_754
  let c0_i32_755 : BitVec 32 := 0#32
  let v981 : BitVec 1 := Scalar.cmpi .slt v977 c0_i32_755
  let v982 : BitVec 1 := Scalar.xori v980 v981
  let c0_i32_753 : BitVec 32 := 0#32
  let v979 : BitVec 1 := Scalar.cmpi .ne v978 c0_i32_753
  let v983 : BitVec 1 := Scalar.andi v982 v979
  let v984 : BitVec 32 := Scalar.addi v978 v977
  let v985 : BitVec 32 := Scalar.select v983 v984 v978
  let c512_i32_756 : BitVec 32 := 512#32
  let v986 : BitVec 32 := Scalar.muli v985 c512_i32_756
  let c256_i32_757 : BitVec 32 := 256#32
  let v987 : BitVec 32 := Scalar.muli v43 c256_i32_757
  let v988 : BitVec 32 := Scalar.addi v986 v987
  let c0_i32_763 : BitVec 32 := 0#32
  ![v988.toNat, 0]
def k0_dev24 (d0 : Dev nD) : Nat :=
  let c0_i32_760 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_759 : BitVec 32 := 8#32
  let v989 : BitVec 32 := Scalar.muli v2 c8_i32_759
  let v990 : BitVec 32 := Scalar.addi c0_i32_760 v989
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_761 : BitVec 32 := 4#32
  let v991 : BitVec 32 := Scalar.muli v5 c4_i32_761
  let v992 : BitVec 32 := Scalar.addi v990 v991
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.addi v8 c1_i32_24
  let c2_i32_25 : BitVec 32 := 2#32
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v8 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let v45 : BitVec 32 := Scalar.muli c2_i32_25 v43
  let v46 : BitVec 32 := Scalar.subi v44 v45
  let c1_i32_762 : BitVec 32 := 1#32
  let v993 : BitVec 32 := Scalar.muli v46 c1_i32_762
  let v994 : BitVec 32 := Scalar.addi v992 v993
  v994.toNat
def k0_dev25 (d0 : Dev nD) : Nat :=
  let c0_i32_767 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_766 : BitVec 32 := 8#32
  let v1001 : BitVec 32 := Scalar.muli v2 c8_i32_766
  let v1002 : BitVec 32 := Scalar.addi c0_i32_767 v1001
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_768 : BitVec 32 := 4#32
  let v1003 : BitVec 32 := Scalar.muli v33 c4_i32_768
  let v1004 : BitVec 32 := Scalar.addi v1002 v1003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_769 : BitVec 32 := 1#32
  let v1005 : BitVec 32 := Scalar.muli v8 c1_i32_769
  let v1006 : BitVec 32 := Scalar.addi v1004 v1005
  v1006.toNat
def k0_dev26 (d0 : Dev nD) : Nat :=
  let c0_i32_787 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_786 : BitVec 32 := 8#32
  let v1027 : BitVec 32 := Scalar.muli v2 c8_i32_786
  let v1028 : BitVec 32 := Scalar.addi c0_i32_787 v1027
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_788 : BitVec 32 := 4#32
  let v1029 : BitVec 32 := Scalar.muli v5 c4_i32_788
  let v1030 : BitVec 32 := Scalar.addi v1028 v1029
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v44 : BitVec 32 := Scalar.addi v8 c1_i32_24
  let c2_i32_25 : BitVec 32 := 2#32
  let c2_i32_18 : BitVec 32 := 2#32
  let c0_i32_19 : BitVec 32 := 0#32
  let v34 : BitVec 1 := Scalar.cmpi .eq c2_i32_18 c0_i32_19
  let c1_i32_20 : BitVec 32 := 1#32
  let v35 : BitVec 32 := Scalar.select v34 c1_i32_20 c2_i32_18
  let v36 : BitVec 32 := Scalar.remsi v8 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let v45 : BitVec 32 := Scalar.muli c2_i32_25 v43
  let v46 : BitVec 32 := Scalar.subi v44 v45
  let c1_i32_789 : BitVec 32 := 1#32
  let v1031 : BitVec 32 := Scalar.muli v46 c1_i32_789
  let v1032 : BitVec 32 := Scalar.addi v1030 v1031
  v1032.toNat
def k0_dev27 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v1094 : BitVec 32 := Scalar.muli v2 c8_i32_838
  let v1095 : BitVec 32 := Scalar.addi c0_i32_839 v1094
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c4_i32_840 : BitVec 32 := 4#32
  let v1096 : BitVec 32 := Scalar.muli v33 c4_i32_840
  let v1097 : BitVec 32 := Scalar.addi v1095 v1096
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_841 : BitVec 32 := 1#32
  let v1098 : BitVec 32 := Scalar.muli v8 c1_i32_841
  let v1099 : BitVec 32 := Scalar.addi v1097 v1098
  v1099.toNat
def k0_off12 (d0 : Dev nD) (c0_i32_894 : BitVec 32) : Fin 2 → Nat :=
  let c2_i32_620 : BitVec 32 := 2#32
  let c1_i32_619 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v808 : BitVec 32 := Scalar.subi c1_i32_619 v2
  let v809 : BitVec 32 := Scalar.muli c2_i32_620 v808
  let c1_i32_621 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v810 : BitVec 32 := Scalar.subi c1_i32_621 v5
  let v811 : BitVec 32 := Scalar.addi v809 v810
  let c2048_i32_902 : BitVec 32 := 2048#32
  let v1175 : BitVec 32 := Scalar.muli v811 c2048_i32_902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_893 : BitVec 32 := 4#32
  let v1162 : BitVec 32 := Scalar.addi v8 c4_i32_893
  let v1163 : BitVec 32 := Scalar.subi v1162 c0_i32_894
  let c4_i32_895 : BitVec 32 := 4#32
  let c0_i32_896 : BitVec 32 := 0#32
  let v1164 : BitVec 1 := Scalar.cmpi .eq c4_i32_895 c0_i32_896
  let c1_i32_897 : BitVec 32 := 1#32
  let v1165 : BitVec 32 := Scalar.select v1164 c1_i32_897 c4_i32_895
  let v1166 : BitVec 32 := Scalar.remsi v1163 v1165
  let c0_i32_899 : BitVec 32 := 0#32
  let v1168 : BitVec 1 := Scalar.cmpi .slt v1166 c0_i32_899
  let c0_i32_900 : BitVec 32 := 0#32
  let v1169 : BitVec 1 := Scalar.cmpi .slt v1165 c0_i32_900
  let v1170 : BitVec 1 := Scalar.xori v1168 v1169
  let c0_i32_898 : BitVec 32 := 0#32
  let v1167 : BitVec 1 := Scalar.cmpi .ne v1166 c0_i32_898
  let v1171 : BitVec 1 := Scalar.andi v1170 v1167
  let v1172 : BitVec 32 := Scalar.addi v1166 v1165
  let v1173 : BitVec 32 := Scalar.select v1171 v1172 v1166
  let c512_i32_903 : BitVec 32 := 512#32
  let v1176 : BitVec 32 := Scalar.muli v1173 c512_i32_903
  let v1177 : BitVec 32 := Scalar.addi v1175 v1176
  let c0_i32_905 : BitVec 32 := 0#32
  ![v1177.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S1x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.AllReduce.Geom.lean ====
/-
# Where everything lies

The mesh's neighbours, the four chunks of a device's quarter, the sets of rows the transfers move,
and the semaphores: plain facts about sixteen devices and about rows in blocks of 256, each decided
or read off the rectangle's offsets.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdxCore
public import Idealize.ShloMosaic.Lib.Pipeline.Value
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe Idealize.ShloMosaic.ValueIdx

/-! ## Neighbours: device `c` is at `(c / 8, c / 4 % 2, c % 4)` -/

set_option backward.proofsInPublic true in
/-- The next device along z. -/
def rt (c : Dev nD) : Dev nD := ⟨c.val / 4 * 4 + (c.val % 4 + 1) % 4, by have : c.val < 16 := c.isLt; show _ < 16; omega⟩
set_option backward.proofsInPublic true in
/-- The device before along z. -/
def lt (c : Dev nD) : Dev nD := ⟨c.val / 4 * 4 + (c.val % 4 + 3) % 4, by have : c.val < 16 := c.isLt; show _ < 16; omega⟩
set_option backward.proofsInPublic true in
/-- The other device along x. -/
def xn (c : Dev nD) : Dev nD := ⟨(c.val + 8) % 16, Nat.mod_lt _ (by decide)⟩
set_option backward.proofsInPublic true in
/-- The other device along y. -/
def yn (c : Dev nD) : Dev nD := ⟨c.val / 8 * 8 + (c.val % 8 + 4) % 8, by have : c.val < 16 := c.isLt; show _ < 16; omega⟩
set_option backward.proofsInPublic true in
/-- The partner along z: `0 ↔ 1`, `2 ↔ 3`. -/
def pz (c : Dev nD) : Dev nD := if c.val % 2 = 0 then rt c else lt c
set_option backward.proofsInPublic true in
/-- The device at place `k` along z of `c`'s line. -/
def mate (c : Dev nD) (k : Fin 4) : Dev nD := ⟨c.val / 4 * 4 + k.val, by have : c.val < 16 := c.isLt; show _ < 16; omega⟩

theorem rt_lt (c : Dev nD) : rt (lt c) = c := by revert c; decide
theorem lt_rt (c : Dev nD) : lt (rt c) = c := by revert c; decide
theorem xn_xn (c : Dev nD) : xn (xn c) = c := by revert c; decide
theorem yn_yn (c : Dev nD) : yn (yn c) = c := by revert c; decide
theorem pz_pz (c : Dev nD) : pz (pz c) = c := by revert c; decide
theorem yn_xn (c : Dev nD) : yn (xn c) = xn (yn c) := by revert c; decide

/-- The neighbour in direction `d`: right, left, x, y. -/
def nb : Fin 4 → Dev nD → Dev nD
  | 0 => rt | 1 => lt | 2 => xn | 3 => yn
/-- The device whose neighbour in direction `d` one is. -/
def nbi : Fin 4 → Dev nD → Dev nD
  | 0 => lt | 1 => rt | 2 => xn | 3 => yn
theorem nb_nbi (d : Fin 4) (c : Dev nD) : nb d (nbi d c) = c := by revert c; revert d; decide
theorem nbi_nb (d : Fin 4) (c : Dev nD) : nbi d (nb d c) = c := by revert c; revert d; decide

/-- The kernel's device chains. -/
theorem dev1_eq (c : Dev nD) : (⟨k0_dev1 c, k0_dev1_lt c⟩ : Dev nD) = nbi 0 c := Fin.ext ((by decide +kernel : ∀ c : Dev nD, k0_dev1 c = (nbi 0 c).val) c)
theorem dev2_eq (c : Dev nD) : (⟨k0_dev2 c, k0_dev2_lt c⟩ : Dev nD) = nbi 1 c := Fin.ext ((by decide +kernel : ∀ c : Dev nD, k0_dev2 c = (nbi 1 c).val) c)
theorem dev3_eq (c : Dev nD) : (⟨k0_dev3 c, k0_dev3_lt c⟩ : Dev nD) = nbi 2 c := Fin.ext ((by decide +kernel : ∀ c : Dev nD, k0_dev3 c = (nbi 2 c).val) c)
theorem dev4_eq (c : Dev nD) : (⟨k0_dev4 c, k0_dev4_lt c⟩ : Dev nD) = nbi 3 c := Fin.ext ((by decide +kernel : ∀ c : Dev nD, k0_dev4 c = (nbi 3 c).val) c)
theorem dev5_eq (c : Dev nD) : (⟨k0_dev5 c, k0_dev5_lt c⟩ : Dev nD) = rt c := Fin.ext ((by decide +kernel : ∀ c : Dev nD, k0_dev5 c = (rt c).val) c)
theorem dev6_eq (c : Dev nD) : (⟨k0_dev6 c, k0_dev6_lt c⟩ : Dev nD) = rt c := Fin.ext ((by decide +kernel : ∀ c : Dev nD, k0_dev6 c = (rt c).val) c)
theorem dev7_eq (c : Dev nD) : (⟨k0_dev7 c, k0_dev7_lt c⟩ : Dev nD) = rt c := Fin.ext ((by decide +kernel : ∀ c : Dev nD, k0_dev7 c = (rt c).val) c)
theorem dev8_eq (c : Dev nD) : (⟨k0_dev8 c, k0_dev8_lt c⟩ : Dev nD) = rt c := Fin.ext ((by decide +kernel : ∀ c : Dev nD, k0_dev8 c = (rt c).val) c)
theorem dev9_eq (c : Dev nD) : (⟨k0_dev9 c, k0_dev9_lt c⟩ : Dev nD) = rt c := Fin.ext ((by decide +kernel : ∀ c : Dev nD, k0_dev9 c = (rt c).val) c)
theorem dev10_eq (c : Dev nD) : (⟨k0_dev10 c, k0_dev10_lt c⟩ : Dev nD) = rt c := Fin.ext ((by decide +kernel : ∀ c : Dev nD, k0_dev10 c = (rt c).val) c)
theorem dev11_eq (c : Dev nD) : (⟨k0_dev11 c, k0_dev11_lt c⟩ : Dev nD) = rt c := Fin.ext ((by decide +kernel : ∀ c : Dev nD, k0_dev11 c = (rt c).val) c)
theorem dev12_eq (c : Dev nD) : (⟨k0_dev12 c, k0_dev12_lt c⟩ : Dev nD) = xn c := Fin.ext ((by decide +kernel : ∀ c : Dev nD, k0_dev12 c = (xn c).val) c)
theorem dev13_eq (c : Dev nD) : (⟨k0_dev13 c, k0_dev13_lt c⟩ : Dev nD) = yn c := Fin.ext ((by decide +kernel : ∀ c : Dev nD, k0_dev13 c = (yn c).val) c)
theorem dev14_eq (c : Dev nD) : (⟨k0_dev14 c, k0_dev14_lt c⟩ : Dev nD) = rt c := Fin.ext ((by decide +kernel : ∀ c : Dev nD, k0_dev14 c = (rt c).val) c)
theorem dev15_eq (c : Dev nD) : (⟨k0_dev15 c, k0_dev15_lt c⟩ : Dev nD) = xn c := Fin.ext ((by decide +kernel : ∀ c : Dev nD, k0_dev15 c = (xn c).val) c)
theorem dev16_eq (c : Dev nD) : (⟨k0_dev16 c, k0_dev16_lt c⟩ : Dev nD) = yn c := Fin.ext ((by decide +kernel : ∀ c : Dev nD, k0_dev16 c = (yn c).val) c)
theorem dev17_eq (c : Dev nD) : (⟨k0_dev17 c, k0_dev17_lt c⟩ : Dev nD) = rt c := Fin.ext ((by decide +kernel : ∀ c : Dev nD, k0_dev17 c = (rt c).val) c)
theorem dev18_eq (c : Dev nD) : (⟨k0_dev18 c, k0_dev18_lt c⟩ : Dev nD) = xn c := Fin.ext ((by decide +kernel : ∀ c : Dev nD, k0_dev18 c = (xn c).val) c)
theorem dev19_eq (c : Dev nD) : (⟨k0_dev19 c, k0_dev19_lt c⟩ : Dev nD) = yn c := Fin.ext ((by decide +kernel : ∀ c : Dev nD, k0_dev19 c = (yn c).val) c)
theorem dev20_eq (c : Dev nD) : (⟨k0_dev20 c, k0_dev20_lt c⟩ : Dev nD) = xn c := Fin.ext ((by decide +kernel : ∀ c : Dev nD, k0_dev20 c = (xn c).val) c)
theorem dev21_eq (c : Dev nD) : (⟨k0_dev21 c, k0_dev21_lt c⟩ : Dev nD) = yn c := Fin.ext ((by decide +kernel : ∀ c : Dev nD, k0_dev21 c = (yn c).val) c)
theorem dev22_eq (c : Dev nD) : (⟨k0_dev22 c, k0_dev22_lt c⟩ : Dev nD) = xn c := Fin.ext ((by decide +kernel : ∀ c : Dev nD, k0_dev22 c = (xn c).val) c)
theorem dev23_eq (c : Dev nD) : (⟨k0_dev23 c, k0_dev23_lt c⟩ : Dev nD) = xn c := Fin.ext ((by decide +kernel : ∀ c : Dev nD, k0_dev23 c = (xn c).val) c)
theorem dev24_eq (c : Dev nD) : (⟨k0_dev24 c, k0_dev24_lt c⟩ : Dev nD) = pz c := Fin.ext ((by decide +kernel : ∀ c : Dev nD, k0_dev24 c = (pz c).val) c)
theorem dev25_eq (c : Dev nD) : (⟨k0_dev25 c, k0_dev25_lt c⟩ : Dev nD) = yn c := Fin.ext ((by decide +kernel : ∀ c : Dev nD, k0_dev25 c = (yn c).val) c)
theorem dev26_eq (c : Dev nD) : (⟨k0_dev26 c, k0_dev26_lt c⟩ : Dev nD) = pz c := Fin.ext ((by decide +kernel : ∀ c : Dev nD, k0_dev26 c = (pz c).val) c)
theorem dev27_eq (c : Dev nD) : (⟨k0_dev27 c, k0_dev27_lt c⟩ : Dev nD) = yn c := Fin.ext ((by decide +kernel : ∀ c : Dev nD, k0_dev27 c = (yn c).val) c)

/-! ## Blocks of 256 rows -/

/-- The elements of a `[n, 2048]` buffer whose row lies in one of the blocks `A`. -/
def bk2 {n : ℕ} (A : Finset ℕ) : Finset (⟨2, ![n, 2048]⟩ : Shape).Idx := Finset.univ.filter fun i => (i 0).val / 256 ∈ A
/-- The elements of an `[n, 512, 2048]` buffer whose row lies in one of the blocks `A`, two to a slot. -/
def bk3 {n : ℕ} (A : Finset ℕ) : Finset (⟨3, ![n, 512, 2048]⟩ : Shape).Idx := Finset.univ.filter fun i => 2 * (i 0).val + (i 1).val / 256 ∈ A

theorem bk2_union {n : ℕ} (A B : Finset ℕ) : (bk2 (A ∪ B) : Finset (⟨2, ![n, 2048]⟩ : Shape).Idx) = bk2 A ∪ bk2 B := by
  ext i; simp [bk2]
theorem bk3_union {n : ℕ} (A B : Finset ℕ) : (bk3 (A ∪ B) : Finset (⟨3, ![n, 512, 2048]⟩ : Shape).Idx) = bk3 A ∪ bk3 B := by
  ext i; simp [bk3]
theorem bk2_disjoint {n : ℕ} {A B : Finset ℕ} (h : Disjoint A B) : Disjoint (bk2 A : Finset (⟨2, ![n, 2048]⟩ : Shape).Idx) (bk2 B) := by
  rw [Finset.disjoint_left] at h ⊢
  intro i hi hj; simp only [bk2, Finset.mem_filter, Finset.mem_univ, true_and] at hi hj; exact h hi hj
theorem bk3_disjoint {n : ℕ} {A B : Finset ℕ} (h : Disjoint A B) : Disjoint (bk3 A : Finset (⟨3, ![n, 512, 2048]⟩ : Shape).Idx) (bk3 B) := by
  rw [Finset.disjoint_left] at h ⊢
  intro i hi hj; simp only [bk3, Finset.mem_filter, Finset.mem_univ, true_and] at hi hj; exact h hi hj
theorem bk2_mono {n : ℕ} {A B : Finset ℕ} (h : A ⊆ B) : (bk2 A : Finset (⟨2, ![n, 2048]⟩ : Shape).Idx) ⊆ bk2 B := by
  intro i hi; simp only [bk2, Finset.mem_filter, Finset.mem_univ, true_and] at hi ⊢; exact h hi
theorem bk3_mono {n : ℕ} {A B : Finset ℕ} (h : A ⊆ B) : (bk3 A : Finset (⟨3, ![n, 512, 2048]⟩ : Shape).Idx) ⊆ bk3 B := by
  intro i hi; simp only [bk3, Finset.mem_filter, Finset.mem_univ, true_and] at hi ⊢; exact h hi
theorem bk2_sdiff {n : ℕ} (A B : Finset ℕ) : (bk2 (A \ B) : Finset (⟨2, ![n, 2048]⟩ : Shape).Idx) = bk2 A \ bk2 B := by
  ext i; simp [bk2]
/-- Every block: the whole buffer. -/
theorem bk2_univ {n : ℕ} (k : ℕ) (h : n ≤ 256 * k) : (bk2 (Finset.range k) : Finset (⟨2, ![n, 2048]⟩ : Shape).Idx) = Finset.univ := by
  ext i; have := idx2_lt0 i
  simp only [bk2, Finset.mem_filter, Finset.mem_univ, true_and, Finset.mem_range, iff_true]; omega
theorem bk3_univ {n : ℕ} : (bk3 (Finset.range (2 * n)) : Finset (⟨3, ![n, 512, 2048]⟩ : Shape).Idx) = Finset.univ := by
  ext i
  have h0 : (i 0).val < n := (i 0).isLt
  have h1 : (i 1).val < 512 := (i 1).isLt
  simp only [bk3, Finset.mem_filter, Finset.mem_univ, true_and, Finset.mem_range, iff_true]; omega

/-- The rectangle of `256 * k` rows from row `256 * a` is blocks `a, …, a + k - 1`. -/
theorem set_rows {n : ℕ} {off size : Fin 2 → ℕ} {inb} (a k : ℕ) (h0 : off 0 = 256 * a) (h1 : off 1 = 0) (s0 : size 0 = 256 * k) (s1 : size 1 = 2048) :
    (Rect.unit (s := (⟨2, ![n, 2048]⟩ : Shape)) off size inb).set = bk2 (Finset.Ico a (a + k)) := by
  ext i
  have hi1 := idx2_lt1 i
  rw [Rect.mem_set_unit]
  simp only [bk2, Finset.mem_filter, Finset.mem_univ, true_and, Finset.mem_Ico]
  refine Fin.forall_fin_two.trans ?_
  rw [h0, h1, s0, s1]
  constructor
  · rintro ⟨⟨h, h'⟩, -⟩; omega
  · rintro ⟨h, h'⟩; exact ⟨⟨by omega, by omega⟩, by omega, by omega⟩

/-- The rectangle of `256 * k` rows (`k ≤ 2`) of slot `s` from row `256 * a`. -/
theorem set_slot {n : ℕ} {off size : Fin 3 → ℕ} {inb} (s a k : ℕ) (hk : a + k ≤ 2) (h0 : off 0 = s) (h1 : off 1 = 256 * a) (h2 : off 2 = 0) (s0 : size 0 = 1) (s1 : size 1 = 256 * k)
    (s2 : size 2 = 2048) :
    (Rect.unit (s := (⟨3, ![n, 512, 2048]⟩ : Shape)) off size inb).set = bk3 (Finset.Ico (2 * s + a) (2 * s + a + k)) := by
  ext i
  have hi1 : (i 1).val < 512 := (i 1).isLt
  have hi2 : (i 2).val < 2048 := (i 2).isLt
  rw [Rect.mem_set_unit]
  simp only [bk3, Finset.mem_filter, Finset.mem_univ, true_and, Finset.mem_Ico]
  have : (∀ a : Fin 3, off a ≤ (i a).val ∧ (i a).val < off a + size a)
      ↔ (off 0 ≤ (i 0).val ∧ (i 0).val < off 0 + size 0) ∧ (off 1 ≤ (i 1).val ∧ (i 1).val < off 1 + size 1) ∧ (off 2 ≤ (i 2).val ∧ (i 2).val < off 2 + size 2) := by
    constructor
    · intro h; exact ⟨h 0, h 1, h 2⟩
    · rintro ⟨h, h', h''⟩ a; fin_cases a <;> assumption
  refine this.trans ?_
  rw [h0, h1, h2, s0, s1, s2]
  constructor
  · rintro ⟨⟨h, h'⟩, ⟨h'', h'''⟩, -⟩; omega
  · rintro ⟨h, h'⟩; exact ⟨⟨by omega, by omega⟩, ⟨by omega, by omega⟩, by omega, by omega⟩

/-! ## The chunks of a quarter -/

/-- The chunk device `c` handles in step `t` of the gather: `z, z - 1, z - 2, z - 3`. -/
def ck (c : Dev nD) (t : ℕ) : ℕ := (c.val % 4 + 4 - t) % 4
/-- Its two blocks. -/
def cA (c : Dev nD) (t : ℕ) : Finset ℕ := Finset.Ico (2 * ck c t) (2 * ck c t + 2)
/-- The half of chunk `z + 1` a device receives from its x and y neighbours. -/
def hA (c : Dev nD) : Finset ℕ := Finset.Ico (2 * ck c 3 + c.val % 2) (2 * ck c 3 + c.val % 2 + 1)
/-- The other half, which its z partner sends. -/
def hB (c : Dev nD) : Finset ℕ := Finset.Ico (2 * ck c 3 + 1 - c.val % 2) (2 * ck c 3 + 1 - c.val % 2 + 1)
/-- Where chunk `k` of quarter `q` starts in the result, in blocks. -/
def oA (q k : ℕ) : Finset ℕ := Finset.Ico (8 * q + 2 * k) (8 * q + 2 * k + 2)
/-- The device's quarter. -/
def qd (c : Dev nD) : ℕ := c.val / 4

theorem off1_eq (c : Dev nD) (r : Fin 3) : k0_off1 c (BitVec.ofNat 32 (r.val + 1)) = ![0, 2048 * qd c + 512 * ck c (r.val + 1), 0] := by
  revert c; revert r; decide +kernel
theorem off2_eq (c : Dev nD) : k0_off2 c = ![256 * (8 * qd c + 2 * ck c 0), 0] := by revert c; decide +kernel
theorem off2_row (c : Dev nD) : k0_off2 c = ![2048 * qd c + 512 * ck c 0, 0] := by revert c; decide +kernel
theorem off3_eq (c : Dev nD) : k0_off3 c = ![0, 2048 * qd c + 512 * ck c 0, 0] := by revert c; decide +kernel
theorem off4_eq (c : Dev nD) (h : Fin 2) : k0_off4 c (BitVec.ofNat 32 (256 * h.val)) = ![256 * (2 * ck c 0 + h.val), 0] := by
  revert c; revert h; decide +kernel
theorem off5_eq (c : Dev nD) (t : Fin 4) : k0_off5 c (BitVec.ofNat 32 t.val) = ![256 * (2 * ck c t.val), 0] := by
  revert c; revert t; decide +kernel
theorem off6_eq (c : Dev nD) : k0_off6 c = ![256 * (2 * ck c 0), 0] := by revert c; decide +kernel
theorem off7_eq (c : Dev nD) (t : Fin 3) : k0_off7 c (BitVec.ofNat 32 (t.val + 1)) = ![256 * (8 * qd c + 2 * ck c (t.val + 1)), 0] := by
  revert c; revert t; decide +kernel
theorem off8_eq (c : Dev nD) : k0_off8 c = ![256 * (2 * ck c 3 + c.val % 2), 0] := by revert c; decide +kernel
theorem off9_eq (c : Dev nD) (t : Fin 4) : k0_off9 c (BitVec.ofNat 32 t.val) = ![256 * (8 * qd (xn c) + 2 * ck c t.val), 0] := by
  revert c; revert t; decide +kernel
theorem off10_eq (c : Dev nD) (t : Fin 4) : k0_off10 c (BitVec.ofNat 32 t.val) = ![256 * (8 * qd (yn c) + 2 * ck c t.val), 0] := by
  revert c; revert t; decide +kernel
theorem off11_eq (c : Dev nD) : k0_off11 c = ![256 * (2 * ck (pz c) 3 + 1 - (pz c).val % 2), 0] := by revert c; decide +kernel
theorem off12_eq (c : Dev nD) (t : Fin 4) : k0_off12 c (BitVec.ofNat 32 t.val) = ![256 * (8 * qd (xn (yn c)) + 2 * ck c t.val), 0] := by
  revert c; revert t; decide +kernel

theorem ck_rt (c : Dev nD) (t : Fin 3) : ck (rt c) (t.val + 1) = ck c t.val := by revert c; revert t; decide
theorem ck_xn (c : Dev nD) (t : Fin 4) : ck (xn c) t.val = ck c t.val := by revert c; revert t; decide
theorem ck_yn (c : Dev nD) (t : Fin 4) : ck (yn c) t.val = ck c t.val := by revert c; revert t; decide
theorem hA_xn (c : Dev nD) : hA (xn c) = hA c := by revert c; decide
theorem hA_yn (c : Dev nD) : hA (yn c) = hA c := by revert c; decide

theorem chunks_cover (c : Dev nD) : cA c 0 ∪ (cA c 1 ∪ (cA c 2 ∪ cA c 3)) = Finset.range 8 := by revert c; decide
theorem cA_disjoint (c : Dev nD) (t t' : Fin 4) (h : t ≠ t') : Disjoint (cA c t.val) (cA c t'.val) := by revert c; revert h; revert t t'; decide
theorem halves (c : Dev nD) : hA c ∪ hB c = cA c 3 := by revert c; decide
theorem halves_disjoint (c : Dev nD) : Disjoint (hA c) (hB c) := by revert c; decide
theorem swap_sub (c : Dev nD) : hB (pz c) ⊆ cA c 0 ∪ cA c 2 := by revert c; decide

end Cert.AllReduce
-- ==== Proof.AllReduce.Vals.lean ====
/-
# What the buffers hold

The contents of every buffer at every stage, as functions of the launch memory alone, over any
float values: a device's chunks of the partial sums, the running sums of the ring, the normalised
512 rows of each device, and the whole result put together from those.
-/
module

public import proofs.«01_k».proof.Proof.AllReduce.Geom

@[expose] public section

noncomputable section

namespace Cert.AllReduce

open Cert.KernelIdeal Cert.KernelIdeal.Gen
open Idealize.ShloMosaic Idealize.ShloMosaic.TcCoe Idealize.ShloMosaic.ValueIdx

/-! ## Halves and slots of 512 rows -/

section Pieces
variable {α : Type}

set_option backward.proofsInPublic true in
/-- Rows `256 h …` of 512 rows. -/
def half2 (X : S512x2048.Idx → α) (h : Fin 2) : S256x2048.Idx → α := fun j =>
  X (ix2 ⟨256 * h.val + (j 0).val, by have : (j 0).val < 256 := (j 0).isLt; omega⟩ (j 1))
set_option backward.proofsInPublic true in
/-- The same rows with an axis of extent one in front. -/
def half3 (X : S512x2048.Idx → α) (h : Fin 2) : S1x256x2048.Idx → α := fun j =>
  X (ix2 ⟨256 * h.val + (j 1).val, by have : (j 1).val < 256 := (j 1).isLt; omega⟩ (j 2))
set_option backward.proofsInPublic true in
/-- Two halves put together. -/
def glue2 (f : Fin 2 → S256x2048.Idx → α) : S512x2048.Idx → α := fun i =>
  f ⟨(i 0).val / 256, by have : (i 0).val < 512 := (i 0).isLt; omega⟩ (ix2 ⟨(i 0).val % 256, Nat.mod_lt _ (by decide)⟩ (i 1))
set_option backward.proofsInPublic true in
/-- The same of halves with an axis of extent one in front. -/
def glue3 (f : Fin 2 → S1x256x2048.Idx → α) : S512x2048.Idx → α := fun i =>
  f ⟨(i 0).val / 256, by have : (i 0).val < 512 := (i 0).isLt; omega⟩ (ix3 0 ⟨(i 0).val % 256, Nat.mod_lt _ (by decide)⟩ (i 1))
/-- 512 rows in every slot of a buffer of slots. -/
def slotC {n : ℕ} (X : S512x2048.Idx → α) : (⟨3, ![n, 512, 2048]⟩ : Shape).Idx → α := fun i => X (ix2 (i 1) (i 2))

theorem half2_glue2 (f : Fin 2 → S256x2048.Idx → α) (h : Fin 2) : half2 (glue2 f) h = f h := by
  funext j
  have hj : (j 0).val < 256 := (j 0).isLt
  unfold half2 glue2
  have e1 : (⟨(256 * h.val + (j 0).val) / 256, by omega⟩ : Fin 2) = h := Fin.ext (by show (256 * h.val + (j 0).val) / 256 = h.val; omega)
  have e2 : (⟨(256 * h.val + (j 0).val) % 256, Nat.mod_lt _ (by decide)⟩ : Fin 256) = j 0 :=
    Fin.ext (by show (256 * h.val + (j 0).val) % 256 = (j 0).val; omega)
  show f ⟨(256 * h.val + (j 0).val) / 256, _⟩ (ix2 ⟨(256 * h.val + (j 0).val) % 256, _⟩ (j 1)) = f h j
  rw [e1, e2]; exact congrArg (f h) (eq_ix2 j).symm
theorem half3_glue3 (f : Fin 2 → S1x256x2048.Idx → α) (h : Fin 2) : half3 (glue3 f) h = f h := by
  funext j
  have hj : (j 1).val < 256 := (j 1).isLt
  have h0 : (j 0).val < 1 := (j 0).isLt
  unfold half3 glue3
  have e1 : (⟨(256 * h.val + (j 1).val) / 256, by omega⟩ : Fin 2) = h := Fin.ext (by show (256 * h.val + (j 1).val) / 256 = h.val; omega)
  have e2 : (⟨(256 * h.val + (j 1).val) % 256, Nat.mod_lt _ (by decide)⟩ : Fin 256) = j 1 :=
    Fin.ext (by show (256 * h.val + (j 1).val) % 256 = (j 1).val; omega)
  have e0 : (0 : Fin 1) = j 0 := Fin.ext (by show 0 = (j 0).val; omega)
  show f ⟨(256 * h.val + (j 1).val) / 256, _⟩ (ix3 0 ⟨(256 * h.val + (j 1).val) % 256, _⟩ (j 2)) = f h j
  rw [e1, e2, e0]; exact congrArg (f h) (eq_ix3 j).symm

end Pieces

/-! ## The contents -/

variable {F : FTy → Type} [FloatOps F]
variable (m : (ℓ : Loc nD τ sig) → Buf (Elt F) ℓ)

/-- A device's partial sums, the residual it holds, its scale. -/
def a0 (c : Dev nD) : S1x8192x2048.Idx → Elt F .f32 := m ((c : Thread nD τ).loc main_arg0)
def a1 (c : Dev nD) : S8192x2048.Idx → Elt F .f32 := m ((c : Thread nD τ).loc main_arg1)
def a2 (c : Dev nD) : S1x2048.Idx → Elt F .f32 := m ((c : Thread nD τ).loc main_arg2)

theorem row_lt (c : Dev nD) (t : ℕ) (i : Fin 512) : 2048 * qd c + 512 * ck c t + i.val < 8192 := by
  have : c.val < 16 := c.isLt
  have : ck c t < 4 := Nat.mod_lt _ (by decide)
  have := i.isLt
  unfold qd; omega

set_option backward.proofsInPublic true in
/-- The 512 partial sums of device `c` that lie in chunk `c - t` of its quarter. -/
def PC (t : ℕ) (c : Dev nD) : S512x2048.Idx → Elt F .f32 := fun i => a0 m c (ix3 0 ⟨_, row_lt c t (i 0)⟩ (i 1))
set_option backward.proofsInPublic true in
/-- The residual's 512 rows that device `c` normalises. -/
def RES (c : Dev nD) : S512x2048.Idx → Elt F .f32 := fun i => a1 m c (ix2 ⟨_, row_lt c 0 (i 0)⟩ (i 1))

/-- What device `c` sends into the ring first: its rounded partial sums of the chunk before its own. -/
def S0 (c : Dev nD) : S512x2048.Idx → Elt F .bf16 := glue2 fun h => k0_pay3 (half3 (PC m 1 c) h)
/-- What device `c` holds of the ring after its first, second and third receive, and what it sends on. -/
def R0 (c : Dev nD) : S512x2048.Idx → Elt F .bf16 := S0 m (lt c)
def A0 (c : Dev nD) : S512x2048.Idx → Elt F .bf16 := glue3 fun h => k0_pay4 (half3 (R0 m c) h) (half3 (PC m 2 c) h)
def R1 (c : Dev nD) : S512x2048.Idx → Elt F .bf16 := A0 m (lt c)
def A1 (c : Dev nD) : S512x2048.Idx → Elt F .bf16 := glue3 fun h => k0_pay4 (half3 (R1 m c) h) (half3 (PC m 3 c) h)
def R2 (c : Dev nD) : S512x2048.Idx → Elt F .bf16 := A1 m (lt c)
/-- The receives and the sums sent on, by step. -/
def RCV (s : ℕ) (c : Dev nD) : S512x2048.Idx → Elt F .bf16 := if s = 0 then R0 m c else if s = 1 then R1 m c else R2 m c
def ACC (s : ℕ) (c : Dev nD) : S512x2048.Idx → Elt F .bf16 := if s = 0 then A0 m c else A1 m c
/-- The 512 normalised rows of device `c`. -/
def LN (c : Dev nD) : S512x2048.Idx → Elt F .bf16 :=
  glue2 fun h => k0_pay10 (half3 (R2 m c) h) (half3 (PC m 0 c) h) (half2 (RES m c) h) (a2 m c)

set_option backward.proofsInPublic true in
/-- The whole result: rows `512 d …` are device `d`'s. -/
def OUT : S8192x2048.Idx → Elt F .bf16 := fun i =>
  LN m (⟨(i 0).val / 512, by have : (i 0).val < 8192 := (i 0).isLt; show _ < 16; omega⟩ : Dev nD) (ix2 ⟨(i 0).val % 512, Nat.mod_lt _ (by decide)⟩ (i 1))
set_option backward.proofsInPublic true in
/-- The quarter of the result that device `c`'s line along z makes. -/
def Q (c : Dev nD) : S2048x2048.Idx → Elt F .bf16 := fun i =>
  OUT m (ix2 ⟨2048 * qd c + (i 0).val, by have : c.val < 16 := c.isLt; have : (i 0).val < 2048 := (i 0).isLt; unfold qd; omega⟩ (i 1))
/-- The quarters of the x, the y and the diagonal neighbour. -/
def QX (c : Dev nD) : S2048x2048.Idx → Elt F .bf16 := Q m (xn c)
def QY (c : Dev nD) : S2048x2048.Idx → Elt F .bf16 := Q m (yn c)
def QD (c : Dev nD) : S2048x2048.Idx → Elt F .bf16 := Q m (xn (yn c))

theorem R0_rt (c : Dev nD) : R0 m (rt c) = S0 m c := by unfold R0; rw [lt_rt]
theorem R1_rt (c : Dev nD) : R1 m (rt c) = A0 m c := by unfold R1; rw [lt_rt]
theorem R2_rt (c : Dev nD) : R2 m (rt c) = A1 m c := by unfold R2; rw [lt_rt]
theorem RCV_rt (s : ℕ) (hs : s < 2) (c : Dev nD) : RCV m (s + 1) (rt c) = ACC m s c := by
  unfold RCV ACC
  rcases (by omega : s = 0 ∨ s = 1) with rfl | rfl
  · exact R1_rt m c
  · exact R2_rt m c
theorem qd_rt (c : Dev nD) : qd (rt c) = qd c := by revert c; decide
theorem qd_pz (c : Dev nD) : qd (xn (pz c)) = qd (xn c) := by revert c; decide
theorem qd_pz' (c : Dev nD) : qd (yn (pz c)) = qd (yn c) := by revert c; decide
theorem Q_congr {c c' : Dev nD} (h : qd c = qd c') : Q m c = Q m c' := by
  funext i; unfold Q; congr 2; exact Fin.ext (by show 2048 * qd c + _ = 2048 * qd c' + _; rw [h])
theorem Q_rt (c : Dev nD) : Q m (rt c) = Q m c := Q_congr m (qd_rt c)
theorem QX_xn (c : Dev nD) : QX m (xn c) = Q m c := by unfold QX; rw [xn_xn]
theorem QY_yn (c : Dev nD) : QY m (yn c) = Q m c := by unfold QY; rw [yn_yn]
theorem QD_xn (c : Dev nD) : QD m (xn c) = QY m c := by unfold QD QY; rw [yn_xn, xn_xn]
theorem QD_yn (c : Dev nD) : QD m (yn c) = QX m c := by unfold QD QX; rw [yn_yn]
theorem QX_pz (c : Dev nD) : QX m (pz c) = QX m c := Q_congr m (qd_pz c)
theorem QY_pz (c : Dev nD) : QY m (pz c) = QY m c := Q_congr m (qd_pz' c)

/-- A device's own rows of its quarter. -/
theorem Q_own (c : Dev nD) (h : Fin 2) (j : S256x2048.Idx) (i : S2048x2048.Idx)
    (h0 : (i 0).val = 256 * (2 * ck c 0 + h.val) + (j 0).val) (h1 : (i 1).val = (j 1).val) :
    Q m c i = k0_pay10 (half3 (R2 m c) h) (half3 (PC m 0 c) h) (half2 (RES m c) h) (a2 m c) j := by
  have hj : (j 0).val < 256 := (j 0).isLt
  have hc : c.val < 16 := c.isLt
  have ht : h.val < 2 := h.isLt
  have hk : ck c 0 = c.val % 4 := by unfold ck; omega
  have e : (2048 * qd c + (i 0).val) / 512 = c.val ∧ (2048 * qd c + (i 0).val) % 512 = 256 * h.val + (j 0).val := by
    unfold qd; rw [h0, hk]; omega
  have hh := congrFun (half2_glue2 (fun h => k0_pay10 (half3 (R2 m c) h) (half3 (PC m 0 c) h) (half2 (RES m c) h) (a2 m c)) h) j
  rw [← hh]
  show LN m ⟨(2048 * qd c + (i 0).val) / 512, _⟩ (ix2 ⟨(2048 * qd c + (i 0).val) % 512, _⟩ (i 1)) = _
  have e1 : (⟨(2048 * qd c + (i 0).val) / 512, by rw [e.1]; exact c.isLt⟩ : Dev nD) = c := Fin.ext e.1
  rw [e1]
  unfold half2 LN
  congr 2
  · exact Fin.ext e.2
  · exact Fin.ext h1

end Cert.AllReduce
-- ==== Proof.AllReduce.Sched.lean ====
/-
# The protocol

Every device enters by signalling its four neighbours' barrier cells, handing each neighbour the
places in its own buffers that this neighbour's transfers write. From then on each transfer is paid
for on two cells: the sender's, which gives the sender back the share of the source it lent, and the
receiver's, which gives the receiver the place at its new contents. Local copies and the copies into
the result are paid for on cells of their own.
-/
module

public import proofs.«01_k».proof.Proof.AllReduce.Vals

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the library's copy for the staged operand, and the protocol's -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells, transfers, targets -/

abbrev barS : Sem sig := (SemArray.scalar (sig.barrier 0 rfl) : Sems sig S_).sem
abbrev bar (c : Dev nD) : GSem nD τ sig := ((c : Thread nD τ), .reg barS)
set_option backward.proofsInPublic true in
/-- The `k`-th transfer semaphore. -/
def dsem (k : ℕ) : DmaSem sig := (⟨k % 66, Nat.mod_lt _ (by decide)⟩ : Fin 66)
abbrev dcell (c : Dev nD) (k : ℕ) : GSem nD τ sig := ((c : Thread nD τ), .dma (dsem k))

/-- Where transfer `j` goes. -/
def tgt (j : ℕ) (c : Dev nD) : Dev nD :=
  if j < 9 then rt c else if j < 13 then xn c else if j < 17 then yn c else if j < 19 then xn c else if j < 21 then yn c else pz c
/-- In which direction that is. -/
def dirOf (j : ℕ) (c : Dev nD) : Fin 4 :=
  if j < 9 then 0 else if j < 13 then 2 else if j < 17 then 3 else if j < 19 then 2 else if j < 21 then 3 else if c.val % 2 = 0 then 0 else 1
theorem tgt_eq_nb (j : Fin 23) (c : Dev nD) : tgt j.val c = nb (dirOf j.val c) c := by revert c; revert j; decide +kernel
/-- Which neighbour sends transfer `j` to `c`, as a direction. -/
def srcOf (j : ℕ) (c : Dev nD) : Fin 4 :=
  if j < 9 then 0 else if j < 13 then 2 else if j < 17 then 3 else if j < 19 then 2 else if j < 21 then 3 else if c.val % 2 = 0 then 1 else 0
theorem dirOf_iff (d : Fin 4) (j : Fin 23) (c : Dev nD) : dirOf j.val (nbi d c) = d ↔ srcOf j.val c = d := by
  revert c; revert j; revert d; decide +kernel

/-- The order of the transfers in the program. -/
def ord : List ℕ := [0, 1, 2, 3, 4, 5, 6, 9, 13, 7, 10, 14, 8, 11, 15, 12, 16, 17, 18, 21, 19, 22, 20]
/-- The order of the waits on cells with one round. -/
def wts : List ℕ := [1, 24, 2, 25, 3, 26, 4, 27, 5, 28, 6, 29, 7, 30, 8, 31, 9, 32, 14, 37, 10, 33, 15, 38, 11, 34, 12, 35, 16, 39,
  13, 36, 22, 45, 17, 40, 23, 46, 18, 41, 19, 42, 20, 43, 21, 44, 50, 51, 52, 53, 54, 55, 56, 57, 58, 59, 60, 61, 62, 63, 64, 65]

/-- What a transfer credits, by its size. -/
def N8 : ℕ := RefSig.tileCredit S256x2048 .bf16
def N16 : ℕ := RefSig.tileCredit S512x2048 .bf16
def NF : ℕ := RefSig.tileCredit S512x2048 .f32
def amtJ (j : ℕ) : ℕ := if j < 6 ∨ j = 12 ∨ j = 16 ∨ 21 ≤ j then N8 else N16
def amt (k : ℕ) : ℕ := if k < 24 then amtJ (k - 1) else if k < 47 then amtJ (k - 24) else if k < 50 then NF else N16
theorem N8_pos : 0 < N8 := RefSig.tileCredit_pos S256x2048 .bf16 (by decide)
theorem N16_pos : 0 < N16 := RefSig.tileCredit_pos S512x2048 .bf16 (by decide)
theorem NF_pos : 0 < NF := RefSig.tileCredit_pos S512x2048 .f32 (by decide)
theorem amtJ_pos (j : ℕ) : 0 < amtJ j := by unfold amtJ; split; exacts [N8_pos, N16_pos]
theorem amt_pos (k : ℕ) : 0 < amt k := by
  unfold amt; split; · exact amtJ_pos _
  split; · exact amtJ_pos _
  split; exacts [NF_pos, N16_pos]

/-! ## The pieces of buffers that move -/

abbrev p1 (c : Dev nD) (A : Finset ℕ) (q : PosShare TreeShare) (f : S512x2048.Idx → Elt F .bf16) : sProp 𝕄 :=
  (((c : Thread nD τ).loc cc0_scratch1) ↦[(bk2 A : Finset S512x2048.Idx)]{q} f)
abbrev p2 (c : Dev nD) (A : Finset ℕ) (q : PosShare TreeShare) (f : S3x512x2048.Idx → Elt F .bf16) : sProp 𝕄 :=
  (((c : Thread nD τ).loc cc0_scratch2) ↦[(bk3 A : Finset S3x512x2048.Idx)]{q} f)
abbrev p3 (c : Dev nD) (A : Finset ℕ) (q : PosShare TreeShare) (f : S2048x2048.Idx → Elt F .bf16) : sProp 𝕄 :=
  (((c : Thread nD τ).loc cc0_scratch3) ↦[(bk2 A : Finset S2048x2048.Idx)]{q} f)
abbrev p4 (c : Dev nD) (A : Finset ℕ) (q : PosShare TreeShare) (f : S2048x2048.Idx → Elt F .bf16) : sProp 𝕄 :=
  (((c : Thread nD τ).loc cc0_scratch4) ↦[(bk2 A : Finset S2048x2048.Idx)]{q} f)
abbrev p5 (c : Dev nD) (A : Finset ℕ) (q : PosShare TreeShare) (f : S2048x2048.Idx → Elt F .bf16) : sProp 𝕄 :=
  (((c : Thread nD τ).loc cc0_scratch5) ↦[(bk2 A : Finset S2048x2048.Idx)]{q} f)
abbrev p6 (c : Dev nD) (A : Finset ℕ) (q : PosShare TreeShare) (f : S2048x2048.Idx → Elt F .bf16) : sProp 𝕄 :=
  (((c : Thread nD τ).loc cc0_scratch6) ↦[(bk2 A : Finset S2048x2048.Idx)]{q} f)
abbrev pO (c : Dev nD) (A : Finset ℕ) (q : PosShare TreeShare) (f : S8192x2048.Idx → Elt F .bf16) : sProp 𝕄 :=
  (((c : Thread nD τ).loc main_v1) ↦[(bk2 A : Finset S8192x2048.Idx)]{q} f)
abbrev p0 (c : Dev nD) (A : Finset ℕ) (q : PosShare TreeShare) (f : S2x512x2048.Idx → Elt F .f32) : sProp 𝕄 :=
  (((c : Thread nD τ).loc cc0_scratch0) ↦[(bk3 A : Finset S2x512x2048.Idx)]{q} f)
abbrev p7 (c : Dev nD) (f : S512x2048.Idx → Elt F .f32) : sProp 𝕄 :=
  (((c : Thread nD τ).loc cc0_scratch7) ↦{fullShare} f)

/-- The shares of a buffer lent at the same time: to the ring, along x, along y, to the result. -/
abbrev sL : PosShare TreeShare := fullShare.left
abbrev sR : PosShare TreeShare := fullShare.right
abbrev sRL : PosShare TreeShare := fullShare.right.left
abbrev sRR : PosShare TreeShare := fullShare.right.right
abbrev sRRL : PosShare TreeShare := fullShare.right.right.left
abbrev sRRR : PosShare TreeShare := fullShare.right.right.right

/-- The place on device `n` that transfer `j` writes. -/
def destAt (j : ℕ) (n : Dev nD) : sProp 𝕄 :=
  if j < 6 then iprop(∃ f, p2 n (Finset.Ico j (j + 1)) fullShare f)
  else if j < 9 then iprop(∃ f, p3 n (cA n (j - 5)) fullShare f)
  else if j < 12 then iprop(∃ f, p4 n (cA n (j - 9)) fullShare f)
  else if j = 12 then iprop(∃ f, p4 n (hA n) fullShare f)
  else if j < 16 then iprop(∃ f, p5 n (cA n (j - 13)) fullShare f)
  else if j = 16 then iprop(∃ f, p5 n (hA n) fullShare f)
  else if j < 21 then iprop(∃ f, p6 n (cA n (j - 17)) fullShare f)
  else if j = 21 then iprop(∃ f, p4 n (hB n) fullShare f)
  else iprop(∃ f, p5 n (hB n) fullShare f)

variable (m : (ℓ : Loc nD τ sig) → Buf (Elt F) ℓ)

/-- The same place once the transfer has arrived. -/
def recvPay (j : ℕ) (n : Dev nD) : sProp 𝕄 :=
  if j < 6 then p2 n (Finset.Ico j (j + 1)) fullShare (slotC (RCV m (j / 2) n))
  else if j < 9 then p3 n (cA n (j - 5)) fullShare (Q m n)
  else if j < 12 then p4 n (cA n (j - 9)) fullShare (QX m n)
  else if j = 12 then p4 n (hA n) fullShare (QX m n)
  else if j < 16 then p5 n (cA n (j - 13)) fullShare (QY m n)
  else if j = 16 then p5 n (hA n) fullShare (QY m n)
  else if j < 21 then p6 n (cA n (j - 17)) fullShare (QD m n)
  else if j = 21 then p4 n (hB n) fullShare (QX m n)
  else p5 n (hB n) fullShare (QY m n)

/-- What transfer `j` reads on device `c`: the share it borrows. -/
def sendPay (j : ℕ) (c : Dev nD) : sProp 𝕄 :=
  if j < 2 then p1 c (Finset.Ico j (j + 1)) fullShare (S0 m c)
  else if j < 6 then p2 c (Finset.Ico (j - 2) (j - 1)) fullShare (slotC (ACC m (j / 2 - 1) c))
  else if j < 9 then p3 c (cA c (j - 6)) sL (Q m c)
  else if j < 12 then p3 c (cA c (j - 9)) sRL (Q m c)
  else if j = 12 then p3 c (hA c) sRL (Q m c)
  else if j < 16 then p3 c (cA c (j - 13)) sRRL (Q m c)
  else if j = 16 then p3 c (hA c) sRRL (Q m c)
  else if j < 19 then p5 c (cA c (j - 17)) sRL (QY m c)
  else if j < 21 then p4 c (cA c (j - 17)) sRL (QX m c)
  else if j = 21 then p4 c (hB (pz c)) sRR (QX m c)
  else p5 c (hB (pz c)) sRR (QY m c)

/-- What local copy `k`, round `r`, leaves. -/
def locPay (k r : ℕ) (c : Dev nD) : sProp 𝕄 :=
  if k = 0 then p0 c (Finset.Ico 0 2) fullShare (slotC (PC m (if r = 0 then 1 else 3) c))
  else if k = 1 then p0 c (Finset.Ico 2 4) fullShare (slotC (PC m (if r = 0 then 2 else 0) c))
  else p7 c (RES m c)

/-- The blocks of the result that store `s` writes, and the buffer it reads. -/
def oset (c : Dev nD) (s : ℕ) : Finset ℕ :=
  if s < 4 then oA (qd c) (ck c s)
  else if s < 12 then (if s % 2 = 0 then oA (qd (xn c)) (ck c ((s - 4) / 2)) else oA (qd (yn c)) (ck c ((s - 4) / 2)))
  else oA (qd (xn (yn c))) (ck c (s - 12))
def storeSrc (s : ℕ) (c : Dev nD) : sProp 𝕄 :=
  if s < 4 then p3 c (cA c s) sRRR (Q m c)
  else if s < 12 then (if s % 2 = 0 then p4 c (cA c ((s - 4) / 2)) sL (QX m c) else p5 c (cA c ((s - 4) / 2)) sL (QY m c))
  else p6 c (cA c (s - 12)) fullShare (QD m c)
def storePay (s : ℕ) (c : Dev nD) : sProp 𝕄 := iprop(pO c (oset c s) fullShare (OUT m) ∗ storeSrc m s c)

/-- What the `d`-th signal of `x`'s barrier cell hands `x`: the places of `nb d x` that `x`'s transfers there write. -/
def barPay (x : Dev nD) (d : Fin 4) : sProp 𝕄 :=
  bigSep (Finset.univ.filter fun j : Fin 23 => dirOf j.val x = d) fun j => destAt (F := F) j.val (nb d x)

def dmaPay (c : Dev nD) (k r : ℕ) : sProp 𝕄 :=
  if k < 24 then sendPay m (k - 1) c else if k < 47 then recvPay m (k - 24) c
  else if k < 50 then locPay m (k - 47) r c else storePay m (k - 50) c

section Storable
instance destAt_storable (j : ℕ) (n : Dev nD) : BI.Storable (upEmb : UEmb _ 𝕄) (destAt (F := F) j n) := by
  unfold destAt; (repeat' split) <;> infer_instance
instance recvPay_storable (j : ℕ) (n : Dev nD) : BI.Storable (upEmb : UEmb _ 𝕄) (recvPay m j n) := by
  unfold recvPay; (repeat' split) <;> infer_instance
instance sendPay_storable (j : ℕ) (n : Dev nD) : BI.Storable (upEmb : UEmb _ 𝕄) (sendPay m j n) := by
  unfold sendPay; (repeat' split) <;> infer_instance
instance locPay_storable (k r : ℕ) (n : Dev nD) : BI.Storable (upEmb : UEmb _ 𝕄) (locPay m k r n) := by
  unfold locPay; split; · infer_instance
  split <;> infer_instance
instance storeSrc_storable (s : ℕ) (n : Dev nD) : BI.Storable (upEmb : UEmb _ 𝕄) (storeSrc m s n) := by
  unfold storeSrc; (repeat' split) <;> infer_instance
instance storePay_storable (s : ℕ) (n : Dev nD) : BI.Storable (upEmb : UEmb _ 𝕄) (storePay m s n) := by
  unfold storePay; infer_instance
instance barPay_storable (x : Dev nD) (d : Fin 4) : BI.Storable (upEmb : UEmb _ 𝕄) (barPay (F := F) x d) := by
  unfold barPay; infer_instance
instance dmaPay_storable (c : Dev nD) (k r : ℕ) : BI.Storable (upEmb : UEmb _ 𝕄) (dmaPay m c k r) := by
  unfold dmaPay; (repeat' split) <;> infer_instance
end Storable

/-! ## The schedule -/

/-- Round 0 of a barrier cell has four duties of one unit; a transfer's cell has one duty in round 0, and the two cells of
    the double-buffered local copies one in round 1 as well. -/
def Rd : Rounds.Schedule (GSem nD τ sig) (Fin 4) 𝕄 where
  duties g r := if g.1.2 = .tc then (match g.2 with
      | .reg s => if r = 0 then Finset.univ else ∅
      | .dma k => if r = 0 ∨ (r = 1 ∧ (k.val = 47 ∨ k.val = 48)) then {0} else ∅) else ∅
  unitless _ := False
  amount g _ _ := match g.2 with | .reg _ => 1 | .dma k => amt k.val
  payload g r d := match g.2 with | .reg _ => barPay g.1.1 d | .dma k => dmaPay m g.1.1 k.val r
  amount_pos g r d _ := by
    rcases g with ⟨t, s | k⟩
    · exact Nat.one_pos
    · exact amt_pos _

instance Rd_payload_storable (g : GSem nD τ sig) (r : ℕ) (d : Fin 4) : BI.Storable (upEmb : UEmb _ 𝕄) ((Rd (F := F) m).payload g r d) := by
  rcases g with ⟨t, s | k⟩
  · exact barPay_storable t.1 d
  · exact dmaPay_storable m t.1 k.val r

section Sched
variable (c : Dev nD)

theorem dsem_val (k : ℕ) (hk : k < 66) : (dsem k).val = k := Nat.mod_eq_of_lt hk

theorem duties_bar : (Rd (F := F) m).duties (bar c) 0 = Finset.univ := rfl
theorem duties_dma (k : ℕ) : (Rd (F := F) m).duties (dcell c k) 0 = {0} := rfl
theorem duties_loc (k : ℕ) (hk : k = 47 ∨ k = 48) : (Rd (F := F) m).duties (dcell c k) 1 = {0} := by rcases hk with rfl | rfl <;> rfl
theorem duties_one (k : ℕ) (hk : k < 66) (h : k ≠ 47 ∧ k ≠ 48) (r : ℕ) (hr : 1 ≤ r) : (Rd (F := F) m).duties (dcell c k) r = ∅ := by
  show (if r = 0 ∨ (r = 1 ∧ ((dsem k).val = 47 ∨ (dsem k).val = 48)) then ({0} : Finset (Fin 4)) else ∅) = ∅
  rw [dsem_val k hk]; exact if_neg (by omega)
theorem duties_two (g : GSem nD τ sig) (r : ℕ) (hr : 2 ≤ r) : (Rd (F := F) m).duties g r = ∅ := by
  rcases g with ⟨t, s | k⟩
  · show (if t.2 = .tc then (if r = 0 then Finset.univ else ∅) else (∅ : Finset (Fin 4))) = ∅
    split; · exact if_neg (by omega)
    rfl
  · show (if t.2 = .tc then (if r = 0 ∨ (r = 1 ∧ (k.val = 47 ∨ k.val = 48)) then ({0} : Finset (Fin 4)) else ∅) else ∅) = ∅
    split; · exact if_neg (by omega)
    rfl
theorem duties_bar_later (r : ℕ) (hr : 1 ≤ r) : (Rd (F := F) m).duties (bar c) r = ∅ := by
  show (if r = 0 then (Finset.univ : Finset (Fin 4)) else ∅) = ∅
  exact if_neg (by omega)

theorem amount_bar (d : Fin 4) : (Rd (F := F) m).amount (bar c) 0 d = 1 := rfl
theorem amount_dma (k : ℕ) (hk : k < 66) (r : ℕ) (d : Fin 4) : (Rd (F := F) m).amount (dcell c k) r d = amt k := by
  show amt (dsem k).val = amt k
  rw [dsem_val k hk]
theorem payload_bar (d : Fin 4) : (Rd (F := F) m).payload (bar c) 0 d = barPay c d := rfl
theorem payload_dma (k : ℕ) (hk : k < 66) (r : ℕ) (d : Fin 4) : (Rd (F := F) m).payload (dcell c k) r d = dmaPay m c k r := by
  show dmaPay m c (dsem k).val r = dmaPay m c k r
  rw [dsem_val k hk]

theorem expect_bar : (Rd (F := F) m).expect (bar c) 0 = 4 := by
  unfold Schedule.expect Schedule.amountOf
  rw [duties_bar, Finset.sum_congr rfl fun d _ => amount_bar m c d]; rfl
theorem expect_dma (k : ℕ) (hk : k < 66) (r : ℕ) (h : (Rd (F := F) m).duties (dcell c k) r = {0}) : (Rd (F := F) m).expect (dcell c k) r = amt k := by
  unfold Schedule.expect Schedule.amountOf
  rw [h, Finset.sum_singleton, amount_dma m c k hk]
theorem rest_dma (k : ℕ) (hk : k < 66) (r : ℕ) (h : (Rd (F := F) m).duties (dcell c k) r = {0}) :
    bigSep ((Rd (F := F) m).duties (dcell c k) r \ ∅) (fun d => (Rd (F := F) m).payload (dcell c k) r d) = dmaPay m c k r := by
  rw [Finset.sdiff_empty, h, bigSep_singleton, payload_dma m c k hk]

theorem send_pay (j : ℕ) (hj : j < 23) (r : ℕ) (d : Fin 4) : (Rd (F := F) m).payload (dcell c (1 + j)) r d = sendPay m j c := by
  rw [payload_dma m c _ (by omega)]; unfold dmaPay; rw [if_pos (by omega)]; congr 1; omega
theorem recv_pay (j : ℕ) (hj : j < 23) (r : ℕ) (d : Fin 4) : (Rd (F := F) m).payload (dcell c (24 + j)) r d = recvPay m j c := by
  rw [payload_dma m c _ (by omega)]; unfold dmaPay; rw [if_neg (by omega), if_pos (by omega)]; congr 1; omega
theorem amt_send (j : ℕ) (hj : j < 23) : amt (1 + j) = amtJ j := by unfold amt; rw [if_pos (by omega)]; congr 1; omega
theorem amt_recv (j : ℕ) (hj : j < 23) : amt (24 + j) = amtJ j := by unfold amt; rw [if_neg (by omega), if_pos (by omega)]; congr 1; omega

end Sched

/-! ## What a device owes, and the levels -/

/-- What is still owed when the transfers `l` are still to be made. -/
def owedL (c : Dev nD) : List ℕ → CellTallies nD τ sig Unit
  | [] => 0
  | j :: l => owedL c l + tallyAt (dcell (tgt j c) (24 + j)) () (amtJ j)
/-- At the launch: all of that and a unit to each neighbour's barrier. -/
def O₀ (c : Dev nD) : CellTallies nD τ sig Unit :=
  owedL c ord + tallyAt (bar (nbi 3 c)) () 1 + tallyAt (bar (nbi 2 c)) () 1 + tallyAt (bar (nbi 1 c)) () 1 + tallyAt (bar (nbi 0 c)) () 1

/-- The level of a cell: a receive cell's is later the later its transfer is made. -/
def lvN (k : ℕ) : ℕ := if 24 ≤ k ∧ k < 47 then ord.idxOf (k - 24) + 2 else 0
def L (g : GSem nD τ sig) : Finset Unit := if g.1.2 = .tc then {()} else ∅
def lv (g : GSem nD τ sig) (_ : Unit) : ℕ := match g.2 with | .reg _ => 1 | .dma k => lvN k.val

theorem L_of_ne (g : GSem nD τ sig) (h : g.1.2 ≠ .tc) : L g = ∅ := if_neg h
theorem L_tc (c : Dev nD) (sm : SemLoc sig) : L ((c : Thread nD τ), sm) = {()} := if_pos rfl
theorem lv_dcell (c : Dev nD) (k : ℕ) (hk : k < 66) (u : Unit) : lv (dcell c k) u = lvN k := by
  show lvN (dsem k).val = lvN k
  rw [dsem_val k hk]

theorem owedL_pos (c : Dev nD) (l : List ℕ) {g : GSem nD τ sig} {u : Unit} (h : 0 < owedL c l g u) : ∃ j ∈ l, g = dcell (tgt j c) (24 + j) := by
  induction l with
  | nil => exact absurd h (Nat.lt_irrefl 0)
  | cons j l ih =>
    unfold owedL at h
    rw [Pi.add_apply, Finsupp.add_apply, tallyAt_apply] at h
    by_cases hg : g = dcell (tgt j c) (24 + j)
    · exact ⟨j, List.mem_cons_self, hg⟩
    · rw [if_neg fun h' => hg h'.1, Nat.add_zero] at h
      obtain ⟨j', hj', e⟩ := ih h
      exact ⟨j', List.mem_cons_of_mem _ hj', e⟩
theorem ord_drop (n : Fin 24) : ∀ j ∈ ord.drop n.val, j < 23 ∧ n.val + 1 < lvN (24 + j) := by revert n; decide +kernel

theorem O₀_pos {c : Dev nD} {g : GSem nD τ sig} {u : Unit} (h : 0 < O₀ c g u) :
    (∃ j ∈ ord, g = dcell (tgt j c) (24 + j)) ∨ ∃ d, g = bar (nbi d c) := by
  unfold O₀ at h
  simp only [Pi.add_apply, Finsupp.add_apply, tallyAt_apply] at h
  by_cases h0 : ∃ d, g = bar (nbi d c)
  · exact Or.inr h0
  · have hn (d : Fin 4) : ¬(g = bar (nbi d c) ∧ True) := fun h' => h0 ⟨d, h'.1⟩
    rw [if_neg (hn 0), if_neg (hn 1), if_neg (hn 2), if_neg (hn 3)] at h
    simp only [Nat.add_zero] at h
    exact Or.inl (owedL_pos c ord h)

/-- A device may wait on a cell whose level is at most that of the transfers it has made. -/
theorem mayWait (c : Dev nD) (sm : SemLoc sig) (n : ℕ) (hn : n < 24) (h : lv ((c : Thread nD τ), sm) () ≤ n + 1) :
    (levAts L lv : sProp 𝕄) ⊢ MayWait (c : Thread nD τ) sm () (owedL c (ord.drop n)) :=
  MayOwe.of_cut (L := L) (lev := lv) (n + 1) (fun p hp => by rw [Finset.mem_singleton.mp hp, L_tc]; exact Finset.mem_singleton_self _)
    (fun g u hg => by obtain ⟨j, _, rfl⟩ := owedL_pos c _ hg; exact Finset.mem_singleton_self _)
    (fun p hp => by rw [Finset.mem_singleton.mp hp]; exact h)
    (fun g u hg => by
      obtain ⟨j, hj, rfl⟩ := owedL_pos c _ hg
      have := ord_drop ⟨n, hn⟩ j hj
      rw [lv_dcell _ _ (by omega)]; exact this.2)

/-- The staged operand's wait, at the launch and once nothing is owed. -/
theorem mayWait_stage (c : Dev nD) (q : DmaSem sig) (hq : lvN q.val = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, _, rfl⟩ | ⟨d, rfl⟩ <;> exact Finset.mem_singleton_self _)
      (fun p hp => by rw [Finset.mem_singleton.mp hp]; exact hq.le)
      (fun g u hg => by
        rcases O₀_pos hg with ⟨j, hj, rfl⟩ | ⟨d, rfl⟩
        · have := ord_drop ⟨0, by decide⟩ j hj
          rw [lv_dcell _ _ (by omega)]; omega
        · exact Nat.one_pos)
  · rw [MayWait_zero]; iintro -; iempintro

end Cert.AllReduce
-- ==== Proof.AllReduce.Steps.lean ====
/-
# One step of the program at a time

The state of a device between two steps, by how many transfers, waits and stores it has made, and the
rule for each kind of step: a transfer, a wait, a local copy, a store.
-/
module

public import proofs.«01_k».proof.Proof.AllReduce.Sched

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Families over a list -/

def sepL (Φ : ℕ → sProp 𝕄) : List ℕ → sProp 𝕄
  | [] => iprop(emp)
  | a :: l => iprop(Φ a ∗ sepL Φ l)

theorem sepL_cons (Φ : ℕ → sProp 𝕄) (a : ℕ) (l : List ℕ) : sepL Φ (a :: l) = iprop(Φ a ∗ sepL Φ l) := rfl
theorem sepL_nil (Φ : ℕ → sProp 𝕄) : sepL Φ [] = iprop(emp) := rfl
/-- A family over a list without repetition is the one over the set. -/
theorem sepL_eq (Φ : ℕ → sProp 𝕄) (l : List ℕ) (h : l.Nodup) : sepL Φ l = bigSep l.toFinset Φ := by
  induction l with
  | nil => rw [List.toFinset_nil, bigSep_empty]; rfl
  | cons a l ih =>
    rw [List.nodup_cons] at h
    rw [List.toFinset_cons, bigSep_insert (by rw [List.mem_toFinset]; exact h.1), sepL_cons, ih h.2]; rfl
/-- Over the numbers below `n`, it is the family over `Fin n`. -/
theorem sepL_fin (Φ : ℕ → sProp 𝕄) {n : ℕ} (l : List ℕ) (h : l.Nodup) (hl : l.toFinset = Finset.range n) :
    sepL Φ l = bigSep (Finset.univ : Finset (Fin n)) fun j => Φ j.val := by
  rw [sepL_eq Φ l h, hl]
  refine Eq.trans ?_ (bigSep_map (s := (Finset.univ : Finset (Fin n))) Fin.valEmbedding (Φ := Φ))
  congr 1; ext i; simp [Fin.exists_iff]

/-! ## The state -/

variable (m : (ℓ : Loc nD τ sig) → Buf (Elt F) ℓ)

abbrev csem : Fin 66 → SemLoc sig := fun k => if k = 0 then .reg barS else .dma k
abbrev kcell (ck : Dev nD × Fin 66) : GSem nD τ sig := ((ck.1 : Thread nD τ), csem ck.2)

/-- Every cell's invariant, and that its round 0 is reached. -/
def recs (K : Dev nD × Fin 66 → ℕ) : sProp 𝕄 :=
  iprop((bigSep Finset.univ fun ck : Dev nD × Fin 66 => cellInv ER (Rd m) (K ck) (kcell ck))
    ∗ bigSep Finset.univ fun ck : Dev nD × Fin 66 => reached ER (kcell ck) 0)
instance recs_persistent (K : Dev nD × Fin 66 → ℕ) : BI.Persistent (recs m K) := by unfold recs; infer_instance

theorem kcell_dma (c : Dev nD) (k : ℕ) (h0 : 0 < k) (hk : k < 66) : kcell (c, ⟨k, hk⟩) = dcell c k := by
  unfold kcell csem dcell dsem
  rw [if_neg (fun h => by have := congrArg Fin.val h; simp at this; omega)]
  congr 2; exact Fin.ext (Nat.mod_eq_of_lt hk).symm
theorem kcell_bar (c : Dev nD) : kcell (c, 0) = bar c := rfl

theorem recs_inv (K : Dev nD × Fin 66 → ℕ) (c : Dev nD) (k : ℕ) (h0 : 0 < k) (hk : k < 66) :
    recs m K ⊢ cellInv ER (Rd m) (K (c, ⟨k, hk⟩)) (dcell c k) := by
  rw [← kcell_dma c k h0 hk]
  unfold recs
  iintro ⟨H, -⟩
  have h : bigSep Finset.univ (fun ck : Dev nD × Fin 66 => cellInv ER (Rd m) (K ck) (kcell ck)) ⊢ _ := bigSep_elim (Finset.mem_univ (c, (⟨k, hk⟩ : Fin 66)))
  iapply h; iexact H
theorem recs_reached (K : Dev nD × Fin 66 → ℕ) (c : Dev nD) (k : ℕ) (h0 : 0 < k) (hk : k < 66) :
    recs m K ⊢ reached ER (dcell c k) 0 := by
  rw [← kcell_dma c k h0 hk]
  unfold recs
  iintro ⟨-, H⟩
  have h : bigSep Finset.univ (fun ck : Dev nD × Fin 66 => (reached ER (kcell ck) 0 : sProp 𝕄)) ⊢ _ := bigSep_elim (Finset.mem_univ (c, (⟨k, hk⟩ : Fin 66)))
  iapply h; iexact H
theorem recs_bar (K : Dev nD × Fin 66 → ℕ) (c : Dev nD) : recs m K ⊢ cellInv ER (Rd m) (K (c, 0)) (bar c) := by
  rw [← kcell_bar c]
  unfold recs
  iintro ⟨H, -⟩
  have h : bigSep Finset.univ (fun ck : Dev nD × Fin 66 => cellInv ER (Rd m) (K ck) (kcell ck)) ⊢ _ := bigSep_elim (Finset.mem_univ (c, (0 : Fin 66)))
  iapply h; iexact H
theorem recs_bar_reached (K : Dev nD × Fin 66 → ℕ) (c : Dev nD) : recs m K ⊢ reached ER (bar c) 0 := by
  rw [← kcell_bar c]
  unfold recs
  iintro ⟨-, H⟩
  have h : bigSep Finset.univ (fun ck : Dev nD × Fin 66 => (reached ER (kcell ck) 0 : sProp 𝕄)) ⊢ _ := bigSep_elim (Finset.mem_univ (c, (0 : Fin 66)))
  iapply h; iexact H

/-- What a transfer still to be made needs: the place it writes, and the two duties it pays. -/
def sendItem (c : Dev nD) (j : ℕ) : sProp 𝕄 :=
  iprop(destAt j (tgt j c) ∗ dutyTok ER (dcell (tgt j c) (24 + j)) 0 (0 : Fin 4) ∗ dutyTok ER (dcell c (1 + j)) 0 (0 : Fin 4))
/-- What a wait still to be made needs: the cell's position, and for a receive the credit. -/
def waitItem (c : Dev nD) (k : ℕ) : sProp 𝕄 :=
  iprop(atPos ER (dcell c k) 0 (∅ : Finset (Fin 4)) 0 ∗ if 24 ≤ k ∧ k < 47 then cred (tallyAt (dcell c k) () (amt k)) else iprop(emp))
/-- A cell that is done with. -/
def zeroItem (c : Dev nD) (k : ℕ) : sProp 𝕄 := semVal (dcell c k) 0
/-- What a store still to be made needs. -/
def storeItem (c : Dev nD) (s : ℕ) : sProp 𝕄 :=
  iprop((∃ f, pO c (oset c s) fullShare f) ∗ dutyTok ER (dcell c (50 + s)) 0 (0 : Fin 4))

/-- The state of device `c` after `n` transfers, `w` waits and `s` stores. -/
def St (K : Dev nD × Fin 66 → ℕ) (c : Dev nD) (n w s : ℕ) : sProp 𝕄 :=
  iprop(recs m K ∗ levAts L lv ∗ (∃ W, owes (c : Thread nD τ) (owedL c (ord.drop n)) W)
    ∗ sepL (sendItem c) (ord.drop n) ∗ sepL (waitItem c) (wts.drop w) ∗ sepL (zeroItem c) (wts.take w).reverse
    ∗ sepL (storeItem c) ((List.range 16).drop s))

theorem St_recs (K : Dev nD × Fin 66 → ℕ) (c : Dev nD) (n w s : ℕ) : St m K c n w s ⊢ recs m K := by
  unfold St; iintro ⟨#H, -⟩; iexact H

/-! ## Transfers -/

/-- Transfer `j` of device `c` from `src` to `dst`: what it reads is what it borrows, what it writes is the place that
    was handed over, and what arrives is what the receiver expects. -/
structure Xfer {sp sp' : Space} {S : Shape} {e : EltTy} (j : ℕ) (c : Dev nD) (src : Memref sig .tc sp S e) (dst : Memref sig .tc sp' S e)
    (q : PosShare TreeShare) (fs : Buf (Elt F) (src.view.loc (c : Thread nD τ))) : Prop where
  lt : j < 23
  send : sendPay m j c = (src.view.loc (c : Thread nD τ) ↦[src.view.set]{q} fs : sProp 𝕄)
  dest : destAt (F := F) j (tgt j c) = iprop(∃ fd, dst.view.loc (tgt j c : Thread nD τ) ↦[dst.view.set]{fullShare} fd)
  land : ∀ fd : Buf (Elt F) (dst.view.loc (tgt j c : Thread nD τ)),
    (dst.view.loc (tgt j c : Thread nD τ) ↦[dst.view.set]{fullShare} (dst.view.write (Elt F) fd (src.view.read (Elt F) fs) Finset.univ) : sProp 𝕄)
      = recvPay m j (tgt j c)

section StepRules
variable {m}
variable (K : Dev nD × Fin 66 → ℕ) (c : Dev nD)

/-- The state with its next transfer peeled off. -/
theorem St_send {n w s j : ℕ} (hj : ord.drop n = j :: ord.drop (n + 1)) :
    St m K c n w s = iprop(recs m K ∗ levAts L lv
      ∗ (∃ W, owes (c : Thread nD τ) (owedL c (ord.drop (n + 1)) + tallyAt (dcell (tgt j c) (24 + j)) () (amtJ j)) W)
      ∗ (sendItem c j ∗ sepL (sendItem c) (ord.drop (n + 1))) ∗ sepL (waitItem c) (wts.drop w) ∗ sepL (zeroItem c) (wts.take w).reverse
      ∗ sepL (storeItem c) ((List.range 16).drop s)) := by
  unfold St; rw [hj, sepL_cons]; rfl

theorem send_step {α : Type} {Q : α → sProp 𝕄} {k : PUnit → Prog (TpuEff nD τ sig (Elt F) Λ₀ .tc) α}
    {sp sp' : Space} {S : Shape} {e : EltTy} {j : ℕ} {src : Memref sig .tc sp S e} {n' : Dev nD} {dst : Memref sig (Dev.tc n' : Thread nD τ).2.kind sp' S e}
    {q : PosShare TreeShare} {fs : Buf (Elt F) (src.view.loc (c : Thread nD τ))} (X : Xfer m j c src dst q fs) (hn : n' = tgt j c)
    {sS sR : DmaSem sig} (hS : sS = dsem (1 + j)) (hR : sR = dsem (24 + j)) (hN : dst.view.dmaCredit = amtJ j)
    {hsc : dst.view.ref.isScScratch = false} {hsrc : src.view.WordExact} {hdst : dst.view.WordExact}
    {hsem : DmaTarget.Typed sp (.dma sR) (.remote (Dev.tc n' : Thread nD τ) dst (.dma sS) hsc)}
    (n w s : ℕ) (hj : ord.drop n = j :: ord.drop (n + 1)) :
    iprop(St m K c n w s ∗ sendPay m j c)
      ⊢ iprop(((St m K c (n + 1) w s ∗ cred (tallyAt (dcell c (1 + j)) () (amtJ j)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n' : Thread nD τ) dst (.dma sS) hsc) (.dma sR) hsrc hdst hsem) k) Q) := by
  subst hn hS hR
  have hlt := X.lt
  have b1 : 1 + j < 66 := by omega
  have b2 : 24 + j < 66 := by omega
  rw [St_send K c hj, X.send]
  unfold sendItem
  rw [X.dest]
  iintro ⟨⟨#Hr, Hlev, ⟨%W, HO⟩, ⟨⟨⟨%fd, Hd⟩, HtR, HtS⟩, Hsend⟩, Hrest⟩, Hsrc⟩ Hk
  iapply (Rounds.wp_send_pointsTo 𝒱₀ ER (Rd m) (c : Thread nD τ) none (κ₁ := K (c, ⟨1 + j, b1⟩)) (κ₂ := K (tgt j c, ⟨24 + j, b2⟩))
    (r₁ := 0) (r₂ := 0) (d₁ := (0 : Fin 4)) (d₂ := (0 : Fin 4)) (fd := fd)
    (Finset.mem_singleton_self _) (Finset.mem_singleton_self _)
    () () (amtJ j) (sem := .dma (dsem (24 + j))) (sS := .dma (dsem (1 + j))) hN ((amount_dma m c (1 + j) (by omega) 0 0).trans (amt_send j hlt)) ((amount_dma m (tgt j c) (24 + j) (by omega) 0 0).trans (amt_recv j hlt))
    (owedL c (ord.drop (n + 1))) rfl (W := W)
    (Entails.of_eq (by rw [send_pay m c j hlt, X.send])) (Entails.of_eq (by rw [recv_pay m (tgt j c) j hlt, X.land]))) $$ [Hsrc Hd HO HtR HtS]
  · isplitr; · iapply (recs_inv m K c (1 + j) (by omega) b1); iexact Hr
    isplitr; · iapply (recs_inv m K (tgt j c) (24 + j) (by omega) b2); iexact Hr
    isplitl [Hsrc]; · iexact Hsrc
    isplitl [Hd]; · iexact Hd
    isplitl [HO]; · iexact HO
    isplitl [HtS]; · iexact HtS
    isplitr; · iapply (recs_reached m K c (1 + j) (by omega) (by omega)); iexact Hr
    isplitl [HtR]; · iexact HtR
    iapply (recs_reached m K (tgt j c) (24 + j) (by omega) (by omega)); iexact Hr
  iintro ⟨Hc, HO⟩
  iapply Hk
  isplitr [Hc]
  · unfold St
    isplitr; · iexact Hr
    isplitl [Hlev]; · iexact Hlev
    isplitl [HO]; · iexists W; iexact HO
    isplitl [Hsend]; · iexact Hsend
    iexact Hrest
  iexact Hc

/-! ## Waits on the cells with one round -/

theorem St_wait {n w s j : ℕ} (hj : wts.drop w = j :: wts.drop (w + 1)) :
    St m K c n w s = iprop(recs m K ∗ levAts L lv ∗ (∃ W, owes (c : Thread nD τ) (owedL c (ord.drop n)) W)
      ∗ sepL (sendItem c) (ord.drop n) ∗ (waitItem c j ∗ sepL (waitItem c) (wts.drop (w + 1))) ∗ sepL (zeroItem c) (wts.take w).reverse
      ∗ sepL (storeItem c) ((List.range 16).drop s)) := by
  unfold St; rw [hj, sepL_cons]

theorem wts_take {w j : ℕ} (hj : wts.drop w = j :: wts.drop (w + 1)) : (wts.take (w + 1)).reverse = j :: (wts.take w).reverse := by
  have h : wts[w]? = some j := by rw [← List.head?_drop, hj]; rfl
  rw [List.take_add_one, h]; simp

/-- The wait on cell `i`, given its credit. -/
theorem wait_core {α : Type} {Q : α → sProp 𝕄} {k : PUnit → Prog (TpuEff nD τ sig (Elt F) Λ₀ .tc) α}
    {w₀ : TpuEff nD τ sig (Elt F) Λ₀ .tc PUnit} {i : ℕ} (hi0 : 0 < i) (hi : i < 66) (h1 : i ≠ 47 ∧ i ≠ 48)
    (hw : ∀ K' : PUnit → sProp 𝕄, wpE (defs₀ (F := F)) 𝒱₀ (c : Thread nD τ) none Set.univ w₀ K' = waitSpec (c : Thread nD τ) Set.univ (.dma (dsem i)) (amt i) K')
    (n w s : ℕ) (hj : wts.drop w = i :: wts.drop (w + 1)) (hn : n < 24) (hl : lvN i ≤ n + 1) :
    iprop(recs m K ∗ levAts L lv ∗ (∃ W, owes (c : Thread nD τ) (owedL c (ord.drop n)) W) ∗ sepL (sendItem c) (ord.drop n)
        ∗ atPos ER (dcell c i) 0 (∅ : Finset (Fin 4)) 0 ∗ cred (tallyAt (dcell c i) () (amt i)) ∗ sepL (waitItem c) (wts.drop (w + 1))
        ∗ sepL (zeroItem c) (wts.take w).reverse ∗ sepL (storeItem c) ((List.range 16).drop s))
      ⊢ iprop(((St m K c n (w + 1) s ∗ dmaPay m c i 0)
          -∗ wp frame (wpE (defs₀ (F := F)) 𝒱₀ (c : Thread nD τ) none) Set.univ (k ⟨⟩) Q)
        -∗ wp frame (wpE (defs₀ (F := F)) 𝒱₀ (c : Thread nD τ) none) Set.univ (.op w₀ k) Q) := by
  iintro ⟨#Hr, #Hlev, ⟨%W, HO⟩, Hsend, Hat, Hc, Hw, Hz, Hst⟩ Hk
  iapply (Rounds.wp_wait_rest_token 𝒱₀ ER (Rd m) (c : Thread nD τ) none (κ := K (c, ⟨i, hi⟩)) hw (Set.mem_univ _) () (O := owedL c (ord.drop n)) (W := W)
      (R := 0) (m := 0) (T := ∅) (by rw [expect_dma m c i hi 0 (duties_dma m c i), Nat.zero_add])) $$ [Hc HO Hat]
  · isplitr; · iapply (recs_inv m K c i hi0 hi); iexact Hr
    isplitl [Hc]; · iexact Hc
    isplitl [HO]; · iexact HO
    isplitr; · iapply (mayWait c (.dma (dsem i)) n hn ((lv_dcell c i hi ()).trans_le hl)); iexact Hlev
    iexact Hat
  iintro ⟨HO, Hat, -, Hpay⟩
  imod (Rounds.cell_close ER (Rd m) (Set.mem_univ (K (c, ⟨i, hi⟩))) (fun h => h) (R := 0 + 1) (duties_one m c i hi h1)) $$ [Hat] with Hz0
  · isplitr; · iapply (recs_inv m K c i hi0 hi); iexact Hr
    iexact Hat
  ihave Hpay := (Entails.of_eq (rest_dma m c i hi 0 (duties_dma m c i))) $$ Hpay
  iapply Hk
  isplitr [Hpay]
  · unfold St
    rw [wts_take hj, sepL_cons]
    isplitr; · iexact Hr
    isplitr; · iexact Hlev
    isplitl [HO]; · iexists _; iexact HO
    isplitl [Hsend]; · iexact Hsend
    isplitl [Hw]; · iexact Hw
    isplitl [Hz0 Hz]
    · isplitl [Hz0]; · unfold zeroItem; iexact Hz0
      iexact Hz
    iexact Hst
  iexact Hpay

variable {sp sp' : Space} {S S' : Shape} {e e' : EltTy} {src : Memref sig .tc sp S e} {dst : Memref sig .tc sp' S' e'} {sm : DmaSem sig}
  {hsrc : src.view.WordExact} {hdst : dst.view.WordExact}

theorem wait_eq (i : ℕ) (hsm : sm = dsem i) (hN : dst.view.dmaCredit = amt i) (K' : PUnit → sProp 𝕄) :
    wpE (defs₀ (F := F)) 𝒱₀ (c : Thread nD τ) none Set.univ (.waitDma2 sm src dst hsrc hdst) K' = waitSpec (c : Thread nD τ) Set.univ (.dma (dsem i)) (amt i) K' := by
  subst hsm; rw [← hN]; exact wpE_waitDma2_eq 𝒱₀ (c : Thread nD τ) none Set.univ K'

/-- The wait for the source of transfer `j`. -/
theorem wait_send {α : Type} {Q : α → sProp 𝕄} {k : PUnit → Prog (TpuEff nD τ sig (Elt F) Λ₀ .tc) α}
    (j : ℕ) (hlt : j < 23) (hsm : sm = dsem (1 + j)) (hN : dst.view.dmaCredit = amtJ j)
    (n w s : ℕ) (hj : wts.drop w = (1 + j) :: wts.drop (w + 1)) (hn : n < 24) :
    iprop(St m K c n w s ∗ cred (tallyAt (dcell c (1 + j)) () (amtJ j)))
      ⊢ iprop(((St m K c n (w + 1) s ∗ sendPay m j c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  have hp : dmaPay m c (1 + j) 0 = sendPay m j c := by unfold dmaPay; rw [if_pos (by omega)]; congr 1; omega
  rw [St_wait K c hj, ← hp, ← amt_send j hlt]
  unfold waitItem
  iintro ⟨⟨#Hr, #Hlev, HO, Hsend, ⟨⟨Hat, -⟩, Hw⟩, Hz, Hst⟩, Hc⟩
  iapply (wait_core K c (i := 1 + j) (by omega) (by omega) (by omega) (wait_eq c (1 + j) hsm (hN.trans (amt_send j hlt).symm)) n w s hj hn
    (by unfold lvN; rw [if_neg (by omega)]; omega))
  isplitr; · iexact Hr
  isplitr; · iexact Hlev
  isplitl [HO]; · iexact HO
  isplitl [Hsend]; · iexact Hsend
  isplitl [Hat]; · iexact Hat
  isplitl [Hc]; · iexact Hc
  isplitl [Hw]; · iexact Hw
  isplitl [Hz] <;> iassumption

/-- The wait for the arrival of transfer `j`. -/
theorem wait_recv {α : Type} {Q : α → sProp 𝕄} {k : PUnit → Prog (TpuEff nD τ sig (Elt F) Λ₀ .tc) α}
    (j : ℕ) (hlt : j < 23) (hsm : sm = dsem (24 + j)) (hN : dst.view.dmaCredit = amtJ j)
    (n w s : ℕ) (hj : wts.drop w = (24 + j) :: wts.drop (w + 1)) (hn : n < 24) (hl : lvN (24 + j) ≤ n + 1) :
    St m K c n w s
      ⊢ iprop(((St m K c n (w + 1) s ∗ recvPay m j c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  have hp : dmaPay m c (24 + j) 0 = recvPay m j c := by unfold dmaPay; rw [if_neg (by omega), if_pos (by omega)]; congr 1; omega
  rw [St_wait K c hj, ← hp]
  unfold waitItem
  rw [if_pos (by omega)]
  iintro ⟨#Hr, #Hlev, HO, Hsend, ⟨⟨Hat, Hc⟩, Hw⟩, Hz, Hst⟩
  iapply (wait_core K c (i := 24 + j) (by omega) (by omega) (by omega) (wait_eq c (24 + j) hsm (hN.trans (amt_recv j hlt).symm)) n w s hj hn hl)
  isplitr; · iexact Hr
  isplitr; · iexact Hlev
  isplitl [HO]; · iexact HO
  isplitl [Hsend]; · iexact Hsend
  isplitl [Hat]; · iexact Hat
  isplitl [Hc]; · iexact Hc
  isplitl [Hw]; · iexact Hw
  isplitl [Hz] <;> iassumption

/-- The wait for store `t`. -/
theorem wait_store {α : Type} {Q : α → sProp 𝕄} {k : PUnit → Prog (TpuEff nD τ sig (Elt F) Λ₀ .tc) α}
    (t : ℕ) (hlt : t < 16) (hsm : sm = dsem (50 + t)) (hN : dst.view.dmaCredit = N16)
    (n w s : ℕ) (hj : wts.drop w = (50 + t) :: wts.drop (w + 1)) (hn : n < 24) :
    iprop(St m K c n w s ∗ cred (tallyAt (dcell c (50 + t)) () N16))
      ⊢ iprop(((St m K c n (w + 1) s ∗ storePay m t c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  have hp : dmaPay m c (50 + t) 0 = storePay m t c := by
    unfold dmaPay; rw [if_neg (by omega), if_neg (by omega), if_neg (by omega)]; congr 1; omega
  have ha : amt (50 + t) = N16 := by unfold amt; rw [if_neg (by omega), if_neg (by omega), if_neg (by omega)]
  rw [St_wait K c hj, ← hp, ← ha]
  unfold waitItem
  iintro ⟨⟨#Hr, #Hlev, HO, Hsend, ⟨⟨Hat, -⟩, Hw⟩, Hz, Hst⟩, Hc⟩
  iapply (wait_core K c (i := 50 + t) (by omega) (by omega) (by omega) (wait_eq c (50 + t) hsm (hN.trans ha.symm)) n w s hj hn
    (by unfold lvN; rw [if_neg (by omega)]; omega))
  isplitr; · iexact Hr
  isplitr; · iexact Hlev
  isplitl [HO]; · iexact HO
  isplitl [Hsend]; · iexact Hsend
  isplitl [Hat]; · iexact Hat
  isplitl [Hc]; · iexact Hc
  isplitl [Hw]; · iexact Hw
  isplitl [Hz] <;> iassumption

/-! ## Local copies -/

/-- A copy on one device paying round `r` of cell `i`. -/
theorem copy_step {α : Type} {Q : α → sProp 𝕄} {k : PUnit → Prog (TpuEff nD τ sig (Elt F) Λ₀ .tc) α}
    {S : Shape} {e : EltTy} {src : Memref sig .tc sp S e} {dst : Memref sig .tc sp' S e} {sm : DmaSem sig} {i r : ℕ} (hi0 : 0 < i) (hi : i < 66)
    (hsm : sm = dsem i) (hr : r = 0 ∨ (r = 1 ∧ (i = 47 ∨ i = 48))) (hN : dst.view.dmaCredit = amt i)
    {q : PosShare TreeShare} {fs : Buf (Elt F) (src.view.loc (c : Thread nD τ))} {fd : Buf (Elt F) (dst.view.loc (c : Thread nD τ))}
    {hsrc : src.view.WordExact} {hdst : dst.view.WordExact} {hsem : DmaTarget.Typed (nD := nD) (τ := τ) (p := .tc) sp (.dma sm) (.here dst)}
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ dmaPay m c i r) :
    iprop(recs m K ∗ (src.view.loc (c : Thread nD τ) ↦[src.view.set]{q} fs) ∗ (dst.view.loc (c : Thread nD τ) ↦[dst.view.set]{fullShare} fd)
        ∗ dutyTok ER (dcell c i) r (0 : Fin 4) ∗ reached ER (dcell c i) r)
      ⊢ iprop((cred (tallyAt (dcell c i) () (amt i)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  subst hsm
  have hd : (Rd (F := F) m).duties (dcell c i) r = {0} := by
    rcases hr with rfl | ⟨rfl, h⟩
    · exact duties_dma m c i
    · exact duties_loc m c i h
  refine BIBase.Entails.trans ?_ (Rounds.wp_copy_pointsTo 𝒱₀ ER (Rd m) (c : Thread nD τ) none (κ := K (c, ⟨i, hi⟩)) (r := r) (d := (0 : Fin 4))
    (hd ▸ Finset.mem_singleton_self _) () (amt i) (sem := .dma (dsem i)) hN (amount_dma m c i hi r 0) (by rw [payload_dma m c i hi]; exact hpay))
  iintro ⟨#Hr, H⟩
  isplitr; · iapply (recs_inv m K c i hi0 hi); iexact Hr
  iexact H

/-- The wait for round `r` of a local copy's cell. -/
theorem wait_loc {α : Type} {Q : α → sProp 𝕄} {k : PUnit → Prog (TpuEff nD τ sig (Elt F) Λ₀ .tc) α}
    (i r : ℕ) (hi : 47 ≤ i ∧ i < 50) (hsm : sm = dsem i) (hr : r = 0 ∨ (r = 1 ∧ (i = 47 ∨ i = 48))) (hN : dst.view.dmaCredit = NF)
    (n w s : ℕ) (hn : n < 24) :
    iprop(St m K c n w s ∗ atPos ER (dcell c i) r (∅ : Finset (Fin 4)) 0 ∗ cred (tallyAt (dcell c i) () (amt i)))
      ⊢ iprop(((St m K c n w s ∗ atPos ER (dcell c i) (r + 1) (∅ : Finset (Fin 4)) 0 ∗ reached ER (dcell c i) (r + 1) ∗ locPay m (i - 47) r c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  have b : i < 66 := by omega
  have hp : dmaPay m c i r = locPay m (i - 47) r c := by unfold dmaPay; rw [if_neg (by omega), if_neg (by omega), if_pos (by omega)]
  have ha : amt i = NF := by unfold amt; rw [if_neg (by omega), if_neg (by omega), if_pos (by omega)]
  have hd : (Rd (F := F) m).duties (dcell c i) r = {0} := by
    rcases hr with rfl | ⟨rfl, h⟩
    · exact duties_dma m c i
    · exact duties_loc m c i h
  rw [← hp]
  unfold St
  iintro ⟨⟨#Hr, #Hlev, ⟨%W, HO⟩, Hrest⟩, Hat, Hc⟩ Hk
  iapply (Rounds.wp_wait_rest_token 𝒱₀ ER (Rd m) (c : Thread nD τ) none (κ := K (c, ⟨i, b⟩)) (wait_eq c i hsm (hN.trans ha.symm)) (Set.mem_univ _) ()
      (O := owedL c (ord.drop n)) (W := W) (R := r) (m := 0) (T := ∅) (by rw [expect_dma m c i (by omega) r hd, Nat.zero_add])) $$ [Hc HO Hat]
  · isplitr; · iapply (recs_inv m K c i (by omega) b); iexact Hr
    isplitl [Hc]; · iexact Hc
    isplitl [HO]; · iexact HO
    isplitr
    · iapply (mayWait c (.dma (dsem i)) n hn ((lv_dcell c i (by omega) ()).trans_le (by unfold lvN; rw [if_neg (by omega)]; exact Nat.zero_le _))); iexact Hlev
    iexact Hat
  iintro ⟨HO, Hat, Hre, Hpay⟩
  ihave Hpay := (Entails.of_eq (rest_dma m c i (by omega) r hd)) $$ Hpay
  iapply Hk
  isplitr [Hat Hre Hpay]
  · isplitr; · iexact Hr
    isplitr; · iexact Hlev
    isplitl [HO]; · iexists _; iexact HO
    iexact Hrest
  isplitl [Hat]; · iexact Hat
  isplitl [Hre] <;> iassumption

/-- The end of a local copy's cell. -/
theorem loc_close (i r : ℕ) (hi : 47 ≤ i ∧ i < 50) (hr : r = 2 ∨ (r = 1 ∧ i = 49)) :
    iprop(recs m K ∗ atPos ER (dcell c i) r (∅ : Finset (Fin 4)) 0) ⊢ iprop(|={Set.univ}=> zeroItem c i) := by
  have b : i < 66 := by omega
  iintro ⟨#Hr, Hat⟩
  imod (Rounds.cell_close ER (Rd m) (Set.mem_univ (K (c, ⟨i, b⟩))) (fun h => h) (R := r) (fun r' h' => by
    rcases hr with hr | ⟨hr, hi'⟩
    · exact duties_two m _ r' (hr ▸ h')
    · exact duties_one m c i (by omega) (by omega) r' (hr ▸ h'))) $$ [Hat] with Hz0
  · isplitr; · iapply (recs_inv m K c i (by omega) b); iexact Hr
    iexact Hat
  imodintro
  unfold zeroItem; iexact Hz0

/-! ## Stores -/

/-- Store `t` of device `c` from `src` to `dst`. -/
structure Store {sp sp' : Space} {S : Shape} {e : EltTy} (m : (ℓ : Loc nD τ sig) → Buf (Elt F) ℓ) (t : ℕ) (c : Dev nD) (src : Memref sig .tc sp S e) (dst : Memref sig .tc sp' S e)
    (q : PosShare TreeShare) (fs : Buf (Elt F) (src.view.loc (c : Thread nD τ))) : Prop where
  lt : t < 16
  source : storeSrc m t c = (src.view.loc (c : Thread nD τ) ↦[src.view.set]{q} fs : sProp 𝕄)
  dest : iprop(∃ f, pO (F := F) c (oset c t) fullShare f) = iprop(∃ fd, dst.view.loc (c : Thread nD τ) ↦[dst.view.set]{fullShare} fd)
  land : ∀ fd : Buf (Elt F) (dst.view.loc (c : Thread nD τ)),
    (dst.view.loc (c : Thread nD τ) ↦[dst.view.set]{fullShare} (dst.view.write (Elt F) fd (src.view.read (Elt F) fs) Finset.univ) : sProp 𝕄)
      = pO c (oset c t) fullShare (OUT m)

theorem St_store {n w s : ℕ} (hs : s < 16) :
    St m K c n w s = iprop(recs m K ∗ levAts L lv ∗ (∃ W, owes (c : Thread nD τ) (owedL c (ord.drop n)) W)
      ∗ sepL (sendItem c) (ord.drop n) ∗ sepL (waitItem c) (wts.drop w) ∗ sepL (zeroItem c) (wts.take w).reverse
      ∗ (storeItem c s ∗ sepL (storeItem c) ((List.range 16).drop (s + 1)))) := by
  have h : (List.range 16).drop s = s :: (List.range 16).drop (s + 1) := by
    rw [List.drop_eq_getElem_cons (by simpa using hs)]; simp
  unfold St; rw [h, sepL_cons]

theorem store_step {α : Type} {Q : α → sProp 𝕄} {k : PUnit → Prog (TpuEff nD τ sig (Elt F) Λ₀ .tc) α}
    {S : Shape} {e : EltTy} {src : Memref sig .tc sp S e} {dst : Memref sig .tc sp' S e} {sm : DmaSem sig} {t : ℕ}
    {q : PosShare TreeShare} {fs : Buf (Elt F) (src.view.loc (c : Thread nD τ))} (X : Store m t c src dst q fs)
    (hsm : sm = dsem (50 + t)) (hN : dst.view.dmaCredit = N16)
    {hsrc : src.view.WordExact} {hdst : dst.view.WordExact} {hsem : DmaTarget.Typed (nD := nD) (τ := τ) (p := .tc) sp (.dma sm) (.here dst)} (n w : ℕ) :
    iprop(St m K c n w t ∗ storeSrc m t c)
      ⊢ iprop(((St m K c n w (t + 1) ∗ cred (tallyAt (dcell c (50 + t)) () N16))
          -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  have hlt := X.lt
  have hp : dmaPay m c (50 + t) 0 = storePay m t c := by
    unfold dmaPay; rw [if_neg (by omega), if_neg (by omega), if_neg (by omega)]; congr 1; omega
  have ha : amt (50 + t) = N16 := by unfold amt; rw [if_neg (by omega), if_neg (by omega), if_neg (by omega)]
  rw [St_store K c hlt, X.source, ← ha]
  unfold storeItem
  rw [X.dest]
  iintro ⟨⟨#Hr, Hlev, HO, Hsend, Hw, Hz, ⟨⟨⟨%fd, Hd⟩, Ht⟩, Hst⟩⟩, Hsrc⟩ Hk
  iapply (copy_step K c (i := 50 + t) (r := 0) (by omega) (by omega) hsm (Or.inl rfl) (hN.trans ha.symm) (fd := fd)
    (by rw [hp]; unfold storePay; rw [X.land, X.source])) $$ [Hsrc Hd Ht]
  · isplitr; · iexact Hr
    isplitl [Hsrc]; · iexact Hsrc
    isplitl [Hd]; · iexact Hd
    isplitl [Ht]; · iexact Ht
    iapply (recs_reached m K c (50 + t) (by omega) (by omega)); iexact Hr
  iintro Hc
  iapply Hk
  isplitr [Hc]
  · unfold St
    isplitr; · iexact Hr
    isplitl [Hlev]; · iexact Hlev
    isplitl [HO]; · iexact HO
    isplitl [Hsend]; · iexact Hsend
    isplitl [Hw]; · iexact Hw
    isplitl [Hz]; · iexact Hz
    iexact Hst
  iexact Hc

end StepRules

end Cert.AllReduce
-- ==== Proof.AllReduce.Reads.lean ====
/-
# What a slice of a buffer reads

A slice of a buffer that holds one of the run's arrays reads the rows of that array, and a buffer written through a slice
holds the array on the slice's blocks.
-/
module

public import proofs.«01_k».proof.Proof.AllReduce.Steps
public import Idealize.ShloMosaic.Lib.Pipeline.ValueKit.Geometry

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Written through a view, a buffer holds any contents that the view reads as what was written. -/
theorem land_eq {sp : Space} {s : Shape} {e : EltTy} (v : View sig .tc sp s e) (c : Dev nD) (q : PosShare TreeShare)
    (fd G : Buf (Elt F) (v.loc (c : Thread nD τ))) (w : s.Idx → Elt F e) (h : v.read (Elt F) G = w) :
    (v.loc (c : Thread nD τ) ↦[v.set]{q} (v.write (Elt F) fd w Finset.univ) : sProp 𝕄) = (v.loc (c : Thread nD τ) ↦[v.set]{q} G) := by
  refine pointsTo_congr fun i hi => ?_
  obtain ⟨x, -, rfl⟩ := Finset.mem_map.mp hi
  subst h
  exact (View.write_emb_of_mem (v := v) (Val := Elt F) fd _ (Finset.mem_univ x)).trans (by rw [View.read_apply, cast_cast, cast_eq])

section Reads
variable {e : EltTy}

abbrev rc2 {n : ℕ} (off : Fin 2 → ℕ) (k : ℕ) (inb : ∀ a, off a + (![k, 2048] : Fin 2 → ℕ) a ≤ (⟨2, ![n, 2048]⟩ : Shape).size a) : Rect (⟨2, ![n, 2048]⟩ : Shape) :=
  Rect.unit (s := ⟨2, ![n, 2048]⟩) off ![k, 2048] inb
abbrev rc3 {n p : ℕ} (off : Fin 3 → ℕ) (k : ℕ) (inb : ∀ a, off a + (![1, k, 2048] : Fin 3 → ℕ) a ≤ (⟨3, ![n, p, 2048]⟩ : Shape).size a) : Rect (⟨3, ![n, p, 2048]⟩ : Shape) :=
  Rect.unit (s := ⟨3, ![n, p, 2048]⟩) off ![1, k, 2048] inb

/-- The element of a rectangle of rows. -/
theorem emb2 {n k : ℕ} {off : Fin 2 → ℕ} {inb} (a : ℕ) (hoff : off = ![a, 0]) (j : (⟨2, ![k, 2048]⟩ : Shape).Idx) (b : a + (j 0).val < n) :
    (rc2 (n := n) off k inb).emb j = ix2 ⟨a + (j 0).val, b⟩ (j 1) := by
  subst hoff
  funext x
  match x with
  | ⟨0, _⟩ => exact Fin.ext (ValueKit.rect_emb_unit_val (s := ⟨2, ![n, 2048]⟩) ![a, 0] ![k, 2048] inb j 0)
  | ⟨1, _⟩ => exact Fin.ext ((ValueKit.rect_emb_unit_val (s := ⟨2, ![n, 2048]⟩) ![a, 0] ![k, 2048] inb j 1).trans (Nat.zero_add _))
/-- The element of a rectangle of rows of one slot. -/
theorem emb3 {n p k : ℕ} {off : Fin 3 → ℕ} {inb} (s a : ℕ) (hoff : off = ![s, a, 0]) (j : (⟨3, ![1, k, 2048]⟩ : Shape).Idx) (hs : s < n) (b : a + (j 1).val < p) :
    (rc3 (n := n) (p := p) off k inb).emb j = ix3 ⟨s, hs⟩ ⟨a + (j 1).val, b⟩ (j 2) := by
  subst hoff
  have h0 : (j 0).val < 1 := (j 0).isLt
  funext x
  match x with
  | ⟨0, _⟩ => exact Fin.ext ((ValueKit.rect_emb_unit_val (s := ⟨3, ![n, p, 2048]⟩) ![s, a, 0] ![1, k, 2048] inb j 0).trans (by show s + (j 0).val = s; omega))
  | ⟨1, _⟩ => exact Fin.ext (ValueKit.rect_emb_unit_val (s := ⟨3, ![n, p, 2048]⟩) ![s, a, 0] ![1, k, 2048] inb j 1)
  | ⟨2, _⟩ => exact Fin.ext ((ValueKit.rect_emb_unit_val (s := ⟨3, ![n, p, 2048]⟩) ![s, a, 0] ![1, k, 2048] inb j 2).trans (Nat.zero_add _))

variable {α : Type}

/-- Rows of 512 read from a rectangle of 256. -/
theorem half2_emb (X : S512x2048.Idx → α) (h : Fin 2) {off : Fin 2 → ℕ} (hoff : off = ![256 * h.val, 0]) {inb} :
    (fun j => X ((rc2 (n := 512) off 256 inb).emb j)) = half2 X h := by
  funext j
  have hj : (j 0).val < 256 := (j 0).isLt
  have := h.isLt
  exact congrArg X (emb2 _ hoff j (by omega))
/-- The same of a buffer of slots. -/
theorem half3_emb {n : ℕ} (X : S512x2048.Idx → α) (s : ℕ) (hs : s < n) (h : Fin 2) {off : Fin 3 → ℕ} (hoff : off = ![s, 256 * h.val, 0]) {inb} :
    (fun j => slotC (n := n) X ((rc3 (n := n) (p := 512) off 256 inb).emb j)) = half3 X h := by
  funext j
  have hj : (j 1).val < 256 := (j 1).isLt
  have := h.isLt
  show slotC X _ = _
  rw [emb3 s _ hoff j hs (by omega)]; rfl
/-- Squeezed, half of a slot is the half. -/
theorem squeeze_half (X : S512x2048.Idx → α) (h : Fin 2) (hc : S1x256x2048.ShapeCasts S256x2048) :
    shapeCast S256x2048 (half3 X h) hc = half2 X h := by
  funext j
  refine (shapeCast_apply _ hc j (ix3 0 (j 0) (j 1)) ?_).trans rfl
  rw [Shape.rowMajor_val_three, Shape.rowMajor_val_two]
  show ((0 * 256 + (j 0).val) * 2048 + (j 1).val) = (j 0).val * 2048 + (j 1).val
  omega
/-- A whole slot, squeezed, is what the slot holds. -/
theorem squeeze_slot {n : ℕ} (X : S512x2048.Idx → α) (s : ℕ) (hs : s < n) {off : Fin 3 → ℕ} (hoff : off = ![s, 0, 0]) {inb}
    (hc : S1x512x2048.ShapeCasts S512x2048) :
    shapeCast S512x2048 (fun j => slotC (n := n) X ((rc3 (n := n) (p := 512) off 512 inb).emb j)) hc = X := by
  funext j
  refine (shapeCast_apply _ hc j (ix3 0 (j 0) (j 1)) ?_).trans ?_
  · rw [Shape.rowMajor_val_three, Shape.rowMajor_val_two]
    show ((0 * 512 + (j 0).val) * 2048 + (j 1).val) = (j 0).val * 2048 + (j 1).val
    omega
  · have hj : (j 0).val < 512 := (j 0).isLt
    show slotC X _ = X j
    rw [emb3 s 0 hoff _ hs (by show 0 + (j 0).val < 512; omega)]
    refine congrArg X ?_
    refine Eq.trans ?_ (eq_ix2 j).symm
    exact congrArg (fun a : Fin 512 => (ix2 a (j 1) : S512x2048.Idx)) (Fin.ext (Nat.zero_add _))
/-- 512 of a device's partial sums. -/
theorem squeeze_part (Y : S1x8192x2048.Idx → α) (a : ℕ) (ha : ∀ i : Fin 512, a + i.val < 8192) {off : Fin 3 → ℕ} (hoff : off = ![0, a, 0]) {inb}
    (hc : S1x512x2048.ShapeCasts S512x2048) :
    shapeCast S512x2048 (fun j => Y ((rc3 (n := 1) (p := 8192) off 512 inb).emb j)) hc = fun i => Y (ix3 0 ⟨a + (i 0).val, ha (i 0)⟩ (i 1)) := by
  funext j
  refine (shapeCast_apply _ hc j (ix3 0 (j 0) (j 1)) ?_).trans ?_
  · rw [Shape.rowMajor_val_three, Shape.rowMajor_val_two]
    show ((0 * 512 + (j 0).val) * 2048 + (j 1).val) = (j 0).val * 2048 + (j 1).val
    omega
  · have hj : (j 0).val < 512 := (j 0).isLt
    show Y _ = Y _
    rw [emb3 0 a hoff _ (by decide) (ha (j 0))]; rfl

end Reads

end Cert.AllReduce
-- ==== Proof.AllReduce.Moves.lean ====
/-
# The transfers between devices

Each of the 23 transfers reads what it borrows, writes the place it was handed, and leaves there what the receiver expects.
-/
module

public import proofs.«01_k».proof.Proof.AllReduce.Reads

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev M0 : Memref sig .tc .vmem S2x512x2048 .f32 := Memref.whole cc0_scratch0
abbrev M1 : Memref sig .tc .vmem S512x2048 .bf16 := Memref.whole cc0_scratch1
abbrev M2 : Memref sig .tc .vmem S3x512x2048 .bf16 := Memref.whole cc0_scratch2
abbrev M3 : Memref sig .tc .vmem S2048x2048 .bf16 := Memref.whole cc0_scratch3
abbrev M4 : Memref sig .tc .vmem S2048x2048 .bf16 := Memref.whole cc0_scratch4
abbrev M5 : Memref sig .tc .vmem S2048x2048 .bf16 := Memref.whole cc0_scratch5
abbrev M6 : Memref sig .tc .vmem S2048x2048 .bf16 := Memref.whole cc0_scratch6
abbrev M7 : Memref sig .tc .vmem S512x2048 .f32 := Memref.whole cc0_scratch7
abbrev MO : Memref sig .tc .hbm S8192x2048 .bf16 := Memref.whole main_v1
abbrev MP : Memref sig .tc .hbm S1x8192x2048 .f32 := Memref.whole main_arg0
abbrev MR : Memref sig .tc .hbm S8192x2048 .f32 := Memref.whole main_arg1

variable (m : (ℓ : Loc nD τ sig) → Buf (Elt F) ℓ) (c : Dev nD)

/-- A transfer is known from its two places and from what the two slices read. -/
theorem Xfer.of {sp sp' : Space} {S : Shape} {e : EltTy} {j : ℕ} {c n : Dev nD} {src : Memref sig .tc sp S e} {dst : Memref sig .tc sp' S e}
    {q : PosShare TreeShare} {fs : Buf (Elt F) (src.view.loc (c : Thread nD τ))} (G : Buf (Elt F) (dst.view.loc (n : Thread nD τ)))
    {A : Finset (Idx (src.view.loc (c : Thread nD τ)))} {B : Finset (Idx (dst.view.loc (n : Thread nD τ)))}
    (hn : tgt j c = n) (hj : j < 23) (hA : src.view.set = A) (hB : dst.view.set = B)
    (hs : sendPay m j c = (src.view.loc (c : Thread nD τ) ↦[A]{q} fs : sProp 𝕄))
    (hd : destAt (F := F) j n = iprop(∃ fd, dst.view.loc (n : Thread nD τ) ↦[B]{fullShare} fd))
    (hr : recvPay m j n = (dst.view.loc (n : Thread nD τ) ↦[B]{fullShare} G : sProp 𝕄))
    (hrd : dst.view.read (Elt F) G = src.view.read (Elt F) fs) : Xfer m j c src dst q fs := by
  subst hn hA hB
  exact ⟨hj, hs, hd, fun fd => (land_eq dst.view _ fullShare fd G _ hrd).trans hr.symm⟩

theorem set_chunk {off : Fin 2 → ℕ} (a : ℕ) (hoff : off = ![256 * a, 0]) {inb} :
    (Rect.unit (s := S2048x2048) off S512x2048.size inb).set = bk2 (Finset.Ico a (a + 2)) := by
  subst hoff; exact set_rows a 2 rfl rfl rfl rfl
theorem set_block {n : ℕ} {off : Fin 2 → ℕ} (a : ℕ) (hoff : off = ![256 * a, 0]) {inb} :
    (Rect.unit (s := ⟨2, ![n, 2048]⟩) off S256x2048.size inb).set = bk2 (Finset.Ico a (a + 1)) := by
  subst hoff; exact set_rows a 1 rfl rfl rfl rfl
theorem set_half {n : ℕ} {off : Fin 3 → ℕ} (s : ℕ) (h : Fin 2) (hoff : off = ![s, 256 * h.val, 0]) {inb} :
    (Rect.unit (s := ⟨3, ![n, 512, 2048]⟩) off S1x256x2048.size inb).set = bk3 (Finset.Ico (2 * s + h.val) (2 * s + h.val + 1)) := by
  subst hoff; exact set_slot s h.val 1 (by have := h.isLt; omega) rfl rfl rfl rfl rfl rfl
theorem set_full {n : ℕ} {off : Fin 3 → ℕ} (s : ℕ) (hoff : off = ![s, 0, 0]) {inb} :
    (Rect.unit (s := ⟨3, ![n, 512, 2048]⟩) off S1x512x2048.size inb).set = bk3 (Finset.Ico (2 * s) (2 * s + 2)) := by
  subst hoff; exact set_slot s 0 2 (by omega) rfl rfl rfl rfl rfl rfl

theorem set_whole_slice (b : Ref sig .tc) (r : Rect b.ty.shape) (hr) : ((Memref.whole b).slice r hr).view.set = r.set := View.set_slice_whole b r
theorem set_whole_squeeze (b : Ref sig .tc) (r : Rect b.ty.shape) (hr) {s' : Shape} (hq : r.shape.Squeezes s') :
    (((Memref.whole b).slice r hr).squeeze s' hq).view.set = r.set :=
  (View.set_reshape _ _).trans (View.set_slice_whole b r)

theorem castsH : S1x256x2048.ShapeCasts S256x2048 := by decide
theorem castsF : S1x512x2048.ShapeCasts S512x2048 := by decide

theorem cA_rt (t : Fin 3) : cA (rt c) (t.val + 1) = cA c t.val := by unfold cA; rw [ck_rt]
theorem cA_xn (t : Fin 4) : cA (xn c) t.val = cA c t.val := by unfold cA; rw [ck_xn]
theorem cA_yn (t : Fin 4) : cA (yn c) t.val = cA c t.val := by unfold cA; rw [ck_yn]

section Ring
variable {off off' : Fin 3 → ℕ} {offr : Fin 2 → ℕ} {inb : ∀ a, off a + S1x256x2048.size a ≤ S3x512x2048.size a} {inb' : ∀ a, off' a + S1x256x2048.size a ≤ S3x512x2048.size a}
  {inbr : ∀ a, offr a + S256x2048.size a ≤ S512x2048.size a} {hr hr' hrr hq hq'}

/-- The read of half of a slot. -/
theorem read_slot (X : S512x2048.Idx → Elt F .bf16) (s : ℕ) (hs : s < 3) (h : Fin 2) (hoff : off = ![s, 256 * h.val, 0]) :
    ((M2.slice (Rect.unit (s := S3x512x2048) off S1x256x2048.size inb) hr).squeeze S256x2048 hq).view.read (Elt F) (slotC X) = half2 X h :=
  (Memref.read_squeeze_slice M2 _ hr hq castsH _).trans
    ((congrArg (fun x => shapeCast S256x2048 x castsH) (half3_emb X s hs h hoff)).trans (squeeze_half X h _))

/-- The first step of the ring. -/
theorem xRing0 (h : Fin 2) {j : ℕ} (hj : j = h.val) (hr0 : offr = ![256 * h.val, 0]) (hoff : off = ![0, 256 * h.val, 0]) :
    Xfer m j c (M1.slice (Rect.unit (s := S512x2048) offr S256x2048.size inbr) hrr)
      ((M2.slice (Rect.unit (s := S3x512x2048) off S1x256x2048.size inb) hr).squeeze S256x2048 hq) fullShare (S0 m c) := by
  subst hj
  refine Xfer.of m (n := rt c) (slotC (S0 m c)) (by fin_cases h <;> rfl) (by omega)
    ((set_whole_slice cc0_scratch1 _ _).trans (set_block (n := 512) h.val hr0)) ((set_whole_squeeze cc0_scratch2 _ _ hq).trans (set_half (n := 3) 0 h hoff))
    (by fin_cases h <;> rfl) (by fin_cases h <;> rfl) ?_ ?_
  · rw [← R0_rt]; fin_cases h <;> rfl
  · exact (read_slot _ 0 (by decide) h hoff).trans (half2_emb (S0 m c) h hr0).symm

/-- The later steps. -/
theorem xRing (s : Fin 2) (h : Fin 2) {j : ℕ} (hj : j = 2 + 2 * s.val + h.val) (hoff : off = ![s.val, 256 * h.val, 0]) (hoff' : off' = ![s.val + 1, 256 * h.val, 0]) :
    Xfer m j c ((M2.slice (Rect.unit (s := S3x512x2048) off S1x256x2048.size inb) hr).squeeze S256x2048 hq)
      ((M2.slice (Rect.unit (s := S3x512x2048) off' S1x256x2048.size inb') hr').squeeze S256x2048 hq') fullShare (slotC (ACC m s.val c)) := by
  subst hj
  refine Xfer.of m (n := rt c) (slotC (ACC m s.val c)) (by fin_cases s <;> fin_cases h <;> rfl) (by omega)
    ((set_whole_squeeze cc0_scratch2 _ _ hq).trans (set_half (n := 3) s.val h hoff)) ((set_whole_squeeze cc0_scratch2 _ _ hq').trans (set_half (n := 3) (s.val + 1) h hoff'))
    (by fin_cases s <;> fin_cases h <;> rfl) (by fin_cases s <;> fin_cases h <;> rfl) ?_ ?_
  · rw [← RCV_rt m s.val s.isLt]; fin_cases s <;> fin_cases h <;> rfl
  · exact (read_slot _ _ (by have := s.isLt; omega) h hoff').trans (read_slot _ _ (by have := s.isLt; omega) h hoff).symm
end Ring

section Rows
variable {off : Fin 2 → ℕ} {inb : ∀ a, off a + S512x2048.size a ≤ S2048x2048.size a} {inbh : ∀ a, off a + S256x2048.size a ≤ S2048x2048.size a} {hr hr'}

/-- Along z: a chunk of the own quarter. -/
theorem xZ (t : Fin 3) {j : ℕ} (hj : j = 6 + t.val) (hoff : off = ![256 * (2 * ck c t.val), 0]) :
    Xfer m j c (M3.slice (Rect.unit (s := S2048x2048) off S512x2048.size inb) hr) (M3.slice (Rect.unit (s := S2048x2048) off S512x2048.size inb) hr') sL (Q m c) := by
  subst hj
  refine Xfer.of m (n := rt c) (Q m c) (by fin_cases t <;> rfl) (by omega)
    ((set_whole_slice cc0_scratch3 _ _).trans (set_chunk _ hoff)) ((set_whole_slice cc0_scratch3 _ _).trans (set_chunk _ hoff))
    (by fin_cases t <;> rfl) (Eq.trans (b := iprop(∃ f, p3 (rt c) (cA (rt c) (t.val + 1)) fullShare f)) (by fin_cases t <;> rfl) (by rw [cA_rt]; rfl))
    (Eq.trans (b := p3 (rt c) (cA (rt c) (t.val + 1)) fullShare (Q m (rt c))) (by fin_cases t <;> rfl) (by rw [cA_rt, Q_rt]; rfl)) rfl
/-- Along x: a chunk of the own quarter. -/
theorem xX (t : Fin 3) {j : ℕ} (hj : j = 9 + t.val) (hoff : off = ![256 * (2 * ck c t.val), 0]) :
    Xfer m j c (M3.slice (Rect.unit (s := S2048x2048) off S512x2048.size inb) hr) (M4.slice (Rect.unit (s := S2048x2048) off S512x2048.size inb) hr') sRL (Q m c) := by
  subst hj
  have e := cA_xn c t.castSucc
  refine Xfer.of m (n := xn c) (Q m c) (by fin_cases t <;> rfl) (by omega)
    ((set_whole_slice cc0_scratch3 _ _).trans (set_chunk _ hoff)) ((set_whole_slice cc0_scratch4 _ _).trans (set_chunk _ hoff))
    (by fin_cases t <;> rfl) (Eq.trans (b := iprop(∃ f, p4 (xn c) (cA (xn c) t.castSucc.val) fullShare f)) (by fin_cases t <;> rfl) (by rw [e]; rfl))
    (Eq.trans (b := p4 (xn c) (cA (xn c) t.castSucc.val) fullShare (QX m (xn c))) (by fin_cases t <;> rfl) (by rw [e, QX_xn]; rfl)) rfl
/-- Along y: a chunk of the own quarter. -/
theorem xY (t : Fin 3) {j : ℕ} (hj : j = 13 + t.val) (hoff : off = ![256 * (2 * ck c t.val), 0]) :
    Xfer m j c (M3.slice (Rect.unit (s := S2048x2048) off S512x2048.size inb) hr) (M5.slice (Rect.unit (s := S2048x2048) off S512x2048.size inb) hr') sRRL (Q m c) := by
  subst hj
  have e := cA_yn c t.castSucc
  refine Xfer.of m (n := yn c) (Q m c) (by fin_cases t <;> rfl) (by omega)
    ((set_whole_slice cc0_scratch3 _ _).trans (set_chunk _ hoff)) ((set_whole_slice cc0_scratch5 _ _).trans (set_chunk _ hoff))
    (by fin_cases t <;> rfl) (Eq.trans (b := iprop(∃ f, p5 (yn c) (cA (yn c) t.castSucc.val) fullShare f)) (by fin_cases t <;> rfl) (by rw [e]; rfl))
    (Eq.trans (b := p5 (yn c) (cA (yn c) t.castSucc.val) fullShare (QY m (yn c))) (by fin_cases t <;> rfl) (by rw [e, QY_yn]; rfl)) rfl
/-- Along x: half of the last chunk of the own quarter. -/
theorem xXh (hoff : off = ![256 * (2 * ck c 3 + c.val % 2), 0]) :
    Xfer m 12 c (M3.slice (Rect.unit (s := S2048x2048) off S256x2048.size inbh) hr) (M4.slice (Rect.unit (s := S2048x2048) off S256x2048.size inbh) hr') sRL (Q m c) :=
  Xfer.of m (n := xn c) (Q m c) rfl (by decide)
    ((set_whole_slice cc0_scratch3 _ _).trans (set_block (n := 2048) _ hoff)) ((set_whole_slice cc0_scratch4 _ _).trans (set_block (n := 2048) _ hoff))
    rfl (Eq.trans (b := iprop(∃ f, p4 (xn c) (hA (xn c)) fullShare f)) rfl (by rw [hA_xn]; rfl))
    (Eq.trans (b := p4 (xn c) (hA (xn c)) fullShare (QX m (xn c))) rfl (by rw [hA_xn, QX_xn]; rfl)) rfl
/-- Along y: half of the last chunk of the own quarter. -/
theorem xYh (hoff : off = ![256 * (2 * ck c 3 + c.val % 2), 0]) :
    Xfer m 16 c (M3.slice (Rect.unit (s := S2048x2048) off S256x2048.size inbh) hr) (M5.slice (Rect.unit (s := S2048x2048) off S256x2048.size inbh) hr') sRRL (Q m c) :=
  Xfer.of m (n := yn c) (Q m c) rfl (by decide)
    ((set_whole_slice cc0_scratch3 _ _).trans (set_block (n := 2048) _ hoff)) ((set_whole_slice cc0_scratch5 _ _).trans (set_block (n := 2048) _ hoff))
    rfl (Eq.trans (b := iprop(∃ f, p5 (yn c) (hA (yn c)) fullShare f)) rfl (by rw [hA_yn]; rfl))
    (Eq.trans (b := p5 (yn c) (hA (yn c)) fullShare (QY m (yn c))) rfl (by rw [hA_yn, QY_yn]; rfl)) rfl
/-- Along x: a chunk of the y neighbour's quarter. -/
theorem xDx (t : Fin 2) {j : ℕ} (hj : j = 17 + t.val) (hoff : off = ![256 * (2 * ck c t.val), 0]) :
    Xfer m j c (M5.slice (Rect.unit (s := S2048x2048) off S512x2048.size inb) hr) (M6.slice (Rect.unit (s := S2048x2048) off S512x2048.size inb) hr') sRL (QY m c) := by
  subst hj
  have e := cA_xn c ⟨t.val, by omega⟩
  refine Xfer.of m (n := xn c) (QY m c) (by fin_cases t <;> rfl) (by omega)
    ((set_whole_slice cc0_scratch5 _ _).trans (set_chunk _ hoff)) ((set_whole_slice cc0_scratch6 _ _).trans (set_chunk _ hoff))
    (by fin_cases t <;> rfl) (Eq.trans (b := iprop(∃ f, p6 (xn c) (cA (xn c) t.val) fullShare f)) (by fin_cases t <;> rfl) (by rw [e]; rfl))
    (Eq.trans (b := p6 (xn c) (cA (xn c) t.val) fullShare (QD m (xn c))) (by fin_cases t <;> rfl) (by rw [e, QD_xn]; rfl)) rfl
/-- Along y: a chunk of the x neighbour's quarter. -/
theorem xDy (t : Fin 2) {j : ℕ} (hj : j = 19 + t.val) (hoff : off = ![256 * (2 * ck c (t.val + 2)), 0]) :
    Xfer m j c (M4.slice (Rect.unit (s := S2048x2048) off S512x2048.size inb) hr) (M6.slice (Rect.unit (s := S2048x2048) off S512x2048.size inb) hr') sRL (QX m c) := by
  subst hj
  have e := cA_yn c ⟨t.val + 2, by omega⟩
  refine Xfer.of m (n := yn c) (QX m c) (by fin_cases t <;> rfl) (by omega)
    ((set_whole_slice cc0_scratch4 _ _).trans (set_chunk _ hoff)) ((set_whole_slice cc0_scratch6 _ _).trans (set_chunk _ hoff))
    (by fin_cases t <;> rfl) (Eq.trans (b := iprop(∃ f, p6 (yn c) (cA (yn c) (t.val + 2)) fullShare f)) (by fin_cases t <;> rfl) (by rw [e]; rfl))
    (Eq.trans (b := p6 (yn c) (cA (yn c) (t.val + 2)) fullShare (QD m (yn c))) (by fin_cases t <;> rfl) (by rw [e, QD_yn]; rfl)) rfl
/-- To the partner along z: half of a chunk of the x neighbour's quarter. -/
theorem xPx (hoff : off = ![256 * (2 * ck (pz c) 3 + 1 - (pz c).val % 2), 0]) :
    Xfer m 21 c (M4.slice (Rect.unit (s := S2048x2048) off S256x2048.size inbh) hr) (M4.slice (Rect.unit (s := S2048x2048) off S256x2048.size inbh) hr') sRR (QX m c) :=
  Xfer.of m (n := pz c) (QX m c) rfl (by decide)
    ((set_whole_slice cc0_scratch4 _ _).trans (set_block (n := 2048) _ hoff)) ((set_whole_slice cc0_scratch4 _ _).trans (set_block (n := 2048) _ hoff))
    rfl rfl (Eq.trans (b := p4 (pz c) (hB (pz c)) fullShare (QX m (pz c))) rfl (by rw [QX_pz]; rfl)) rfl
/-- To the partner along z: half of a chunk of the y neighbour's quarter. -/
theorem xPy (hoff : off = ![256 * (2 * ck (pz c) 3 + 1 - (pz c).val % 2), 0]) :
    Xfer m 22 c (M5.slice (Rect.unit (s := S2048x2048) off S256x2048.size inbh) hr) (M5.slice (Rect.unit (s := S2048x2048) off S256x2048.size inbh) hr') sRR (QY m c) :=
  Xfer.of m (n := pz c) (QY m c) rfl (by decide)
    ((set_whole_slice cc0_scratch5 _ _).trans (set_block (n := 2048) _ hoff)) ((set_whole_slice cc0_scratch5 _ _).trans (set_block (n := 2048) _ hoff))
    rfl rfl (Eq.trans (b := p5 (pz c) (hB (pz c)) fullShare (QY m (pz c))) rfl (by rw [QY_pz]; rfl)) rfl
end Rows

/-! ## The stores of the result -/

section Stores
variable {off offO : Fin 2 → ℕ} {inb : ∀ a, off a + S512x2048.size a ≤ S2048x2048.size a} {inbO : ∀ a, offO a + S512x2048.size a ≤ S8192x2048.size a} {hr hr'}

theorem set_chunkO {off : Fin 2 → ℕ} (q k : ℕ) (hoff : off = ![256 * (8 * q + 2 * k), 0]) {inb} :
    (Rect.unit (s := S8192x2048) off S512x2048.size inb).set = bk2 (oA q k) := by
  subst hoff; exact set_rows (8 * q + 2 * k) 2 rfl rfl rfl rfl

theorem Store.of {sp : Space} {t : ℕ} {src : Memref sig .tc sp S512x2048 .bf16} {q : PosShare TreeShare} {fs : Buf (Elt F) (src.view.loc (c : Thread nD τ))}
    {A : Finset (Idx (src.view.loc (c : Thread nD τ)))} (ht : t < 16) (hA : src.view.set = A)
    (hs : storeSrc m t c = (src.view.loc (c : Thread nD τ) ↦[A]{q} fs : sProp 𝕄))
    (hB : (Rect.unit (s := S8192x2048) offO S512x2048.size inbO).set = bk2 (oset c t))
    (hrd : (MO.slice (Rect.unit (s := S8192x2048) offO S512x2048.size inbO) hr').view.read (Elt F) (OUT m) = src.view.read (Elt F) fs) :
    Store m t c src (MO.slice (Rect.unit (s := S8192x2048) offO S512x2048.size inbO) hr') q fs := by
  subst hA
  have h := (set_whole_slice main_v1 (Rect.unit (s := S8192x2048) offO S512x2048.size inbO) hr').trans hB
  exact ⟨ht, hs, by rw [h]; rfl, fun fd => (land_eq _ c fullShare fd (OUT m) _ hrd).trans (by rw [h])⟩

/-- A quarter's chunk is the result's chunk. -/
theorem read_out (c' : Dev nD) (k : ℕ) (hk : k < 4) (hoff : off = ![256 * (2 * k), 0]) (hO : offO = ![256 * (8 * qd c' + 2 * k), 0]) :
    (fun j : S512x2048.Idx => OUT m ((rc2 (n := 8192) offO 512 inbO).emb j)) = fun j => Q m c' ((rc2 (n := 2048) off 512 inb).emb j) := by
  funext j
  have hj : (j 0).val < 512 := (j 0).isLt
  have : qd c' < 4 := by have : c'.val < 16 := c'.isLt; unfold qd; omega
  rw [emb2 (n := 8192) _ hO j (by omega), emb2 (n := 2048) _ hoff j (by omega)]
  unfold Q
  refine congrArg (OUT m) (congrArg (fun a : Fin 8192 => (ix2 a (j 1) : S8192x2048.Idx)) (Fin.ext ?_))
  show 256 * (8 * qd c' + 2 * k) + (j 0).val = 2048 * qd c' + (256 * (2 * k) + (j 0).val)
  omega

theorem ck_lt (t : ℕ) : ck c t < 4 := Nat.mod_lt _ (by decide)

theorem sOwn (t : Fin 4) (hoff : off = ![256 * (2 * ck c t.val), 0]) (hO : offO = ![256 * (8 * qd c + 2 * ck c t.val), 0]) {s : ℕ} (hs : s = t.val) :
    Store m s c (M3.slice (Rect.unit (s := S2048x2048) off S512x2048.size inb) hr) (MO.slice (Rect.unit (s := S8192x2048) offO S512x2048.size inbO) hr') sRRR (Q m c) := by
  subst hs
  exact Store.of m c (by omega) ((set_whole_slice cc0_scratch3 _ _).trans (set_chunk _ hoff)) (by fin_cases t <;> rfl)
    ((set_chunkO _ _ hO).trans (by fin_cases t <;> rfl)) (read_out m c _ (ck_lt c _) hoff hO)
theorem sX (t : Fin 4) (hoff : off = ![256 * (2 * ck c t.val), 0]) (hO : offO = ![256 * (8 * qd (xn c) + 2 * ck c t.val), 0]) {s : ℕ} (hs : s = 4 + 2 * t.val) :
    Store m s c (M4.slice (Rect.unit (s := S2048x2048) off S512x2048.size inb) hr) (MO.slice (Rect.unit (s := S8192x2048) offO S512x2048.size inbO) hr') sL (QX m c) := by
  subst hs
  exact Store.of m c (by omega) ((set_whole_slice cc0_scratch4 _ _).trans (set_chunk _ hoff)) (by fin_cases t <;> rfl)
    ((set_chunkO _ _ hO).trans (by fin_cases t <;> rfl)) (read_out m (xn c) _ (ck_lt c _) hoff hO)
theorem sY (t : Fin 4) (hoff : off = ![256 * (2 * ck c t.val), 0]) (hO : offO = ![256 * (8 * qd (yn c) + 2 * ck c t.val), 0]) {s : ℕ} (hs : s = 5 + 2 * t.val) :
    Store m s c (M5.slice (Rect.unit (s := S2048x2048) off S512x2048.size inb) hr) (MO.slice (Rect.unit (s := S8192x2048) offO S512x2048.size inbO) hr') sL (QY m c) := by
  subst hs
  exact Store.of m c (by omega) ((set_whole_slice cc0_scratch5 _ _).trans (set_chunk _ hoff)) (by fin_cases t <;> rfl)
    ((set_chunkO _ _ hO).trans (by fin_cases t <;> rfl)) (read_out m (yn c) _ (ck_lt c _) hoff hO)
theorem sD (t : Fin 4) (hoff : off = ![256 * (2 * ck c t.val), 0]) (hO : offO = ![256 * (8 * qd (xn (yn c)) + 2 * ck c t.val), 0]) {s : ℕ} (hs : s = 12 + t.val) :
    Store m s c (M6.slice (Rect.unit (s := S2048x2048) off S512x2048.size inb) hr) (MO.slice (Rect.unit (s := S8192x2048) offO S512x2048.size inbO) hr') fullShare (QD m c) := by
  subst hs
  exact Store.of m c (by omega) ((set_whole_slice cc0_scratch6 _ _).trans (set_chunk _ hoff)) (by fin_cases t <;> rfl)
    ((set_chunkO _ _ hO).trans (by fin_cases t <;> rfl)) (read_out m (xn (yn c)) _ (ck_lt c _) hoff hO)
end Stores

end Cert.AllReduce
-- ==== Proof.AllReduce.Local.lean ====
/-
# Loads, stores and copies within a device

What each load reads of the run's arrays, what each store leaves, and the copies that stage the operands.
-/
module

public import proofs.«01_k».proof.Proof.AllReduce.Moves

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev MG : Memref sig .tc .vmem S1x2048 .f32 := Memref.whole cc0_stg0_0

/-! ## Loads -/

section Loads
variable {c : Dev nD} {q : PosShare TreeShare}

/-- A load of a rectangle whose elements are held, by what the rectangle reads. -/
theorem load_rect {α : Type} {Q' : α → sProp 𝕄} {cs : CoreSpace} {s : Shape} {e : EltTy} (M : Memref sig .tc cs s e) (r : Rect s) {hl : M.view.LoadsAt r.toLoadRect}
    {k : (r.shape.Idx → Elt F e) → Prog (TpuEff nD τ sig (Elt F) Λ₀ .tc) α} (A : Finset (Idx ((M.access r).loc (c : Thread nD τ)))) (f : Buf (Elt F) ((M.access r).loc (c : Thread nD τ)))
    (w : r.shape.Idx → Elt F e) (hA : (M.access r).set ⊆ A) (hw : (M.access r).read (Elt F) f = w) :
    ((M.access r).loc (c : Thread nD τ) ↦[A]{q} f)
      ⊢ iprop((((M.access r).loc (c : Thread nD τ) ↦[A]{q} f) -∗ wp frame (wpE (defs₀ (F := F)) 𝒱₀ (c : Thread nD τ) none) Set.univ (k w) Q')
        -∗ wp frame (wpE (defs₀ (F := F)) 𝒱₀ (c : Thread nD τ) none) Set.univ (.op (.load M r.toLoadRect hl) k) Q') := by
  subst hw
  exact wp_load_rect (defs := defs₀ (F := F)) 𝒱₀ (c : Thread nD τ) none Set.univ (m := M) (r := r) (hl := hl) (k := k) (S := A) (q := q) (f := f) (Q := Q') hA

/-- Half of a slot of the staged partial sums. -/
theorem load0 {α : Type} {Q' : α → sProp 𝕄} {off : Fin 3 → ℕ} {inb : ∀ a, off a + S1x256x2048.size a ≤ S2x512x2048.size a} {hl}
    {k : (S1x256x2048.Idx → Elt F .f32) → Prog (TpuEff nD τ sig (Elt F) Λ₀ .tc) α} {X : S512x2048.Idx → Elt F .f32} (s h : Fin 2) (hoff : off = ![s.val, 256 * h.val, 0]) :
    p0 c (Finset.Ico (2 * s.val) (2 * s.val + 2)) q (slotC X)
      ⊢ iprop((p0 c (Finset.Ico (2 * s.val) (2 * s.val + 2)) q (slotC X) -∗ wp frame (wpE (defs₀ (F := F)) 𝒱₀ (c : Thread nD τ) none) Set.univ (k (half3 X h)) Q')
        -∗ wp frame (wpE (defs₀ (F := F)) 𝒱₀ (c : Thread nD τ) none) Set.univ
            (.op (.load M0 (Rect.unit (s := S2x512x2048) off S1x256x2048.size inb).toLoadRect hl) k) Q') :=
  load_rect M0 (Rect.unit (s := S2x512x2048) off S1x256x2048.size inb) _ (slotC X) (half3 X h) (((View.set_slice_whole cc0_scratch0 _).trans (set_half (n := 2) s.val h hoff)).subset.trans
    (bk3_mono (Finset.Ico_subset_Ico (by omega) (by have := h.isLt; omega)))) (half3_emb X s.val s.isLt h hoff)
/-- Half of a slot of the ring's buffer. -/
theorem load2 {α : Type} {Q' : α → sProp 𝕄} {off : Fin 3 → ℕ} {inb : ∀ a, off a + S1x256x2048.size a ≤ S3x512x2048.size a} {hl}
    {k : (S1x256x2048.Idx → Elt F .bf16) → Prog (TpuEff nD τ sig (Elt F) Λ₀ .tc) α} {X : S512x2048.Idx → Elt F .bf16} (s : Fin 3) (h : Fin 2) (hoff : off = ![s.val, 256 * h.val, 0])
    {j : ℕ} (hj : j = 2 * s.val + h.val) :
    p2 c (Finset.Ico j (j + 1)) q (slotC X)
      ⊢ iprop((p2 c (Finset.Ico j (j + 1)) q (slotC X) -∗ wp frame (wpE (defs₀ (F := F)) 𝒱₀ (c : Thread nD τ) none) Set.univ (k (half3 X h)) Q')
        -∗ wp frame (wpE (defs₀ (F := F)) 𝒱₀ (c : Thread nD τ) none) Set.univ
            (.op (.load M2 (Rect.unit (s := S3x512x2048) off S1x256x2048.size inb).toLoadRect hl) k) Q') := by
  subst hj
  exact load_rect M2 (Rect.unit (s := S3x512x2048) off S1x256x2048.size inb) _ (slotC X) (half3 X h) ((View.set_slice_whole cc0_scratch2 _).trans (set_half (n := 3) s.val h hoff)).subset (half3_emb X s.val s.isLt h hoff)
/-- Half of the residual's rows. -/
theorem load7 {α : Type} {Q' : α → sProp 𝕄} {off : Fin 2 → ℕ} {inb : ∀ a, off a + S256x2048.size a ≤ S512x2048.size a} {hl}
    {k : (S256x2048.Idx → Elt F .f32) → Prog (TpuEff nD τ sig (Elt F) Λ₀ .tc) α} {X : S512x2048.Idx → Elt F .f32} (h : Fin 2) (hoff : off = ![256 * h.val, 0]) :
    p7 c X
      ⊢ iprop((p7 c X -∗ wp frame (wpE (defs₀ (F := F)) 𝒱₀ (c : Thread nD τ) none) Set.univ (k (half2 X h)) Q')
        -∗ wp frame (wpE (defs₀ (F := F)) 𝒱₀ (c : Thread nD τ) none) Set.univ
            (.op (.load M7 (Rect.unit (s := S512x2048) off S256x2048.size inb).toLoadRect hl) k) Q') :=
  load_rect M7 (Rect.unit (s := S512x2048) off S256x2048.size inb) _ X (half2 X h) (Finset.subset_univ _) (half2_emb X h hoff)
/-- The scale. -/
theorem loadG {α : Type} {Q' : α → sProp 𝕄} {inb : ∀ a, (![0, 0] : Fin 2 → ℕ) a + S1x2048.size a ≤ S1x2048.size a} {hl}
    {k : (S1x2048.Idx → Elt F .f32) → Prog (TpuEff nD τ sig (Elt F) Λ₀ .tc) α} {X : S1x2048.Idx → Elt F .f32} :
    (((c : Thread nD τ).loc cc0_stg0_0) ↦{q} X)
      ⊢ iprop(((((c : Thread nD τ).loc cc0_stg0_0) ↦{q} X) -∗ wp frame (wpE (defs₀ (F := F)) 𝒱₀ (c : Thread nD τ) none) Set.univ (k X) Q')
        -∗ wp frame (wpE (defs₀ (F := F)) 𝒱₀ (c : Thread nD τ) none) Set.univ
            (.op (.load MG (Rect.unit (s := S1x2048) ![0, 0] S1x2048.size inb).toLoadRect hl) k) Q') :=
  load_rect MG (Rect.unit (s := S1x2048) ![0, 0] S1x2048.size inb) _ X X (Finset.subset_univ _)
    (Memref.read_access_unit_zero (Elt F) cc0_stg0_0 (funext fun a => by fin_cases a <;> rfl) _ X)
/-- The blocks a store is about to write, whatever they hold. -/
theorem load1 {α : Type} {Q' : α → sProp 𝕄} {off : Fin 2 → ℕ} {inb : ∀ a, off a + S256x2048.size a ≤ S512x2048.size a} {hl}
    {k : (S256x2048.Idx → Elt F .bf16) → Prog (TpuEff nD τ sig (Elt F) Λ₀ .tc) α} {f : S512x2048.Idx → Elt F .bf16} (h : Fin 2) (hoff : off = ![256 * h.val, 0]) :
    p1 c (Finset.Ico h.val (h.val + 1)) q f
      ⊢ iprop((p1 c (Finset.Ico h.val (h.val + 1)) q f -∗ ∀ w, wp frame (wpE (defs₀ (F := F)) 𝒱₀ (c : Thread nD τ) none) Set.univ (k w) Q')
        -∗ wp frame (wpE (defs₀ (F := F)) 𝒱₀ (c : Thread nD τ) none) Set.univ
            (.op (.load M1 (Rect.unit (s := S512x2048) off S256x2048.size inb).toLoadRect hl) k) Q') := by
  iintro H Hk
  iapply (load_rect (c := c) (q := q) M1 (Rect.unit (s := S512x2048) off S256x2048.size inb) _ f _
    ((View.set_slice_whole cc0_scratch1 _).trans (set_block (n := 512) h.val hoff)).subset rfl) $$ H
  iintro H
  ihave Hk' := Hk $$ H
  iapply Hk'
theorem load3 {α : Type} {Q' : α → sProp 𝕄} {off : Fin 2 → ℕ} {inb : ∀ a, off a + S256x2048.size a ≤ S2048x2048.size a} {hl}
    {k : (S256x2048.Idx → Elt F .bf16) → Prog (TpuEff nD τ sig (Elt F) Λ₀ .tc) α} {f : S2048x2048.Idx → Elt F .bf16} (a : ℕ) (hoff : off = ![256 * a, 0]) :
    p3 c (Finset.Ico a (a + 1)) q f
      ⊢ iprop((p3 c (Finset.Ico a (a + 1)) q f -∗ ∀ w, wp frame (wpE (defs₀ (F := F)) 𝒱₀ (c : Thread nD τ) none) Set.univ (k w) Q')
        -∗ wp frame (wpE (defs₀ (F := F)) 𝒱₀ (c : Thread nD τ) none) Set.univ
            (.op (.load M3 (Rect.unit (s := S2048x2048) off S256x2048.size inb).toLoadRect hl) k) Q') := by
  iintro H Hk
  iapply (load_rect (c := c) (q := q) M3 (Rect.unit (s := S2048x2048) off S256x2048.size inb) _ f _
    ((View.set_slice_whole cc0_scratch3 _).trans (set_block (n := 2048) a hoff)).subset rfl) $$ H
  iintro H
  ihave Hk' := Hk $$ H
  iapply Hk'

end Loads

/-! ## Stores -/

section Stores
variable (m : (ℓ : Loc nD τ sig) → Buf (Elt F) ℓ) {c : Dev nD}

/-- A store to exactly the elements held leaves any contents that read as what was stored. -/
theorem store_rect {α : Type} {Q' : α → sProp 𝕄} {cs : CoreSpace} {s : Shape} {e : EltTy} (M : Memref sig .tc cs s e) (r : Rect s) (w : r.shape.Idx → Elt F e) {hx : (M.access r).Stores Finset.univ} {hm}
    {k : PUnit → Prog (TpuEff nD τ sig (Elt F) Λ₀ .tc) α} (A : Finset (Idx ((M.access r).loc (c : Thread nD τ)))) (f : Buf (Elt F) ((M.access r).loc (c : Thread nD τ)))
    (G : Buf (Elt F) ((M.access r).loc (c : Thread nD τ))) (hA : (M.access r).set = A) (hw : (M.access r).read (Elt F) G = w) :
    ((M.access r).loc (c : Thread nD τ) ↦[A]{fullShare} f)
      ⊢ iprop((((M.access r).loc (c : Thread nD τ) ↦[A]{fullShare} G) -∗ wp frame (wpE (defs₀ (F := F)) 𝒱₀ (c : Thread nD τ) none) Set.univ (k ⟨⟩) Q')
        -∗ wp frame (wpE (defs₀ (F := F)) 𝒱₀ (c : Thread nD τ) none) Set.univ (.op (.store M r w Finset.univ hx hm) k) Q') := by
  subst hA
  rw [← land_eq (M.access r) c fullShare f G w hw]
  exact wp_store (defs := defs₀ (F := F)) 𝒱₀ (c : Thread nD τ) none Set.univ (m := M) (r := r) (w := w) (hx := hx) (hm := hm) (k := k)
    (S := (M.access r).set) (f := f) (Q := Q') (Finset.Subset.refl _)

theorem store1 {α : Type} {Q' : α → sProp 𝕄} {off : Fin 2 → ℕ} {inb : ∀ a, off a + S256x2048.size a ≤ S512x2048.size a} {hx hm} {w : S256x2048.Idx → Elt F .bf16}
    {k : PUnit → Prog (TpuEff nD τ sig (Elt F) Λ₀ .tc) α} {f : S512x2048.Idx → Elt F .bf16} (h : Fin 2) (hoff : off = ![256 * h.val, 0])
    (hw : w = k0_pay3 (half3 (PC m 1 c) h)) :
    p1 c (Finset.Ico h.val (h.val + 1)) fullShare f
      ⊢ iprop((p1 c (Finset.Ico h.val (h.val + 1)) fullShare (S0 m c) -∗ wp frame (wpE (defs₀ (F := F)) 𝒱₀ (c : Thread nD τ) none) Set.univ (k ⟨⟩) Q')
        -∗ wp frame (wpE (defs₀ (F := F)) 𝒱₀ (c : Thread nD τ) none) Set.univ
            (.op (.store M1 (Rect.unit (s := S512x2048) off S256x2048.size inb) w Finset.univ hx hm) k) Q') :=
  store_rect M1 (Rect.unit (s := S512x2048) off S256x2048.size inb) w _ f (S0 m c) ((View.set_slice_whole cc0_scratch1 _).trans (set_block (n := 512) h.val hoff))
    ((half2_emb (S0 m c) h hoff).trans ((half2_glue2 _ h).trans hw.symm))
/-- A step of the ring adds the partial sums of a chunk to what was received. -/
theorem store2 {α : Type} {Q' : α → sProp 𝕄} {off : Fin 3 → ℕ} {inb : ∀ a, off a + S1x256x2048.size a ≤ S3x512x2048.size a} {hx hm} {w : S1x256x2048.Idx → Elt F .bf16}
    {k : PUnit → Prog (TpuEff nD τ sig (Elt F) Λ₀ .tc) α} {f : S3x512x2048.Idx → Elt F .bf16} (s h : Fin 2) (hoff : off = ![s.val, 256 * h.val, 0])
    (hw : w = k0_pay4 (half3 (RCV m s.val c) h) (half3 (PC m (s.val + 2) c) h)) {j : ℕ} (hj : j = 2 * s.val + h.val) :
    p2 c (Finset.Ico j (j + 1)) fullShare f
      ⊢ iprop((p2 c (Finset.Ico j (j + 1)) fullShare (slotC (ACC m s.val c)) -∗ wp frame (wpE (defs₀ (F := F)) 𝒱₀ (c : Thread nD τ) none) Set.univ (k ⟨⟩) Q')
        -∗ wp frame (wpE (defs₀ (F := F)) 𝒱₀ (c : Thread nD τ) none) Set.univ
            (.op (.store M2 (Rect.unit (s := S3x512x2048) off S1x256x2048.size inb) w Finset.univ hx hm) k) Q') := by
  subst hj
  refine store_rect M2 (Rect.unit (s := S3x512x2048) off S1x256x2048.size inb) w _ f (slotC (ACC m s.val c)) ((View.set_slice_whole cc0_scratch2 _).trans (set_half (n := 3) s.val h hoff))
    ((half3_emb (ACC m s.val c) s.val (by have := s.isLt; omega) h hoff).trans (Eq.trans ?_ hw.symm))
  fin_cases s
  · exact half3_glue3 (fun h => k0_pay4 (half3 (R0 m c) h) (half3 (PC m 2 c) h)) h
  · exact half3_glue3 (fun h => k0_pay4 (half3 (R1 m c) h) (half3 (PC m 3 c) h)) h
/-- The normalised rows. -/
theorem store3 {α : Type} {Q' : α → sProp 𝕄} {off : Fin 2 → ℕ} {inb : ∀ a, off a + S256x2048.size a ≤ S2048x2048.size a} {hx hm} {w : S256x2048.Idx → Elt F .bf16}
    {k : PUnit → Prog (TpuEff nD τ sig (Elt F) Λ₀ .tc) α} {f : S2048x2048.Idx → Elt F .bf16} (h : Fin 2) (hoff : off = ![256 * (2 * ck c 0 + h.val), 0])
    (hw : w = k0_pay10 (half3 (RCV m 2 c) h) (half3 (PC m 0 c) h) (half2 (RES m c) h) (a2 m c)) :
    p3 c (Finset.Ico (2 * ck c 0 + h.val) (2 * ck c 0 + h.val + 1)) fullShare f
      ⊢ iprop((p3 c (Finset.Ico (2 * ck c 0 + h.val) (2 * ck c 0 + h.val + 1)) fullShare (Q m c) -∗ wp frame (wpE (defs₀ (F := F)) 𝒱₀ (c : Thread nD τ) none) Set.univ (k ⟨⟩) Q')
        -∗ wp frame (wpE (defs₀ (F := F)) 𝒱₀ (c : Thread nD τ) none) Set.univ
            (.op (.store M3 (Rect.unit (s := S2048x2048) off S256x2048.size inb) w Finset.univ hx hm) k) Q') := by
  refine store_rect M3 (Rect.unit (s := S2048x2048) off S256x2048.size inb) w _ f (Q m c) ((View.set_slice_whole cc0_scratch3 _).trans (set_block (n := 2048) _ hoff)) ?_
  funext j
  have hj : (j 0).val < 256 := (j 0).isLt
  have hk : ck c 0 < 4 := ck_lt c 0
  have := h.isLt
  refine (Q_own m c h j _ ?_ ?_).trans (congrFun hw.symm j)
  · exact congrArg (fun i : S2048x2048.Idx => (i 0).val) (emb2 (n := 2048) _ hoff j (by omega))
  · exact congrArg (fun i : S2048x2048.Idx => (i 1).val) (emb2 (n := 2048) _ hoff j (by omega))

end Stores

/-! ## Copies of the operands -/

section Pays
variable (m : (ℓ : Loc nD τ sig) → Buf (Elt F) ℓ) (c : Dev nD)

theorem pay_loc (k : ℕ) (hk : k < 3) (r : ℕ) : dmaPay m c (47 + k) r = locPay m k r c := by
  unfold dmaPay; rw [if_neg (by omega), if_neg (by omega), if_pos (by omega), Nat.add_sub_cancel_left]
theorem pay_0 (r : ℕ) : dmaPay m c 47 r = p0 c (Finset.Ico 0 2) fullShare (slotC (PC m (if r = 0 then 1 else 3) c)) :=
  (pay_loc m c 0 (by omega) r).trans (if_pos rfl)
theorem pay_1 (r : ℕ) : dmaPay m c 48 r = p0 c (Finset.Ico 2 4) fullShare (slotC (PC m (if r = 0 then 2 else 0) c)) :=
  (pay_loc m c 1 (by omega) r).trans ((if_neg (by omega)).trans (if_pos rfl))
theorem pay_res : dmaPay m c 49 0 = p7 c (RES m c) :=
  (pay_loc m c 2 (by omega) 0).trans ((if_neg (by omega)).trans (if_neg (by omega)))

end Pays

section Copies
variable (m : (ℓ : Loc nD τ sig) → Buf (Elt F) ℓ) (K : Dev nD × Fin 66 → ℕ) {c : Dev nD}

/-- A share of each operand in the main memory, not all of it lent. -/
def argP (c : Dev nD) : sProp 𝕄 := iprop(∃ q, ((c : Thread nD τ).loc main_arg0) ↦{q} (a0 m c))
def argR (c : Dev nD) : sProp 𝕄 := iprop(∃ q, ((c : Thread nD τ).loc main_arg1) ↦{q} (a1 m c))

/-- Of a share of a buffer one half stays whole, and the other is cut down to the elements lent. -/
theorem lend {ℓ : Loc nD τ sig} (A : Finset (Idx ℓ)) (q : PosShare TreeShare) (f : Buf (Elt F) ℓ) :
    (ℓ ↦{q} f : sProp 𝕄) ⊢ iprop((ℓ ↦{q.left} f) ∗ ℓ ↦[A]{q.right} f) :=
  (pointsTo_share (PosShare.mem_left_op_right q)).1.trans
    (BI.sep_mono (BI.Entails.refl _) ((pointsTo_split_subset (Finset.subset_univ A)).1.trans (by iintro ⟨H, -⟩; iexact H)))

/-- A copy of 512 of the device's partial sums into a slot. -/
theorem copyP {α : Type} {Q' : α → sProp 𝕄} {off offd : Fin 3 → ℕ} {inb : ∀ a, off a + S1x512x2048.size a ≤ S1x8192x2048.size a} {inbd : ∀ a, offd a + S1x512x2048.size a ≤ S2x512x2048.size a}
    {hr hq hr' hq'} {sm : DmaSem sig} {hsrc hdst} {hsem : DmaTarget.Typed (nD := nD) (τ := τ) (p := .tc) .hbm (.dma sm) (.here ((M0.slice (Rect.unit (s := S2x512x2048) offd S1x512x2048.size inbd) hr').squeeze S512x2048 hq'))} {k : PUnit → Prog (TpuEff nD τ sig (Elt F) Λ₀ .tc) α}
    (s : Fin 2) (r t : ℕ) {i : ℕ} (hi : i = 47 + s.val) (hsm : sm = dsem i) (hrr : r = 0 ∨ r = 1) (hd : offd = ![s.val, 0, 0])
    (hoff : off = ![0, 2048 * qd c + 512 * ck c t, 0]) (hpay : dmaPay m c i r = p0 c (Finset.Ico (2 * s.val) (2 * s.val + 2)) fullShare (slotC (PC m t c)))
    {fd : S2x512x2048.Idx → Elt F .f32} :
    iprop(recs m K ∗ argP m c ∗ p0 c (Finset.Ico (2 * s.val) (2 * s.val + 2)) fullShare fd ∗ dutyTok ER (dcell c i) r (0 : Fin 4) ∗ reached ER (dcell c i) r)
      ⊢ iprop(((argP m c ∗ cred (tallyAt (dcell c i) () (amt i))) -∗ wp frame (wpE (defs₀ (F := F)) 𝒱₀ (c : Thread nD τ) none) Set.univ (k ⟨⟩) Q')
        -∗ wp frame (wpE (defs₀ (F := F)) 𝒱₀ (c : Thread nD τ) none) Set.univ
            (.op (.enqueueDma ((MP.slice (Rect.unit (s := S1x8192x2048) off S1x512x2048.size inb) hr).squeeze S512x2048 hq)
              (.here ((M0.slice (Rect.unit (s := S2x512x2048) offd S1x512x2048.size inbd) hr').squeeze S512x2048 hq')) (.dma sm) hsrc hdst hsem) k) Q') := by
  have hs := s.isLt
  have hset := (set_whole_squeeze cc0_scratch0 (Rect.unit (s := S2x512x2048) offd S1x512x2048.size inbd) hr' hq').trans (set_full (n := 2) s.val hd)
  unfold argP
  iintro ⟨#Hr, ⟨%q, HA⟩, Hd, Ht, Hre⟩ Hk
  ihave HA' := (lend ((MP.slice (Rect.unit (s := S1x8192x2048) off S1x512x2048.size inb) hr).squeeze S512x2048 hq).view.set q (a0 m c)) $$ HA
  icases HA' with ⟨HA, HB⟩
  have hcp := copy_step (m := m) (k := k) (Q := Q') K c (i := i) (r := r) (by omega) (by omega) hsm (by omega) (sm := sm)
    (src := (MP.slice (Rect.unit (s := S1x8192x2048) off S1x512x2048.size inb) hr).squeeze S512x2048 hq)
    (dst := (M0.slice (Rect.unit (s := S2x512x2048) offd S1x512x2048.size inbd) hr').squeeze S512x2048 hq')
    (hsrc := hsrc) (hdst := hdst) (hsem := hsem)
    (q := q.right) (fs := a0 m c) (fd := fd)
    (by subst hi; rcases (by omega : s = 0 ∨ s = 1) with rfl | rfl <;> rfl)
    (by
      rw [land_eq (((M0.slice (Rect.unit (s := S2x512x2048) offd S1x512x2048.size inbd) hr').squeeze S512x2048 hq').view) c fullShare fd (slotC (PC m t c))
          (((MP.slice (Rect.unit (s := S1x8192x2048) off S1x512x2048.size inb) hr).squeeze S512x2048 hq).view.read (Elt F) (a0 m c))
          ((squeeze_slot (n := 2) (PC m t c) s.val hs hd castsF).trans (squeeze_part (a0 m c) _ (row_lt c t) hoff castsF).symm), hset, hpay]
      iintro ⟨H, -⟩
      iexact H)
  rw [hset] at hcp
  iapply hcp $$ [HB Hd Ht Hre]
  · isplitr; · iexact Hr
    isplitl [HB]; · iexact HB
    isplitl [Hd]; · iexact Hd
    isplitl [Ht] <;> iassumption
  iintro Hc
  iapply Hk
  isplitl [HA]
  · iexists q.left; iexact HA
  iexact Hc

theorem read_res {off : Fin 2 → ℕ} {inb : ∀ a, off a + S512x2048.size a ≤ S8192x2048.size a} {hr} (hoff : off = ![2048 * qd c + 512 * ck c 0, 0]) :
    (MR.slice (Rect.unit (s := S8192x2048) off S512x2048.size inb) hr).view.read (Elt F) (a1 m c) = RES m c := by
  funext j
  exact congrArg (a1 m c) (emb2 (n := 8192) (k := 512) _ hoff j (row_lt c 0 (j 0)))
theorem credit_res : (M7 : Memref sig .tc .vmem S512x2048 .f32).view.dmaCredit = amt 49 := rfl

/-- The copy of the residual's rows. -/
theorem copyR {α : Type} {Q' : α → sProp 𝕄} {off : Fin 2 → ℕ} {inb : ∀ a, off a + S512x2048.size a ≤ S8192x2048.size a}
    {sm : DmaSem sig} {hr hsrc hdst} {hsem : DmaTarget.Typed (nD := nD) (τ := τ) (p := .tc) .hbm (.dma sm) (.here M7)} {k : PUnit → Prog (TpuEff nD τ sig (Elt F) Λ₀ .tc) α}
    (hsm : sm = dsem 49) (hoff : off = ![2048 * qd c + 512 * ck c 0, 0]) {fd : S512x2048.Idx → Elt F .f32} :
    iprop(recs m K ∗ argR m c ∗ p7 c fd ∗ dutyTok ER (dcell c 49) 0 (0 : Fin 4))
      ⊢ iprop(((argR m c ∗ cred (tallyAt (dcell c 49) () (amt 49))) -∗ wp frame (wpE (defs₀ (F := F)) 𝒱₀ (c : Thread nD τ) none) Set.univ (k ⟨⟩) Q')
        -∗ wp frame (wpE (defs₀ (F := F)) 𝒱₀ (c : Thread nD τ) none) Set.univ
            (.op (.enqueueDma (MR.slice (Rect.unit (s := S8192x2048) off S512x2048.size inb) hr) (.here M7) (.dma sm) hsrc hdst hsem) k) Q') := by
  unfold argR
  iintro ⟨#Hr, ⟨%q, HA⟩, Hd, Ht⟩ Hk
  ihave HA' := (lend (MR.slice (Rect.unit (s := S8192x2048) off S512x2048.size inb) hr).view.set q (a1 m c)) $$ HA
  icases HA' with ⟨HA, HB⟩
  have hset : (M7 : Memref sig .tc .vmem S512x2048 .f32).view.set = Finset.univ := View.set_whole cc0_scratch7
  have hcp := copy_step (m := m) (k := k) (Q := Q') K c (i := 49) (r := 0) (by omega) (by omega) hsm (by omega) (sm := sm)
    (src := MR.slice (Rect.unit (s := S8192x2048) off S512x2048.size inb) hr) (dst := M7)
    (hsrc := hsrc) (hdst := hdst) (hsem := hsem)
    (q := q.right) (fs := a1 m c) (fd := fd) credit_res
    (by
      rw [land_eq (M7 : Memref sig .tc .vmem S512x2048 .f32).view c fullShare fd (RES m c)
        ((MR.slice (Rect.unit (s := S8192x2048) off S512x2048.size inb) hr).view.read (Elt F) (a1 m c)) (read_res m hoff).symm, hset, pay_res]
      iintro ⟨H, -⟩
      iexact H)
  rw [hset] at hcp
  iapply hcp $$ [HB Hd Ht]
  · isplitr; · iexact Hr
    isplitl [HB]; · iexact HB
    isplitl [Hd]; · iexact Hd
    isplitl [Ht]; · iexact Ht
    iapply (recs_reached m K c 49 (by omega) (by omega)); iexact Hr
  iintro Hc
  iapply Hk
  isplitl [HA]
  · iexists q.left; iexact HA
  iexact Hc

end Copies

end Cert.AllReduce
-- ==== Proof.AllReduce.Parts.lean ====
/-
# The program's parts

How the parts of the kernel's body are stated: on the buffers of the launch, each from what it needs to what it leaves.
-/
module

public import proofs.«01_k».proof.Proof.AllReduce.Local

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A function of the body's arguments at the launch's buffers and semaphores. -/
abbrev onArgs {β : Type 1} (f : (arg0 : Memref sig .tc .hbm S1x8192x2048 .f32) → arg0.IsWhole → (arg1 : Memref sig .tc .hbm S8192x2048 .f32) → arg1.IsWhole
    → (arg2 : Memref sig .tc .vmem S1x2048 .f32) → arg2.IsWhole → (arg3 : Memref sig .tc .hbm S8192x2048 .bf16) → arg3.IsWhole
    → (arg4 : Memref sig .tc .vmem S2x512x2048 .f32) → arg4.IsWhole → (arg5 : Memref sig .tc .vmem S512x2048 .bf16) → arg5.IsWhole
    → (arg6 : Memref sig .tc .vmem S3x512x2048 .bf16) → arg6.IsWhole → (arg7 : Memref sig .tc .vmem S2048x2048 .bf16) → arg7.IsWhole
    → (arg8 : Memref sig .tc .vmem S2048x2048 .bf16) → arg8.IsWhole → (arg9 : Memref sig .tc .vmem S2048x2048 .bf16) → arg9.IsWhole
    → (arg10 : Memref sig .tc .vmem S2048x2048 .bf16) → arg10.IsWhole → (arg11 : Memref sig .tc .vmem S512x2048 .f32) → arg11.IsWhole
    → DmaSems sig S23 → DmaSems sig S23 → DmaSems sig S3 → DmaSems sig S16 → β) : β :=
  f (Memref.whole main_arg0) (Memref.isWhole_whole _) (Memref.whole main_arg1) (Memref.isWhole_whole _) (Memref.whole cc0_stg0_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11

/-- What makes device `c`'s program end in `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The claim to the end of transfer `j`'s reading, of store `t`, of local copy `k`. -/
abbrev crd (c : Dev nD) (j : ℕ) : sProp 𝕄 := cred (tallyAt (dcell c (1 + j)) () (amtJ j))
abbrev crdS (c : Dev nD) (t : ℕ) : sProp 𝕄 := cred (tallyAt (dcell c (50 + t)) () N16)
abbrev crdL (c : Dev nD) (i : ℕ) : sProp 𝕄 := cred (tallyAt (dcell c i) () (amt i))

theorem WP_ret {α : Type} {c : Dev nD} {a : α} {Q : α → sProp 𝕄} : Q a ⊢ WP c (.ret a) Q := le_wp_ret _ _ _ a Q

/-! ## The stores, by the buffer they read -/

section Stores
variable {m : (ℓ : Loc nD τ sig) → Buf (Elt F) ℓ} (K : Dev nD × Fin 66 → ℕ) (c : Dev nD)
variable {off offO : Fin 2 → ℕ} {inb : ∀ a, off a + S512x2048.size a ≤ S2048x2048.size a} {inbO : ∀ a, offO a + S512x2048.size a ≤ S8192x2048.size a} {hr hr'}

theorem credit_out : (MO.slice (Rect.unit (s := S8192x2048) offO S512x2048.size inbO) hr').view.dmaCredit = N16 := rfl

theorem store_own {α : Type} {Q' : α → sProp 𝕄} {sm : DmaSem sig}
    {hsem : DmaTarget.Typed (nD := nD) (τ := τ) (p := .tc) .vmem (.dma sm) (.here (MO.slice (Rect.unit (s := S8192x2048) offO S512x2048.size inbO) hr'))}
    {k : PUnit → Prog (TpuEff nD τ sig (Elt F) Λ₀ .tc) α} {hsrc hdst} (t : Fin 4) (n w s : ℕ) (hs : s = t.val)
    (hoff : off = ![256 * (2 * ck c t.val), 0]) (hO : offO = ![256 * (8 * qd c + 2 * ck c t.val), 0]) (hsm : sm = dsem (50 + s)) :
    iprop(St m K c n w s ∗ storeSrc m s c)
      ⊢ iprop(((St m K c n w (s + 1) ∗ crdS c s) -∗ WP c (k ⟨⟩) Q')
        -∗ WP c (.op (.enqueueDma (M3.slice (Rect.unit (s := S2048x2048) off S512x2048.size inb) hr)
            (.here (MO.slice (Rect.unit (s := S8192x2048) offO S512x2048.size inbO) hr')) (.dma sm) hsrc hdst hsem) k) Q') :=
  store_step K c (sOwn m c t hoff hO hs) hsm credit_out n w
theorem store_x {α : Type} {Q' : α → sProp 𝕄} {sm : DmaSem sig}
    {hsem : DmaTarget.Typed (nD := nD) (τ := τ) (p := .tc) .vmem (.dma sm) (.here (MO.slice (Rect.unit (s := S8192x2048) offO S512x2048.size inbO) hr'))}
    {k : PUnit → Prog (TpuEff nD τ sig (Elt F) Λ₀ .tc) α} {hsrc hdst} (t : Fin 4) (n w s : ℕ) (hs : s = 4 + 2 * t.val)
    (hoff : off = ![256 * (2 * ck c t.val), 0]) (hO : offO = ![256 * (8 * qd (xn c) + 2 * ck c t.val), 0]) (hsm : sm = dsem (50 + s)) :
    iprop(St m K c n w s ∗ storeSrc m s c)
      ⊢ iprop(((St m K c n w (s + 1) ∗ crdS c s) -∗ WP c (k ⟨⟩) Q')
        -∗ WP c (.op (.enqueueDma (M4.slice (Rect.unit (s := S2048x2048) off S512x2048.size inb) hr)
            (.here (MO.slice (Rect.unit (s := S8192x2048) offO S512x2048.size inbO) hr')) (.dma sm) hsrc hdst hsem) k) Q') :=
  store_step K c (sX m c t hoff hO hs) hsm credit_out n w
theorem store_y {α : Type} {Q' : α → sProp 𝕄} {sm : DmaSem sig}
    {hsem : DmaTarget.Typed (nD := nD) (τ := τ) (p := .tc) .vmem (.dma sm) (.here (MO.slice (Rect.unit (s := S8192x2048) offO S512x2048.size inbO) hr'))}
    {k : PUnit → Prog (TpuEff nD τ sig (Elt F) Λ₀ .tc) α} {hsrc hdst} (t : Fin 4) (n w s : ℕ) (hs : s = 5 + 2 * t.val)
    (hoff : off = ![256 * (2 * ck c t.val), 0]) (hO : offO = ![256 * (8 * qd (yn c) + 2 * ck c t.val), 0]) (hsm : sm = dsem (50 + s)) :
    iprop(St m K c n w s ∗ storeSrc m s c)
      ⊢ iprop(((St m K c n w (s + 1) ∗ crdS c s) -∗ WP c (k ⟨⟩) Q')
        -∗ WP c (.op (.enqueueDma (M5.slice (Rect.unit (s := S2048x2048) off S512x2048.size inb) hr)
            (.here (MO.slice (Rect.unit (s := S8192x2048) offO S512x2048.size inbO) hr')) (.dma sm) hsrc hdst hsem) k) Q') :=
  store_step K c (sY m c t hoff hO hs) hsm credit_out n w
theorem store_d {α : Type} {Q' : α → sProp 𝕄} {sm : DmaSem sig}
    {hsem : DmaTarget.Typed (nD := nD) (τ := τ) (p := .tc) .vmem (.dma sm) (.here (MO.slice (Rect.unit (s := S8192x2048) offO S512x2048.size inbO) hr'))}
    {k : PUnit → Prog (TpuEff nD τ sig (Elt F) Λ₀ .tc) α} {hsrc hdst} (t : Fin 4) (n w s : ℕ) (hs : s = 12 + t.val)
    (hoff : off = ![256 * (2 * ck c t.val), 0]) (hO : offO = ![256 * (8 * qd (xn (yn c)) + 2 * ck c t.val), 0]) (hsm : sm = dsem (50 + s)) :
    iprop(St m K c n w s ∗ storeSrc m s c)
      ⊢ iprop(((St m K c n w (s + 1) ∗ crdS c s) -∗ WP c (k ⟨⟩) Q')
        -∗ WP c (.op (.enqueueDma (M6.slice (Rect.unit (s := S2048x2048) off S512x2048.size inb) hr)
            (.here (MO.slice (Rect.unit (s := S8192x2048) offO S512x2048.size inbO) hr')) (.dma sm) hsrc hdst hsem) k) Q') :=
  store_step K c (sD m c t hoff hO hs) hsm credit_out n w

end Stores

end Cert.AllReduce
-- ==== Proof.AllReduce.Shares.lean ====
/-
# How the gathered quarters are lent

The own quarter is read by the ring, by the copies along x and y and by the stores at the same time; the neighbours'
quarters by the copies onward, by the swap along z and by the stores.  A chunk splits into one share for each of them.
-/
module

public import proofs.«01_k».proof.Proof.AllReduce.Parts

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

section Split
variable {ℓ : Loc nD τ sig} {I : Finset (Idx ℓ)} {f : Buf (Elt F) ℓ}

/-- Full ownership in three shares. -/
theorem split3 : (ℓ ↦[I]{fullShare} f : sProp 𝕄) ⊣⊢ iprop((ℓ ↦[I]{sL} f) ∗ (ℓ ↦[I]{sRL} f) ∗ (ℓ ↦[I]{sRR} f)) :=
  (pointsTo_share (PosShare.mem_left_op_right fullShare)).trans (sep_congr_right (pointsTo_share (PosShare.mem_left_op_right sR)))
/-- Full ownership in four shares. -/
theorem split4 : (ℓ ↦[I]{fullShare} f : sProp 𝕄) ⊣⊢ iprop((ℓ ↦[I]{sL} f) ∗ (ℓ ↦[I]{sRL} f) ∗ (ℓ ↦[I]{sRRL} f) ∗ (ℓ ↦[I]{sRRR} f)) :=
  split3.trans (sep_congr_right (sep_congr_right (pointsTo_share (PosShare.mem_left_op_right sRR))))

end Split

/-- A chunk of the own quarter that goes along z, x and y and to the result. -/
theorem splitQ (t : Fin 3) : p3 c (cA c t.val) fullShare (Q m c) ⊣⊢ iprop(sendPay m (6 + t.val) c ∗ sendPay m (9 + t.val) c ∗ sendPay m (13 + t.val) c ∗ storeSrc m t.val c) := by
  fin_cases t <;> exact split4

theorem pieces {ℓ : Loc nD τ sig} {A B C : Finset (Idx ℓ)} {q : PosShare TreeShare} {f : Buf (Elt F) ℓ} (h : A ∪ B = C) (hd : Disjoint A B) :
    (ℓ ↦[C]{q} f : sProp 𝕄) ⊣⊢ iprop((ℓ ↦[A]{q} f) ∗ (ℓ ↦[B]{q} f)) := by
  subst h; exact pointsTo_union hd

theorem bk2_halves {n : ℕ} : (bk2 (hA c) ∪ bk2 (hB c) : Finset (⟨2, ![n, 2048]⟩ : Shape).Idx) = bk2 (cA c 3) := by rw [← bk2_union, halves]
theorem bk2_halves_disjoint {n : ℕ} : Disjoint (bk2 (hA c) : Finset (⟨2, ![n, 2048]⟩ : Shape).Idx) (bk2 (hB c)) := bk2_disjoint (halves_disjoint c)

/-- The last chunk, of which only one half goes along x and y. -/
theorem splitQ3 : p3 c (cA c 3) fullShare (Q m c) ⊣⊢ iprop(p3 c (cA c 3) sL (Q m c) ∗ (sendPay m 12 c ∗ p3 c (hB c) sRL (Q m c))
    ∗ (sendPay m 16 c ∗ p3 c (hB c) sRRL (Q m c)) ∗ storeSrc m 3 c) :=
  split4.trans (sep_congr_right (sep_congr (pieces (bk2_halves c) (bk2_halves_disjoint c))
    (sep_congr_left (pieces (bk2_halves c) (bk2_halves_disjoint c)))))

/-- A chunk of a neighbour's quarter: to the result, onward, and to the swap. -/
theorem splitX (t : Fin 3) : recvPay m (9 + t.val) c ⊣⊢ iprop(storeSrc m (4 + 2 * t.val) c ∗ p4 c (cA c t.val) sRL (QX m c) ∗ p4 c (cA c t.val) sRR (QX m c)) := by
  fin_cases t <;> exact split3
theorem splitY (t : Fin 3) : recvPay m (13 + t.val) c ⊣⊢ iprop(storeSrc m (5 + 2 * t.val) c ∗ p5 c (cA c t.val) sRL (QY m c) ∗ p5 c (cA c t.val) sRR (QY m c)) := by
  fin_cases t <;> exact split3
/-- The shares that go on along the other axis are those the transfers 17, 18 and 19 ask for. -/
theorem splitY_on (t : Fin 2) : recvPay m (13 + t.val) c ⊣⊢ iprop(storeSrc m (5 + 2 * t.val) c ∗ sendPay m (17 + t.val) c ∗ p5 c (cA c t.val) sRR (QY m c)) := by
  fin_cases t <;> exact split3
theorem splitX_on : recvPay m 11 c ⊣⊢ iprop(storeSrc m 8 c ∗ sendPay m 19 c ∗ p4 c (cA c 2) sRR (QX m c)) := split3
/-- The last chunk, which arrives in two halves. -/
theorem splitX3 : iprop(recvPay m 12 c ∗ recvPay m 21 c) ⊣⊢ iprop(storeSrc m 10 c ∗ sendPay m 20 c ∗ p4 c (cA c 3) sRR (QX m c)) :=
  BiEntails.trans (BiEntails.symm (pieces (bk2_halves c) (bk2_halves_disjoint c))) split3
theorem splitY3 : iprop(recvPay m 16 c ∗ recvPay m 22 c) ⊣⊢ iprop(storeSrc m 11 c ∗ p5 c (cA c 3) sRL (QY m c) ∗ p5 c (cA c 3) sRR (QY m c)) :=
  BiEntails.trans (BiEntails.symm (pieces (bk2_halves c) (bk2_halves_disjoint c))) split3

/-- What the swap leaves of the chunks it reads. -/
def offSwap : Finset ℕ := (cA c 0 ∪ cA c 2) \ hB (pz c)
theorem swap_cover : hB (pz c) ∪ offSwap c = cA c 0 ∪ cA c 2 := by unfold offSwap; exact Finset.union_sdiff_of_subset (swap_sub c)
theorem swapSets {n : ℕ} : (bk2 (cA c 0) ∪ bk2 (cA c 2) : Finset (⟨2, ![n, 2048]⟩ : Shape).Idx) = bk2 (hB (pz c)) ∪ bk2 (offSwap c) := by
  rw [← bk2_union, ← bk2_union, swap_cover]
theorem swapPieces {ℓ : Loc nD τ sig} {q : PosShare TreeShare} {f : Buf (Elt F) ℓ} {A A' B B' : Finset (Idx ℓ)} (h : A ∪ A' = B ∪ B') (hA : Disjoint A A') (hB : Disjoint B B') :
    iprop((ℓ ↦[A]{q} f) ∗ (ℓ ↦[A']{q} f) : sProp 𝕄) ⊣⊢ iprop((ℓ ↦[B]{q} f) ∗ (ℓ ↦[B']{q} f)) :=
  BiEntails.trans (BiEntails.symm (pieces rfl hA)) (pieces h.symm hB)
theorem swapX : iprop(p4 c (cA c 0) sRR (QX m c) ∗ p4 c (cA c 2) sRR (QX m c)) ⊣⊢ iprop(sendPay m 21 c ∗ p4 c (offSwap c) sRR (QX m c)) :=
  swapPieces (ℓ := (c : Thread nD τ).loc cc0_scratch4) (swapSets c) (bk2_disjoint (cA_disjoint c 0 2 (by decide))) (bk2_disjoint Finset.disjoint_sdiff)
theorem swapY : iprop(p5 c (cA c 0) sRR (QY m c) ∗ p5 c (cA c 2) sRR (QY m c)) ⊣⊢ iprop(sendPay m 22 c ∗ p5 c (offSwap c) sRR (QY m c)) :=
  swapPieces (ℓ := (c : Thread nD τ).loc cc0_scratch5) (swapSets c) (bk2_disjoint (cA_disjoint c 0 2 (by decide))) (bk2_disjoint Finset.disjoint_sdiff)

end Cert.AllReduce
-- ==== Proof.AllReduce.PartsRing.lean ====
/-
# The ring over z

Three steps add the partial sums of the own chunk, one device after the other; the rows are then normalised.
-/
module

public import proofs.«01_k».proof.Proof.AllReduce.Shares

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

/-- A slot of the staged partial sums, half a slot of the ring's buffer, and the staged scale. -/
abbrev slot (c : Dev nD) (s : Fin 2) (X : S512x2048.Idx → Elt F .f32) : sProp 𝕄 := p0 c (Finset.Ico (2 * s.val) (2 * s.val + 2)) fullShare (slotC X)
abbrev ring (c : Dev nD) (j : ℕ) (X : S512x2048.Idx → Elt F .bf16) : sProp 𝕄 := p2 c (Finset.Ico j (j + 1)) fullShare (slotC X)
abbrev gam (c : Dev nD) : sProp 𝕄 := (((c : Thread nD τ).loc cc0_stg0_0) ↦{fullShare} (a2 m c))

theorem recv_ring (j s : ℕ) (hj : j < 6) (hs : j / 2 = s) : recvPay m j c ⊢ ring c j (RCV m s c) := by
  subst hs; exact Entails.of_eq (if_pos hj)
theorem send_first (h : Fin 2) {j : ℕ} (hj : j = h.val) : p1 c (Finset.Ico h.val (h.val + 1)) fullShare (S0 m c) ⊢ sendPay m j c := by
  subst hj; exact Entails.of_eq (if_pos h.isLt).symm
theorem send_ring (i : ℕ) {j : ℕ} (s : Fin 2) (hj : j = i + 2) (hi : i < 4) (hs : i / 2 = s.val) : ring c i (ACC m s.val c) ⊢ sendPay m j c := by
  subst hj
  refine Entails.of_eq (Eq.symm ((if_neg (by omega)).trans ((if_pos (by omega)).trans ?_)))
  rw [show (i + 2) / 2 - 1 = s.val by omega, show i + 2 - 2 = i by omega, show i + 2 - 1 = i + 1 by omega]
theorem loc_0 (r t : ℕ) (ht : (if r = 0 then 1 else 3) = t) : locPay m (47 - 47) r c ⊢ slot c 0 (PC m t c) := by
  subst ht; exact Entails.of_eq (if_pos rfl)
theorem loc_1 (r t : ℕ) (ht : (if r = 0 then 2 else 0) = t) : locPay m (48 - 47) r c ⊢ slot c 1 (PC m t c) := by
  subst ht; exact Entails.of_eq ((if_neg (by decide)).trans (if_pos rfl))
theorem loc_res : locPay m (49 - 47) 0 c ⊢ p7 c (RES m c) := Entails.of_eq ((if_neg (by decide)).trans (if_neg (by decide)))

theorem run4 {Q' : _ → sProp 𝕄} {f1 : S2x512x2048.Idx → Elt F .f32} {f2 : S512x2048.Idx → Elt F .f32} {g0 : S512x2048.Idx → Elt F .bf16} (v8 v49 v96 c4_i32_64 c1_i32_66 : BitVec 32) (v97 : BitVec 1) :
    iprop(recs m K ∗ St m K c 0 0 0 ∗ argP m c ∗ p0 c (Finset.Ico (2 * ((1 : Fin 2).val)) (2 * ((1 : Fin 2).val) + 2)) fullShare f1 ∗ dutyTok ER (dcell c 48) 0 (0 : Fin 4)
      ∗ argR m c ∗ p7 c f2 ∗ dutyTok ER (dcell c 49) 0 (0 : Fin 4) ∗ atPos ER (dcell c 47) 0 (∅ : Finset (Fin 4)) 0 ∗ crdL c 47
      ∗ p1 c (Finset.Ico ((0 : Fin 2).val) (((0 : Fin 2).val) + 1)) fullShare g0)
      ⊢ iprop(((St m K c 0 0 0 ∗ argP m c ∗ crdL c 48 ∗ argR m c ∗ crdL c 49
      ∗ atPos ER (dcell c 47) 1 (∅ : Finset (Fin 4)) 0 ∗ reached ER (dcell c 47) 1 ∗ slot c 0 (PC m 1 c) ∗ p1 c (Finset.Ico ((0 : Fin 2).val) (((0 : Fin 2).val) + 1)) fullShare g0)
          -∗ Q' (k0_pay1 (half3 (PC m 1 c) 0)))
        -∗ WP c (onArgs (k0_part4 (F := F)) c v8 v49 v96 c4_i32_64 v97 c1_i32_66) Q') := by
  rw [k0_part4_eq_skeleton]; unfold k0_part4_skel
  simp only [Prog.lift, Prog.bind_op, Prog.bind_ret, Prog.pure_eq_ret]
  iintro ⟨#Hr, HSt, A, Z1, T48_0, B, Z2, T49_0, G47, L47, B0⟩ Hk
  ihave K1 := (recs_reached m K c 48 (by decide) (by decide)) $$ Hr
  iapply (copyP m K 1 0 2 (i := 48) rfl rfl (by decide) rfl (off1_eq c 1) (pay_1 m c 0)) $$ [A Z1 T48_0 K1]
  · isplitl [Hr]; · iexact Hr
    isplitl [A]; · iexact A
    isplitl [Z1]; · iexact Z1
    isplitl [T48_0]; · iexact T48_0
    iexact K1
  iintro ⟨A, L48⟩
  iapply (copyR m K rfl (off2_row c)) $$ [B Z2 T49_0]
  · isplitl [Hr]; · iexact Hr
    isplitl [B]; · iexact B
    isplitl [Z2]; · iexact Z2
    iexact T49_0
  iintro ⟨B, L49⟩
  iapply (wait_loc K c 47 0 (by decide) rfl (by decide) rfl 0 0 0 (by decide)) $$ [HSt G47 L47]
  · isplitl [HSt]; · iexact HSt
    isplitl [G47]; · iexact G47
    iexact L47
  iintro ⟨HSt, G47, K0, Z0⟩
  ihave Z0 := (loc_0 m c 0 1 rfl) $$ Z0
  iapply (load0 (X := PC m 1 c) 0 0 rfl) $$ Z0
  iintro Z0
  iapply (load1 (f := g0) 0 rfl) $$ B0
  iintro B0
  iintro %w
  iapply WP_ret
  iapply Hk
  isplitl [HSt]; · iexact HSt
  isplitl [A]; · iexact A
  isplitl [L48]; · iexact L48
  isplitl [B]; · iexact B
  isplitl [L49]; · iexact L49
  isplitl [G47]; · iexact G47
  isplitl [K0]; · iexact K0
  isplitl [Z0]; · iexact Z0
  iexact B0

theorem run5 {Q' : PUnit → sProp 𝕄} {g0 : S512x2048.Idx → Elt F .bf16} {g1 : S512x2048.Idx → Elt F .bf16} (v2 v5 v19 : BitVec 32) :
    iprop(recs m K ∗ St m K c 0 0 0 ∗ p1 c (Finset.Ico ((0 : Fin 2).val) (((0 : Fin 2).val) + 1)) fullShare g0 ∗ slot c 0 (PC m 1 c) ∗ p1 c (Finset.Ico ((1 : Fin 2).val) (((1 : Fin 2).val) + 1)) fullShare g1)
      ⊢ iprop(((St m K c 1 0 0 ∗ crd c 0 ∗ slot c 0 (PC m 1 c) ∗ sendPay m 1 c)
          -∗ Q' ⟨⟩)
        -∗ WP c (onArgs (k0_part5 (F := F)) c v2 v5 v19 (k0_pay1 (half3 (PC m 1 c) 0))) Q') := by
  rw [k0_part5_eq_skeleton]; unfold k0_part5_skel
  simp only [Prog.lift, Prog.bind_op, Prog.bind_ret, Prog.pure_eq_ret]
  iintro ⟨#Hr, HSt, B0, Z0, B1⟩ Hk
  iapply (store1 m 0 rfl rfl) $$ B0
  iintro B0
  ihave P0 := (send_first m c 0 (j := 0) rfl) $$ B0
  iapply (send_step K c (xRing0 m c 0 rfl rfl rfl) (dev5_eq c) rfl rfl rfl 0 0 0 rfl) $$ [HSt P0]
  · isplitl [HSt]; · iexact HSt
    iexact P0
  iintro ⟨HSt, C0⟩
  iapply (load0 (X := PC m 1 c) 0 1 rfl) $$ Z0
  iintro Z0
  iapply (load1 (f := g1) 1 rfl) $$ B1
  iintro B1
  iintro %w
  iapply (store1 m 1 rfl rfl) $$ B1
  iintro B1
  ihave P1 := (send_first m c 1 (j := 1) rfl) $$ B1
  iapply WP_ret
  iapply Hk
  isplitl [HSt]; · iexact HSt
  isplitl [C0]; · iexact C0
  isplitl [Z0]; · iexact Z0
  iexact P1

theorem run6 {Q' : PUnit → sProp 𝕄}  (v8 v49 : BitVec 32) :
    iprop(recs m K ∗ St m K c 1 0 0 ∗ sendPay m 1 c ∗ argP m c ∗ slot c 0 (PC m 1 c)
      ∗ reached ER (dcell c 47) 1 ∗ dutyTok ER (dcell c 47) 1 (0 : Fin 4) ∗ atPos ER (dcell c 48) 0 (∅ : Finset (Fin 4)) 0 ∗ crdL c 48)
      ⊢ iprop(((St m K c 2 0 0 ∗ crd c 1 ∗ argP m c ∗ crdL c 47 ∗ atPos ER (dcell c 48) 1 (∅ : Finset (Fin 4)) 0
      ∗ reached ER (dcell c 48) 1 ∗ slot c 1 (PC m 2 c))
          -∗ Q' ⟨⟩)
        -∗ WP c (onArgs (k0_part6 (F := F)) c v8 v49) Q') := by
  rw [k0_part6_eq_skeleton]; unfold k0_part6_skel
  simp only [Prog.lift, Prog.bind_op, Prog.bind_ret, Prog.pure_eq_ret]
  iintro ⟨#Hr, HSt, P1, A, Z0, K0, T47_1, G48, L48⟩ Hk
  iapply (send_step K c (xRing0 m c 1 rfl rfl rfl) (dev6_eq c) rfl rfl rfl 1 0 0 rfl) $$ [HSt P1]
  · isplitl [HSt]; · iexact HSt
    iexact P1
  iintro ⟨HSt, C1⟩
  iapply (copyP m K 0 1 3 (i := 47) rfl rfl (by decide) rfl (off1_eq c 2) (pay_0 m c 1)) $$ [A Z0 T47_1 K0]
  · isplitl [Hr]; · iexact Hr
    isplitl [A]; · iexact A
    isplitl [Z0]; · iexact Z0
    isplitl [T47_1]; · iexact T47_1
    iexact K0
  iintro ⟨A, L47⟩
  iapply (wait_loc K c 48 0 (by decide) rfl (by decide) rfl 2 0 0 (by decide)) $$ [HSt G48 L48]
  · isplitl [HSt]; · iexact HSt
    isplitl [G48]; · iexact G48
    iexact L48
  iintro ⟨HSt, G48, K1, Z1⟩
  ihave Z1 := (loc_1 m c 0 2 rfl) $$ Z1
  iapply WP_ret
  iapply Hk
  isplitl [HSt]; · iexact HSt
  isplitl [C1]; · iexact C1
  isplitl [A]; · iexact A
  isplitl [L47]; · iexact L47
  isplitl [G48]; · iexact G48
  isplitl [K1]; · iexact K1
  iexact Z1

theorem run7 {Q' : _ → sProp 𝕄}  (v2 v5 v19 : BitVec 32) :
    iprop(recs m K ∗ St m K c 2 0 0 ∗ crd c 0 ∗ slot c 1 (PC m 2 c))
      ⊢ iprop(((St m K c 2 2 0 ∗ sendPay m 0 c ∗ slot c 1 (PC m 2 c) ∗ sendPay m 2 c)
          -∗ ∀ v, Q' v)
        -∗ WP c (onArgs (k0_part7 (F := F)) v2 v5 v19) Q') := by
  rw [k0_part7_eq_skeleton]; unfold k0_part7_skel
  simp only [Prog.lift, Prog.bind_op, Prog.bind_ret, Prog.pure_eq_ret]
  iintro ⟨#Hr, HSt, C0, Z1⟩ Hk
  iapply (wait_send K c 0 (by decide) rfl rfl 2 0 0 rfl (by decide)) $$ [HSt C0]
  · isplitl [HSt]; · iexact HSt
    iexact C0
  iintro ⟨HSt, P0⟩
  iapply (wait_recv K c 0 (by decide) rfl rfl 2 1 0 rfl (by decide) (by decide)) $$ HSt
  iintro ⟨HSt, R0⟩
  ihave R0 := (recv_ring m c 0 0 (by decide) rfl) $$ R0
  iapply (load2 (X := RCV m 0 c) 0 0 rfl (j := 0) rfl) $$ R0
  iintro R0
  iapply (load0 (X := PC m 2 c) 1 0 rfl) $$ Z1
  iintro Z1
  iapply (load2 (X := RCV m 0 c) 0 0 rfl (j := 0) rfl) $$ R0
  iintro R0
  iapply (store2 m 0 0 rfl rfl (j := 0) rfl) $$ R0
  iintro R0
  ihave P2 := (send_ring m c 0 (j := 2) 0 rfl (by decide) rfl) $$ R0
  iapply WP_ret
  ispecialize Hk $$ [HSt P0 Z1 P2]
  · isplitl [HSt]; · iexact HSt
    isplitl [P0]; · iexact P0
    isplitl [Z1]; · iexact Z1
    iexact P2
  iapply Hk

theorem run8 {Q' : _ → sProp 𝕄}  (v2 v5 v19 v217 v218 : BitVec 32) :
    iprop(recs m K ∗ St m K c 2 2 0 ∗ sendPay m 2 c ∗ crd c 1)
      ⊢ iprop(((St m K c 3 4 0 ∗ crd c 2 ∗ sendPay m 1 c ∗ ring c 1 (RCV m 0 c))
          -∗ Q' (k0_pay5 (half3 (RCV m 0 c) 1)))
        -∗ WP c (onArgs (k0_part8 (F := F)) c v2 v5 v19 v217 v218) Q') := by
  rw [k0_part8_eq_skeleton]; unfold k0_part8_skel
  simp only [Prog.lift, Prog.bind_op, Prog.bind_ret, Prog.pure_eq_ret]
  iintro ⟨#Hr, HSt, P2, C1⟩ Hk
  iapply (send_step K c (xRing m c 0 0 rfl rfl rfl) (dev7_eq c) rfl rfl rfl 2 2 0 rfl) $$ [HSt P2]
  · isplitl [HSt]; · iexact HSt
    iexact P2
  iintro ⟨HSt, C2⟩
  iapply (wait_send K c 1 (by decide) rfl rfl 3 2 0 rfl (by decide)) $$ [HSt C1]
  · isplitl [HSt]; · iexact HSt
    iexact C1
  iintro ⟨HSt, P1⟩
  iapply (wait_recv K c 1 (by decide) rfl rfl 3 3 0 rfl (by decide) (by decide)) $$ HSt
  iintro ⟨HSt, R1⟩
  ihave R1 := (recv_ring m c 1 0 (by decide) rfl) $$ R1
  iapply (load2 (X := RCV m 0 c) 0 1 rfl (j := 1) rfl) $$ R1
  iintro R1
  iapply WP_ret
  iapply Hk
  isplitl [HSt]; · iexact HSt
  isplitl [C2]; · iexact C2
  isplitl [P1]; · iexact P1
  iexact R1

theorem run9 {Q' : PUnit → sProp 𝕄}  (v2 v5 v8 v19 v49 : BitVec 32) :
    iprop(recs m K ∗ St m K c 3 4 0 ∗ slot c 1 (PC m 2 c) ∗ ring c 1 (RCV m 0 c) ∗ argP m c
      ∗ reached ER (dcell c 48) 1 ∗ dutyTok ER (dcell c 48) 1 (0 : Fin 4))
      ⊢ iprop(((St m K c 4 4 0 ∗ crd c 3 ∗ argP m c ∗ crdL c 48)
          -∗ Q' ⟨⟩)
        -∗ WP c (onArgs (k0_part9 (F := F)) c v2 v5 v8 v19 v49 (k0_pay5 (half3 (RCV m 0 c) 1))) Q') := by
  rw [k0_part9_eq_skeleton]; unfold k0_part9_skel
  simp only [Prog.lift, Prog.bind_op, Prog.bind_ret, Prog.pure_eq_ret]
  iintro ⟨#Hr, HSt, Z1, R1, A, K1, T48_1⟩ Hk
  iapply (load0 (X := PC m 2 c) 1 1 rfl) $$ Z1
  iintro Z1
  iapply (load2 (X := RCV m 0 c) 0 1 rfl (j := 1) rfl) $$ R1
  iintro R1
  iapply (store2 m 0 1 rfl rfl (j := 1) rfl) $$ R1
  iintro R1
  ihave P3 := (send_ring m c 1 (j := 3) 0 rfl (by decide) rfl) $$ R1
  iapply (send_step K c (xRing m c 0 1 rfl rfl rfl) (dev8_eq c) rfl rfl rfl 3 4 0 rfl) $$ [HSt P3]
  · isplitl [HSt]; · iexact HSt
    iexact P3
  iintro ⟨HSt, C3⟩
  iapply (copyP m K 1 1 0 (i := 48) rfl rfl (by decide) rfl (off3_eq c) (pay_1 m c 1)) $$ [A Z1 T48_1 K1]
  · isplitl [Hr]; · iexact Hr
    isplitl [A]; · iexact A
    isplitl [Z1]; · iexact Z1
    isplitl [T48_1]; · iexact T48_1
    iexact K1
  iintro ⟨A, L48⟩
  iapply WP_ret
  iapply Hk
  isplitl [HSt]; · iexact HSt
  isplitl [C3]; · iexact C3
  isplitl [A]; · iexact A
  iexact L48

theorem run10 {Q' : _ → sProp 𝕄}  (v2 v5 v19 : BitVec 32) :
    iprop(recs m K ∗ St m K c 4 4 0 ∗ atPos ER (dcell c 47) 1 (∅ : Finset (Fin 4)) 0 ∗ crdL c 47 ∗ crd c 2)
      ⊢ iprop(((St m K c 4 6 0 ∗ atPos ER (dcell c 47) 2 (∅ : Finset (Fin 4)) 0 ∗ slot c 0 (PC m 3 c) ∗ sendPay m 2 c ∗ ring c 2 (RCV m 1 c))
          -∗ Q' (k0_pay7 (half3 (RCV m 1 c) 0)))
        -∗ WP c (onArgs (k0_part10 (F := F)) c v2 v5 v19) Q') := by
  rw [k0_part10_eq_skeleton]; unfold k0_part10_skel
  simp only [Prog.lift, Prog.bind_op, Prog.bind_ret, Prog.pure_eq_ret]
  iintro ⟨#Hr, HSt, G47, L47, C2⟩ Hk
  iapply (wait_loc K c 47 1 (by decide) rfl (by decide) rfl 4 4 0 (by decide)) $$ [HSt G47 L47]
  · isplitl [HSt]; · iexact HSt
    isplitl [G47]; · iexact G47
    iexact L47
  iintro ⟨HSt, G47, K0, Z0⟩
  ihave Z0 := (loc_0 m c 1 3 rfl) $$ Z0
  iapply (wait_send K c 2 (by decide) rfl rfl 4 4 0 rfl (by decide)) $$ [HSt C2]
  · isplitl [HSt]; · iexact HSt
    iexact C2
  iintro ⟨HSt, P2⟩
  iapply (wait_recv K c 2 (by decide) rfl rfl 4 5 0 rfl (by decide) (by decide)) $$ HSt
  iintro ⟨HSt, R2⟩
  ihave R2 := (recv_ring m c 2 1 (by decide) rfl) $$ R2
  iapply (load2 (X := RCV m 1 c) 1 0 rfl (j := 2) rfl) $$ R2
  iintro R2
  iapply WP_ret
  iapply Hk
  isplitl [HSt]; · iexact HSt
  isplitl [G47]; · iexact G47
  isplitl [Z0]; · iexact Z0
  isplitl [P2]; · iexact P2
  iexact R2

theorem run11 {Q' : _ → sProp 𝕄}  (v2 v5 v19 : BitVec 32) :
    iprop(recs m K ∗ St m K c 4 6 0 ∗ slot c 0 (PC m 3 c) ∗ ring c 2 (RCV m 1 c) ∗ crd c 3)
      ⊢ iprop(((St m K c 5 7 0 ∗ slot c 0 (PC m 3 c) ∗ crd c 4 ∗ sendPay m 3 c)
          -∗ ∀ v, Q' v)
        -∗ WP c (onArgs (k0_part11 (F := F)) c v2 v5 v19 (k0_pay7 (half3 (RCV m 1 c) 0))) Q') := by
  rw [k0_part11_eq_skeleton]; unfold k0_part11_skel
  simp only [Prog.lift, Prog.bind_op, Prog.bind_ret, Prog.pure_eq_ret]
  iintro ⟨#Hr, HSt, Z0, R2, C3⟩ Hk
  iapply (load0 (X := PC m 3 c) 0 0 rfl) $$ Z0
  iintro Z0
  iapply (load2 (X := RCV m 1 c) 1 0 rfl (j := 2) rfl) $$ R2
  iintro R2
  iapply (store2 m 1 0 rfl rfl (j := 2) rfl) $$ R2
  iintro R2
  ihave P4 := (send_ring m c 2 (j := 4) 1 rfl (by decide) rfl) $$ R2
  iapply (send_step K c (xRing m c 1 0 rfl rfl rfl) (dev9_eq c) rfl rfl rfl 4 6 0 rfl) $$ [HSt P4]
  · isplitl [HSt]; · iexact HSt
    iexact P4
  iintro ⟨HSt, C4⟩
  iapply (wait_send K c 3 (by decide) rfl rfl 5 6 0 rfl (by decide)) $$ [HSt C3]
  · isplitl [HSt]; · iexact HSt
    iexact C3
  iintro ⟨HSt, P3⟩
  iapply WP_ret
  ispecialize Hk $$ [HSt Z0 C4 P3]
  · isplitl [HSt]; · iexact HSt
    isplitl [Z0]; · iexact Z0
    isplitl [C4]; · iexact C4
    iexact P3
  iapply Hk

theorem run12 {Q' : PUnit → sProp 𝕄}  (v2 v5 v19 v332 : BitVec 32) :
    iprop(recs m K ∗ St m K c 5 7 0 ∗ slot c 0 (PC m 3 c))
      ⊢ iprop(((St m K c 5 8 0 ∗ slot c 0 (PC m 3 c) ∗ sendPay m 5 c)
          -∗ Q' ⟨⟩)
        -∗ WP c (onArgs (k0_part12 (F := F)) v2 v5 v19 v332) Q') := by
  rw [k0_part12_eq_skeleton]; unfold k0_part12_skel
  simp only [Prog.lift, Prog.bind_op, Prog.bind_ret, Prog.pure_eq_ret]
  iintro ⟨#Hr, HSt, Z0⟩ Hk
  iapply (wait_recv K c 3 (by decide) rfl rfl 5 7 0 rfl (by decide) (by decide)) $$ HSt
  iintro ⟨HSt, R3⟩
  ihave R3 := (recv_ring m c 3 1 (by decide) rfl) $$ R3
  iapply (load2 (X := RCV m 1 c) 1 1 rfl (j := 3) rfl) $$ R3
  iintro R3
  iapply (load0 (X := PC m 3 c) 0 1 rfl) $$ Z0
  iintro Z0
  iapply (load2 (X := RCV m 1 c) 1 1 rfl (j := 3) rfl) $$ R3
  iintro R3
  iapply (store2 m 1 1 rfl rfl (j := 3) rfl) $$ R3
  iintro R3
  ihave P5 := (send_ring m c 3 (j := 5) 1 rfl (by decide) rfl) $$ R3
  iapply WP_ret
  iapply Hk
  isplitl [HSt]; · iexact HSt
  isplitl [Z0]; · iexact Z0
  iexact P5

theorem run13 {Q' : PUnit → sProp 𝕄}  (v2 v5 v19 : BitVec 32) :
    iprop(recs m K ∗ St m K c 5 8 0 ∗ sendPay m 5 c ∗ atPos ER (dcell c 48) 1 (∅ : Finset (Fin 4)) 0 ∗ crdL c 48
      ∗ atPos ER (dcell c 49) 0 (∅ : Finset (Fin 4)) 0 ∗ crdL c 49 ∗ crd c 4)
      ⊢ iprop(((St m K c 6 9 0 ∗ crd c 5 ∗ atPos ER (dcell c 48) 2 (∅ : Finset (Fin 4)) 0 ∗ slot c 1 (PC m 0 c) ∗ atPos ER (dcell c 49) 1 (∅ : Finset (Fin 4)) 0
      ∗ p7 c (RES m c) ∗ sendPay m 4 c)
          -∗ Q' ⟨⟩)
        -∗ WP c (onArgs (k0_part13 (F := F)) c v2 v5 v19) Q') := by
  rw [k0_part13_eq_skeleton]; unfold k0_part13_skel
  simp only [Prog.lift, Prog.bind_op, Prog.bind_ret, Prog.pure_eq_ret]
  iintro ⟨#Hr, HSt, P5, G48, L48, G49, L49, C4⟩ Hk
  iapply (send_step K c (xRing m c 1 1 rfl rfl rfl) (dev10_eq c) rfl rfl rfl 5 8 0 rfl) $$ [HSt P5]
  · isplitl [HSt]; · iexact HSt
    iexact P5
  iintro ⟨HSt, C5⟩
  iapply (wait_loc K c 48 1 (by decide) rfl (by decide) rfl 6 8 0 (by decide)) $$ [HSt G48 L48]
  · isplitl [HSt]; · iexact HSt
    isplitl [G48]; · iexact G48
    iexact L48
  iintro ⟨HSt, G48, K1, Z1⟩
  ihave Z1 := (loc_1 m c 1 0 rfl) $$ Z1
  iapply (wait_loc K c 49 0 (by decide) rfl (by decide) rfl 6 8 0 (by decide)) $$ [HSt G49 L49]
  · isplitl [HSt]; · iexact HSt
    isplitl [G49]; · iexact G49
    iexact L49
  iintro ⟨HSt, G49, K2, Z2⟩
  ihave Z2 := (loc_res m c) $$ Z2
  iapply (wait_send K c 4 (by decide) rfl rfl 6 8 0 rfl (by decide)) $$ [HSt C4]
  · isplitl [HSt]; · iexact HSt
    iexact C4
  iintro ⟨HSt, P4⟩
  iapply WP_ret
  iapply Hk
  isplitl [HSt]; · iexact HSt
  isplitl [C5]; · iexact C5
  isplitl [G48]; · iexact G48
  isplitl [Z1]; · iexact Z1
  isplitl [G49]; · iexact G49
  isplitl [Z2]; · iexact Z2
  iexact P4

theorem run14 {Q' : PUnit → sProp 𝕄} {e0 : S2048x2048.Idx → Elt F .bf16} (v8 : BitVec 32) :
    iprop(recs m K ∗ St m K c 6 9 0 ∗ slot c 1 (PC m 0 c) ∗ p7 c (RES m c) ∗ gam m c
      ∗ p3 c (Finset.Ico (2 * ck c 0 + ((0 : Fin 2).val)) (2 * ck c 0 + ((0 : Fin 2).val) + 1)) fullShare e0)
      ⊢ iprop(((St m K c 6 10 0 ∗ ring c 4 (RCV m 2 c) ∗ slot c 1 (PC m 0 c) ∗ p7 c (RES m c) ∗ gam m c
      ∗ p3 c (Finset.Ico (2 * ck c 0 + ((0 : Fin 2).val)) (2 * ck c 0 + ((0 : Fin 2).val) + 1)) fullShare (Q m c))
          -∗ Q' ⟨⟩)
        -∗ WP c (onArgs (k0_part14 (F := F)) c v8) Q') := by
  rw [k0_part14_eq_skeleton]; unfold k0_part14_skel
  simp only [Prog.lift, Prog.bind_op, Prog.bind_ret, Prog.pure_eq_ret]
  iintro ⟨#Hr, HSt, Z1, Z2, HG, V0⟩ Hk
  iapply (wait_recv K c 4 (by decide) rfl rfl 6 9 0 rfl (by decide) (by decide)) $$ HSt
  iintro ⟨HSt, R4⟩
  ihave R4 := (recv_ring m c 4 2 (by decide) rfl) $$ R4
  iapply (load2 (X := RCV m 2 c) 2 0 rfl (j := 4) rfl) $$ R4
  iintro R4
  iapply (load0 (X := PC m 0 c) 1 0 rfl) $$ Z1
  iintro Z1
  iapply (load7 (X := RES m c) 0 rfl) $$ Z2
  iintro Z2
  iapply (loadG (X := a2 m c)) $$ HG
  iintro HG
  iapply (load3 (f := e0) (2 * ck c 0 + ((0 : Fin 2).val)) (off4_eq c 0)) $$ V0
  iintro V0
  iintro %w
  iapply (store3 m 0 (off4_eq c 0) rfl) $$ V0
  iintro V0
  iapply WP_ret
  iapply Hk
  isplitl [HSt]; · iexact HSt
  isplitl [R4]; · iexact R4
  isplitl [Z1]; · iexact Z1
  isplitl [Z2]; · iexact Z2
  isplitl [HG]; · iexact HG
  iexact V0

theorem run15 {Q' : _ → sProp 𝕄}  (v2 v5 v19 : BitVec 32) :
    iprop(recs m K ∗ St m K c 6 10 0 ∗ crd c 5 ∗ slot c 1 (PC m 0 c) ∗ p7 c (RES m c))
      ⊢ iprop(((St m K c 6 12 0 ∗ sendPay m 5 c ∗ ring c 5 (RCV m 2 c) ∗ slot c 1 (PC m 0 c) ∗ p7 c (RES m c))
          -∗ Q' ⟨k0_pay11 (half3 (RCV m 2 c) 1) (half3 (PC m 0 c) 1) (half2 (RES m c) 1), k0_pay12 (half3 (RCV m 2 c) 1) (half3 (PC m 0 c) 1) (half2 (RES m c) 1)⟩)
        -∗ WP c (onArgs (k0_part15 (F := F)) v2 v5 v19) Q') := by
  rw [k0_part15_eq_skeleton]; unfold k0_part15_skel
  simp only [Prog.lift, Prog.bind_op, Prog.bind_ret, Prog.pure_eq_ret]
  iintro ⟨#Hr, HSt, C5, Z1, Z2⟩ Hk
  iapply (wait_send K c 5 (by decide) rfl rfl 6 10 0 rfl (by decide)) $$ [HSt C5]
  · isplitl [HSt]; · iexact HSt
    iexact C5
  iintro ⟨HSt, P5⟩
  iapply (wait_recv K c 5 (by decide) rfl rfl 6 11 0 rfl (by decide) (by decide)) $$ HSt
  iintro ⟨HSt, R5⟩
  ihave R5 := (recv_ring m c 5 2 (by decide) rfl) $$ R5
  iapply (load2 (X := RCV m 2 c) 2 1 rfl (j := 5) rfl) $$ R5
  iintro R5
  iapply (load0 (X := PC m 0 c) 1 1 rfl) $$ Z1
  iintro Z1
  iapply (load7 (X := RES m c) 1 rfl) $$ Z2
  iintro Z2
  iapply WP_ret
  iapply Hk
  isplitl [HSt]; · iexact HSt
  isplitl [P5]; · iexact P5
  isplitl [R5]; · iexact R5
  isplitl [Z1]; · iexact Z1
  iexact Z2

theorem run16 {Q' : PUnit → sProp 𝕄} {e1 : S2048x2048.Idx → Elt F .bf16} (v2 v5 v8 v19 : BitVec 32) :
    iprop(recs m K ∗ St m K c 6 12 0 ∗ gam m c ∗ p3 c (Finset.Ico (2 * ck c 0 + ((1 : Fin 2).val)) (2 * ck c 0 + ((1 : Fin 2).val) + 1)) fullShare e1)
      ⊢ iprop(((St m K c 6 12 0 ∗ gam m c ∗ p3 c (Finset.Ico (2 * ck c 0 + ((1 : Fin 2).val)) (2 * ck c 0 + ((1 : Fin 2).val) + 1)) fullShare (Q m c))
          -∗ Q' ⟨⟩)
        -∗ WP c (onArgs (k0_part16 (F := F)) c v2 v5 v8 v19 (k0_pay11 (half3 (RCV m 2 c) 1) (half3 (PC m 0 c) 1) (half2 (RES m c) 1)) (k0_pay12 (half3 (RCV m 2 c) 1) (half3 (PC m 0 c) 1) (half2 (RES m c) 1))) Q') := by
  rw [k0_part16_eq_skeleton]; unfold k0_part16_skel
  simp only [Prog.lift, Prog.bind_op, Prog.bind_ret, Prog.pure_eq_ret]
  iintro ⟨#Hr, HSt, HG, V1⟩ Hk
  iapply (loadG (X := a2 m c)) $$ HG
  iintro HG
  iapply (load3 (f := e1) (2 * ck c 0 + ((1 : Fin 2).val)) (off4_eq c 1)) $$ V1
  iintro V1
  iintro %w
  iapply (store3 m 1 (off4_eq c 1) rfl) $$ V1
  iintro V1
  iapply WP_ret
  iapply Hk
  isplitl [HSt]; · iexact HSt
  isplitl [HG]; · iexact HG
  iexact V1

end Cert.AllReduce
-- ==== Proof.AllReduce.Handshake.lean ====
/-
# The handshake

Before any transfer every device tells its four neighbours that its buffers may be written, by a unit on their barrier
semaphore, and waits for four units on its own. With its unit a device hands a neighbour the places it will write.
-/
module

public import proofs.«01_k».proof.Proof.AllReduce.PartsRing

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

/-! ## What the signals hand over -/

/-- The places on `c` that its neighbour in direction `d` writes are what `c`'s signal there hands over. -/
theorem dests_to (d : Fin 4) : (bigSep (Finset.univ.filter fun j : Fin 23 => srcOf j.val c = d) fun j => destAt (F := F) j.val c) = barPay (nbi d c) d := by
  unfold barPay
  rw [nb_nbi, Finset.filter_congr fun j _ => (dirOf_iff d j c).symm]

theorem by_dir (g : Fin 23 → Fin 4) (Φ : Fin 23 → sProp 𝕄) :
    bigSep Finset.univ Φ = bigSep Finset.univ fun d : Fin 4 => bigSep (Finset.univ.filter fun j => g j = d) Φ := by
  rw [← BI.bigSep_biUnion_eq Finset.univ (fun d : Fin 4 => Finset.univ.filter fun j => g j = d) Φ (fun d _ d' _ hd => Finset.disjoint_filter.mpr fun j _ h h' => hd (h.symm.trans h'))]
  congr 1; ext j; simp

theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- All the places on `c` that transfers write, by the neighbour that writes them. -/
theorem dests_out : (bigSep Finset.univ fun j : Fin 23 => destAt (F := F) j.val c)
    = iprop(barPay (nbi 0 c) 0 ∗ barPay (nbi 1 c) 1 ∗ barPay (nbi 2 c) 2 ∗ barPay (nbi 3 c) 3) := by
  rw [by_dir (fun j => srcOf j.val c), four, dests_to, dests_to, dests_to, dests_to]
/-- All that the four signals to `c` hand `c`. -/
theorem dests_in : (bigSep Finset.univ fun d : Fin 4 => barPay (F := F) c d) = bigSep Finset.univ fun j : Fin 23 => destAt j.val (tgt j.val c) := by
  rw [by_dir (fun j => dirOf j.val c)]
  refine bigSep_congr fun d _ => ?_
  unfold barPay
  refine bigSep_congr fun j hj => ?_
  rw [tgt_eq_nb, (Finset.mem_filter.mp hj).2]

/-! ## The state before the handshake -/

def tokItem (c : Dev nD) (j : ℕ) : sProp 𝕄 := iprop(dutyTok ER (dcell (tgt j c) (24 + j)) 0 (0 : Fin 4) ∗ dutyTok ER (dcell c (1 + j)) 0 (0 : Fin 4))

theorem sepL_both (A B : ℕ → sProp 𝕄) (l : List ℕ) (h : l.Nodup) : sepL (fun j => iprop(A j ∗ B j)) l = iprop(sepL A l ∗ sepL B l) := by
  rw [sepL_eq _ l h, sepL_eq A l h, sepL_eq B l h, bigSep_sep']

theorem ord_nodup : ord.Nodup := by decide
theorem ord_range : ord.toFinset = Finset.range 23 := by decide

/-- The places that were handed over and the duties make the transfers' list. -/
theorem items : iprop((bigSep Finset.univ fun d : Fin 4 => barPay (F := F) c d) ∗ sepL (tokItem c) ord) = sepL (sendItem c) ord := by
  show _ = sepL (fun j => iprop(destAt j (tgt j c) ∗ tokItem c j)) ord
  rw [sepL_both _ _ _ ord_nodup, dests_in, sepL_fin (fun j => destAt j (tgt j c)) ord ord_nodup ord_range]

/-- The state of device `c` while it still owes `O`. -/
def Pend (O : CellTallies nD τ sig Unit) : sProp 𝕄 :=
  iprop(recs m K ∗ levAts L lv ∗ (∃ W, owes (c : Thread nD τ) O W) ∗ atPos ER (bar c) 0 (∅ : Finset (Fin 4)) 0 ∗ cred (tallyAt (bar c) () 4)
    ∗ sepL (tokItem c) ord ∗ sepL (waitItem c) wts ∗ sepL (storeItem c) (List.range 16))

section Handshake
variable {m} {c}

theorem signal_step {α : Type} {Q' : α → sProp 𝕄} {k : PUnit → Prog (TpuEff nD τ sig (Elt F) Λ₀ .tc) α} (d : Fin 4) {n : Dev nD} (hn : n = nbi d c)
    {a : ℕ} (ha : 1 = a) (O : CellTallies nD τ sig Unit) :
    iprop(Pend m K c (O + tallyAt (bar (nbi d c)) () 1) ∗ dutyTok ER (bar (nbi d c)) 0 d ∗ barPay (nbi d c) d)
      ⊢ iprop((Pend m K c O -∗ WP c (k ⟨⟩) Q') -∗ WP c (.op (.semSignal (n : Thread nD τ) barS a) k) Q') := by
  subst hn ha
  unfold Pend
  iintro ⟨⟨#Hr, Hlev, ⟨%W, HO⟩, Hrest⟩, Ht, Hp⟩ Hk
  iapply (Rounds.wp_signal 𝒱₀ ER (Rd m) (c : Thread nD τ) none (dst := (nbi d c : Thread nD τ)) (κ := K (nbi d c, 0))
      (d := d) (by rw [duties_bar]; exact Finset.mem_univ _) (amount_bar m (nbi d c) d) () O rfl (W := W)) $$ [HO Ht Hp]
  · isplitr; · iapply (recs_bar m K (nbi d c)); iexact Hr
    isplitl [HO]; · iexact HO
    isplitl [Ht]; · iexact Ht
    isplitl [Hp]; · rw [payload_bar]; iexact Hp
    iapply (recs_bar_reached m K (nbi d c)); iexact Hr
  iintro HO
  iapply Hk
  isplitr; · iexact Hr
  isplitl [Hlev]; · iexact Hlev
  isplitl [HO]; · iexists W; iexact HO
  iexact Hrest

theorem lv_bar : lv (bar c) () = 1 := rfl

/-- The wait for the four signals: the places come, and the cell is done with. -/
theorem meet {α : Type} {Q' : α → sProp 𝕄} {k : PUnit → Prog (TpuEff nD τ sig (Elt F) Λ₀ .tc) α} {a : ℕ} (ha : 4 = a) :
    Pend m K c (owedL c ord)
      ⊢ iprop(((St m K c 0 0 0 ∗ semVal (bar c) 0) -∗ WP c (k ⟨⟩) Q') -∗ WP c (.op (.semWait barS a) k) Q') := by
  subst ha
  unfold Pend
  iintro ⟨#Hr, #Hlev, ⟨%W, HO⟩, Hat, Hc, Ht, Hw, Hs⟩ Hk
  iapply (Rounds.wp_wait_rest_token 𝒱₀ ER (Rd m) (c : Thread nD τ) none (κ := K (c, 0))
      (wpE_semWait_eq 𝒱₀ (c : Thread nD τ) none Set.univ) (Set.mem_univ _) () (O := owedL c ord) (W := W) (R := 0) (m := 0) (T := ∅)
      (by rw [expect_bar])) $$ [Hc HO Hat]
  · isplitr; · iapply (recs_bar m K c); iexact Hr
    isplitl [Hc]; · iexact Hc
    isplitl [HO]; · iexact HO
    isplitr; · iapply (mayWait c (.reg barS) 0 (by decide) (le_of_eq rfl)); iexact Hlev
    iexact Hat
  iintro ⟨HO, Hat, -, Hpay⟩
  imod (Rounds.cell_close ER (Rd m) (Set.mem_univ (K (c, 0))) (fun h => h) (R := 0 + 1) (fun r h => duties_bar_later m c r h)) $$ [Hat] with Hz
  · isplitr; · iapply (recs_bar m K c); iexact Hr
    iexact Hat
  iapply Hk
  isplitr [Hz]
  · unfold St
    isplitr; · iexact Hr
    isplitr; · iexact Hlev
    isplitl [HO]; · iexists _; iexact HO
    isplitl [Hpay Ht]
    · iapply (Entails.of_eq (items c))
      isplitl [Hpay]; · rw [Finset.sdiff_empty, duties_bar]; iexact Hpay
      iexact Ht
    isplitl [Hw]; · iexact Hw
    isplitr; · iempintro
    iexact Hs
  iexact Hz

theorem run1 {Q' : _ → sProp 𝕄} : iprop(∀ v2 v5 v8 v19 v31 v32 v33 c2 c0, Q' ⟨c, v2, v5, v8, v19, v31, v32, v33, c2, c0⟩) ⊢ WP c (onArgs (k0_part1 (F := F))) Q' := by
  rw [k0_part1_eq_skeleton]; unfold k0_part1_skel
  simp only [Prog.lift, Prog.bind_op, Prog.bind_ret, Prog.pure_eq_ret, wp_deviceId]
  iintro Hk
  iapply WP_ret
  iapply Hk

theorem run2 {Q' : _ → sProp 𝕄} (O : CellTallies nD τ sig Unit) (v2 v5 v8 v19 v31 v32 c2 c0 : BitVec 32) :
    iprop(Pend m K c (O + tallyAt (bar (nbi 1 c)) () 1 + tallyAt (bar (nbi 0 c)) () 1) ∗ dutyTok ER (bar (nbi 0 c)) 0 (0 : Fin 4) ∗ barPay (nbi 0 c) 0
        ∗ dutyTok ER (bar (nbi 1 c)) 0 (1 : Fin 4) ∗ barPay (nbi 1 c) 1)
      ⊢ iprop((Pend m K c O -∗ ∀ v43 v46 v49, Q' ⟨v43, v46, v49, SemArray.scalar (sig.barrier 0 rfl)⟩)
        -∗ WP c (onArgs (k0_part2 (F := F)) c v2 v5 v8 v19 v31 v32 c2 c0) Q') := by
  rw [k0_part2_eq_skeleton]; unfold k0_part2_skel
  simp only [semSignalWord, Prog.lift, Prog.bind_op, Prog.bind_ret, Prog.pure_eq_ret]
  iintro ⟨HP, T0, P0, T1, P1⟩ Hk
  iapply (signal_step K 0 (dev1_eq c) (by decide) (O + tallyAt (bar (nbi 1 c)) () 1)) $$ [HP T0 P0]
  · isplitl [HP]; · iexact HP
    isplitl [T0] <;> iassumption
  iintro HP
  iapply (signal_step K 1 (dev2_eq c) (by decide) O) $$ [HP T1 P1]
  · isplitl [HP]; · iexact HP
    isplitl [T1] <;> iassumption
  iintro HP
  iapply WP_ret
  ispecialize Hk $$ HP
  iapply Hk

theorem run3 {Q' : _ → sProp 𝕄} {f0 : S2x512x2048.Idx → Elt F .f32} (v2 v8 v33 v49 : BitVec 32) :
    iprop(Pend m K c (owedL c ord + tallyAt (bar (nbi 3 c)) () 1 + tallyAt (bar (nbi 2 c)) () 1) ∗ dutyTok ER (bar (nbi 2 c)) 0 (2 : Fin 4) ∗ barPay (nbi 2 c) 2
        ∗ dutyTok ER (bar (nbi 3 c)) 0 (3 : Fin 4) ∗ barPay (nbi 3 c) 3 ∗ recs m K
        ∗ argP m c ∗ p0 c (Finset.Ico (2 * ((0 : Fin 2).val)) (2 * ((0 : Fin 2).val) + 2)) fullShare f0 ∗ dutyTok ER (dcell c 47) 0 (0 : Fin 4))
      ⊢ iprop(((St m K c 0 0 0 ∗ semVal (bar c) 0 ∗ argP m c ∗ crdL c 47) -∗ ∀ v96 c4 v97 c1, Q' ⟨v96, c4, v97, c1⟩)
        -∗ WP c (onArgs (k0_part3 (F := F)) c v2 v8 v33 v49 (SemArray.scalar (sig.barrier 0 rfl))) Q') := by
  rw [k0_part3_eq_skeleton]; unfold k0_part3_skel
  simp only [semSignalWord, semWaitWord, Prog.lift, Prog.bind_op, Prog.bind_ret, Prog.pure_eq_ret]
  iintro ⟨HP, T2, P2, T3, P3, #Hr, A, Z0, T47⟩ Hk
  iapply (signal_step K 2 (dev3_eq c) (by decide) (owedL c ord + tallyAt (bar (nbi 3 c)) () 1)) $$ [HP T2 P2]
  · isplitl [HP]; · iexact HP
    isplitl [T2] <;> iassumption
  iintro HP
  iapply (signal_step K 3 (dev4_eq c) (by decide) (owedL c ord)) $$ [HP T3 P3]
  · isplitl [HP]; · iexact HP
    isplitl [T3] <;> iassumption
  iintro HP
  iapply (meet K (by decide)) $$ HP
  iintro ⟨HSt, HB⟩
  ihave K0 := (recs_reached m K c 47 (by decide) (by decide)) $$ Hr
  iapply (copyP m K 0 0 1 (i := 47) rfl rfl (by decide) rfl (off1_eq c 0) (pay_0 m c 0)) $$ [A Z0 T47 K0]
  · isplitr; · iexact Hr
    isplitl [A]; · iexact A
    isplitl [Z0]; · iexact Z0
    isplitl [T47]; · iexact T47
    iexact K0
  iintro ⟨A, L47⟩
  iapply WP_ret
  ispecialize Hk $$ [HSt HB A L47]
  · isplitl [HSt]; · iexact HSt
    isplitl [HB]; · iexact HB
    isplitl [A]; · iexact A
    iexact L47
  iapply Hk

end Handshake

end Cert.AllReduce
-- ==== Proof.AllReduce.PartsAG.lean ====
/-
# Gathering the quarters along z, x and y

Each chunk of the own quarter goes to the next device along z and to the neighbours along x and y, and to the result.
-/
module

public import proofs.«01_k».proof.Proof.AllReduce.Shares

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

theorem run17 {Q' : PUnit → sProp 𝕄} (v2 v5 v8 v32 v33 : BitVec 32) :
    iprop(St m K c 6 12 0 ∗ sendPay m 6 c ∗ sendPay m 9 c)
      ⊢ iprop(((St m K c 8 12 0 ∗ crd c 6 ∗ crd c 9)
          -∗ Q' ⟨⟩)
        -∗ WP c (onArgs (k0_part17 (F := F)) c v2 v5 v8 v32 v33) Q') := by
  rw [k0_part17_eq_skeleton]; unfold k0_part17_skel
  simp only [Prog.lift, Prog.bind_op, Prog.bind_ret, Prog.pure_eq_ret]
  iintro ⟨HSt, P6, P9⟩ Hk
  iapply (send_step K c (xZ m c 0 rfl (off5_eq c 0)) (dev11_eq c) rfl rfl rfl 6 12 0 rfl) $$ [HSt P6]
  · isplitl [HSt]; · iexact HSt
    iexact P6
  iintro ⟨HSt, C6⟩
  iapply (send_step K c (xX m c 0 rfl (off5_eq c 0)) (dev12_eq c) rfl rfl rfl 7 12 0 rfl) $$ [HSt P9]
  · isplitl [HSt]; · iexact HSt
    iexact P9
  iintro ⟨HSt, C9⟩
  iapply WP_ret
  iapply Hk
  isplitl [HSt]; · iexact HSt
  isplitl [C6]; · iexact C6
  iexact C9

theorem run18 {Q' : _ → sProp 𝕄} (v2 v5 v8 v19 v49 : BitVec 32) :
    iprop(St m K c 8 12 0 ∗ sendPay m 13 c ∗ storeSrc m 0 c ∗ crd c 6)
      ⊢ iprop(((St m K c 9 14 1 ∗ crd c 13 ∗ crdS c 0 ∗ sendPay m 6 c ∗ recvPay m 6 c)
          -∗ ∀ v, Q' v)
        -∗ WP c (onArgs (k0_part18 (F := F)) c v2 v5 v8 v19 v49) Q') := by
  rw [k0_part18_eq_skeleton]; unfold k0_part18_skel
  simp only [Prog.lift, Prog.bind_op, Prog.bind_ret, Prog.pure_eq_ret]
  iintro ⟨HSt, P13, O0, C6⟩ Hk
  iapply (send_step K c (xY m c 0 rfl (off5_eq c 0)) (dev13_eq c) rfl rfl rfl 8 12 0 rfl) $$ [HSt P13]
  · isplitl [HSt]; · iexact HSt
    iexact P13
  iintro ⟨HSt, C13⟩
  iapply (store_own K c 0 9 12 0 rfl (off6_eq c) (off2_eq c) rfl) $$ [HSt O0]
  · isplitl [HSt] <;> iassumption
  iintro ⟨HSt, D0⟩
  iapply (wait_send K c 6 (by decide) rfl rfl 9 12 1 rfl (by decide)) $$ [HSt C6]
  · isplitl [HSt] <;> iassumption
  iintro ⟨HSt, P6⟩
  iapply (wait_recv K c 6 (by decide) rfl rfl 9 13 1 rfl (by decide) (by decide)) $$ HSt
  iintro ⟨HSt, R6⟩
  iapply WP_ret
  ispecialize Hk $$ [HSt C13 D0 P6 R6]
  · isplitl [HSt]; · iexact HSt
    isplitl [C13]; · iexact C13
    isplitl [D0]; · iexact D0
    isplitl [P6]; · iexact P6
    iexact R6
  iapply Hk

theorem run19 {Q' : _ → sProp 𝕄} (v2 v5 v8 v19 v557 v558 : BitVec 32) (v559 : BitVec 1) :
    iprop(St m K c 9 14 1 ∗ sendPay m 7 c)
      ⊢ iprop(((St m K c 10 14 1 ∗ crd c 7)
          -∗ ∀ v, Q' v)
        -∗ WP c (onArgs (k0_part19 (F := F)) c v2 v5 v8 v19 v557 v558 v559) Q') := by
  rw [k0_part19_eq_skeleton]; unfold k0_part19_skel
  simp only [Prog.lift, Prog.bind_op, Prog.bind_ret, Prog.pure_eq_ret]
  iintro ⟨HSt, P7⟩ Hk
  iapply (send_step K c (xZ m c 1 rfl (off5_eq c 1)) (dev14_eq c) rfl rfl rfl 9 14 1 rfl) $$ [HSt P7]
  · isplitl [HSt]; · iexact HSt
    iexact P7
  iintro ⟨HSt, C7⟩
  iapply WP_ret
  ispecialize Hk $$ [HSt C7]
  · isplitl [HSt]; · iexact HSt
    iexact C7
  iapply Hk

theorem run20 {Q' : PUnit → sProp 𝕄} (v2 v5 v8 v32 v33 v49 v590 v592 v594 : BitVec 32) :
    iprop(St m K c 10 14 1 ∗ sendPay m 10 c ∗ sendPay m 14 c)
      ⊢ iprop(((St m K c 12 14 1 ∗ crd c 10 ∗ crd c 14)
          -∗ Q' ⟨⟩)
        -∗ WP c (onArgs (k0_part20 (F := F)) c v2 v5 v8 v32 v33 v49 v590 v592 v594) Q') := by
  rw [k0_part20_eq_skeleton]; unfold k0_part20_skel
  simp only [Prog.lift, Prog.bind_op, Prog.bind_ret, Prog.pure_eq_ret]
  iintro ⟨HSt, P10, P14⟩ Hk
  iapply (send_step K c (xX m c 1 rfl (off5_eq c 1)) (dev15_eq c) rfl rfl rfl 10 14 1 rfl) $$ [HSt P10]
  · isplitl [HSt]; · iexact HSt
    iexact P10
  iintro ⟨HSt, C10⟩
  iapply (send_step K c (xY m c 1 rfl (off5_eq c 1)) (dev16_eq c) rfl rfl rfl 11 14 1 rfl) $$ [HSt P14]
  · isplitl [HSt]; · iexact HSt
    iexact P14
  iintro ⟨HSt, C14⟩
  iapply WP_ret
  iapply Hk
  isplitl [HSt]; · iexact HSt
  isplitl [C10]; · iexact C10
  iexact C14

theorem run21 {Q' : PUnit → sProp 𝕄} (v2 v5 v8 v19 : BitVec 32) :
    iprop(St m K c 12 14 1 ∗ storeSrc m 1 c ∗ crd c 7)
      ⊢ iprop(((St m K c 12 16 2 ∗ crdS c 1 ∗ sendPay m 7 c ∗ recvPay m 7 c)
          -∗ Q' ⟨⟩)
        -∗ WP c (onArgs (k0_part21 (F := F)) c v2 v5 v8 v19) Q') := by
  rw [k0_part21_eq_skeleton]; unfold k0_part21_skel
  simp only [Prog.lift, Prog.bind_op, Prog.bind_ret, Prog.pure_eq_ret]
  iintro ⟨HSt, O1, C7⟩ Hk
  iapply (store_own K c 1 12 14 1 rfl (off5_eq c 1) (off7_eq c 0) rfl) $$ [HSt O1]
  · isplitl [HSt] <;> iassumption
  iintro ⟨HSt, D1⟩
  iapply (wait_send K c 7 (by decide) rfl rfl 12 14 2 rfl (by decide)) $$ [HSt C7]
  · isplitl [HSt] <;> iassumption
  iintro ⟨HSt, P7⟩
  iapply (wait_recv K c 7 (by decide) rfl rfl 12 15 2 rfl (by decide) (by decide)) $$ HSt
  iintro ⟨HSt, R7⟩
  iapply WP_ret
  iapply Hk
  isplitl [HSt]; · iexact HSt
  isplitl [D1]; · iexact D1
  isplitl [P7]; · iexact P7
  iexact R7

theorem run22 {Q' : _ → sProp 𝕄} (v2 v5 v8 v19 : BitVec 32) :
    iprop(St m K c 12 16 2 ∗ sendPay m 8 c)
      ⊢ iprop(((St m K c 13 16 2 ∗ crd c 8)
          -∗ ∀ v, Q' v)
        -∗ WP c (onArgs (k0_part22 (F := F)) c v2 v5 v8 v19) Q') := by
  rw [k0_part22_eq_skeleton]; unfold k0_part22_skel
  simp only [Prog.lift, Prog.bind_op, Prog.bind_ret, Prog.pure_eq_ret]
  iintro ⟨HSt, P8⟩ Hk
  iapply (send_step K c (xZ m c 2 rfl (off5_eq c 2)) (dev17_eq c) rfl rfl rfl 12 16 2 rfl) $$ [HSt P8]
  · isplitl [HSt]; · iexact HSt
    iexact P8
  iintro ⟨HSt, C8⟩
  iapply WP_ret
  ispecialize Hk $$ [HSt C8]
  · isplitl [HSt]; · iexact HSt
    iexact C8
  iapply Hk

theorem run23 {Q' : PUnit → sProp 𝕄} (v2 v5 v8 v32 v33 v49 v685 v697 : BitVec 32) :
    iprop(St m K c 13 16 2 ∗ sendPay m 11 c ∗ sendPay m 15 c ∗ storeSrc m 2 c)
      ⊢ iprop(((St m K c 15 16 3 ∗ crd c 11 ∗ crd c 15 ∗ crdS c 2)
          -∗ Q' ⟨⟩)
        -∗ WP c (onArgs (k0_part23 (F := F)) c v2 v5 v8 v32 v33 v49 v685 v697) Q') := by
  rw [k0_part23_eq_skeleton]; unfold k0_part23_skel
  simp only [Prog.lift, Prog.bind_op, Prog.bind_ret, Prog.pure_eq_ret]
  iintro ⟨HSt, P11, P15, O2⟩ Hk
  iapply (send_step K c (xX m c 2 rfl (off5_eq c 2)) (dev18_eq c) rfl rfl rfl 13 16 2 rfl) $$ [HSt P11]
  · isplitl [HSt]; · iexact HSt
    iexact P11
  iintro ⟨HSt, C11⟩
  iapply (send_step K c (xY m c 2 rfl (off5_eq c 2)) (dev19_eq c) rfl rfl rfl 14 16 2 rfl) $$ [HSt P15]
  · isplitl [HSt]; · iexact HSt
    iexact P15
  iintro ⟨HSt, C15⟩
  iapply (store_own K c 2 15 16 2 rfl (off5_eq c 2) (off7_eq c 1) rfl) $$ [HSt O2]
  · isplitl [HSt] <;> iassumption
  iintro ⟨HSt, D2⟩
  iapply WP_ret
  iapply Hk
  isplitl [HSt]; · iexact HSt
  isplitl [C11]; · iexact C11
  isplitl [C15]; · iexact C15
  iexact D2

theorem run24 {Q' : _ → sProp 𝕄} (v2 v5 v8 v19 : BitVec 32) :
    iprop(St m K c 15 16 3 ∗ crd c 8)
      ⊢ iprop(((St m K c 15 18 3 ∗ sendPay m 8 c ∗ recvPay m 8 c)
          -∗ ∀ v, Q' v)
        -∗ WP c (onArgs (k0_part24 (F := F)) c v2 v5 v8 v19) Q') := by
  rw [k0_part24_eq_skeleton]; unfold k0_part24_skel
  simp only [Prog.lift, Prog.bind_op, Prog.bind_ret, Prog.pure_eq_ret]
  iintro ⟨HSt, C8⟩ Hk
  iapply (wait_send K c 8 (by decide) rfl rfl 15 16 3 rfl (by decide)) $$ [HSt C8]
  · isplitl [HSt] <;> iassumption
  iintro ⟨HSt, P8⟩
  iapply (wait_recv K c 8 (by decide) rfl rfl 15 17 3 rfl (by decide) (by decide)) $$ HSt
  iintro ⟨HSt, R8⟩
  iapply WP_ret
  ispecialize Hk $$ [HSt P8 R8]
  · isplitl [HSt]; · iexact HSt
    isplitl [P8]; · iexact P8
    iexact R8
  iapply Hk

theorem run25 {Q' : PUnit → sProp 𝕄} (v2 v5 v8 v32 v33 v43 v49 v755 v759 v760 : BitVec 32) (v761 v762 : BitVec 1) :
    iprop(St m K c 15 18 3 ∗ sendPay m 12 c ∗ sendPay m 16 c)
      ⊢ iprop(((St m K c 17 18 3 ∗ crd c 12 ∗ crd c 16)
          -∗ Q' ⟨⟩)
        -∗ WP c (onArgs (k0_part25 (F := F)) c v2 v5 v8 v32 v33 v43 v49 v755 v759 v760 v761 v762) Q') := by
  rw [k0_part25_eq_skeleton]; unfold k0_part25_skel
  simp only [Prog.lift, Prog.bind_op, Prog.bind_ret, Prog.pure_eq_ret]
  iintro ⟨HSt, P12, P16⟩ Hk
  iapply (send_step K c (xXh m c (off8_eq c)) (dev20_eq c) rfl rfl rfl 15 18 3 rfl) $$ [HSt P12]
  · isplitl [HSt]; · iexact HSt
    iexact P12
  iintro ⟨HSt, C12⟩
  iapply (send_step K c (xYh m c (off8_eq c)) (dev21_eq c) rfl rfl rfl 16 18 3 rfl) $$ [HSt P16]
  · isplitl [HSt]; · iexact HSt
    iexact P16
  iintro ⟨HSt, C16⟩
  iapply WP_ret
  iapply Hk
  isplitl [HSt]; · iexact HSt
  isplitl [C12]; · iexact C12
  iexact C16

theorem run26 {Q' : _ → sProp 𝕄} (v2 v5 v8 : BitVec 32) :
    iprop(St m K c 17 18 3 ∗ storeSrc m 3 c ∗ crd c 13)
      ⊢ iprop(((St m K c 17 19 4 ∗ crdS c 3 ∗ sendPay m 13 c)
          -∗ ∀ v, Q' v)
        -∗ WP c (onArgs (k0_part26 (F := F)) c v2 v5 v8) Q') := by
  rw [k0_part26_eq_skeleton]; unfold k0_part26_skel
  simp only [Prog.lift, Prog.bind_op, Prog.bind_ret, Prog.pure_eq_ret]
  iintro ⟨HSt, O3, C13⟩ Hk
  iapply (store_own K c 3 17 18 3 rfl (off5_eq c 3) (off7_eq c 2) rfl) $$ [HSt O3]
  · isplitl [HSt] <;> iassumption
  iintro ⟨HSt, D3⟩
  iapply (wait_send K c 13 (by decide) rfl rfl 17 18 4 rfl (by decide)) $$ [HSt C13]
  · isplitl [HSt] <;> iassumption
  iintro ⟨HSt, P13⟩
  iapply WP_ret
  ispecialize Hk $$ [HSt D3 P13]
  · isplitl [HSt]; · iexact HSt
    isplitl [D3]; · iexact D3
    iexact P13
  iapply Hk

end Cert.AllReduce
-- ==== Proof.AllReduce.PartsSwap.lean ====
/-
# Passing the neighbours' quarters on, and the swap along z

A chunk that arrived along x or y goes on along the other axis, halves of the last chunks are swapped with the partner
along z, and every chunk that arrives is stored.
-/
module

public import proofs.«01_k».proof.Proof.AllReduce.Shares

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

theorem run27 {Q' : PUnit → sProp 𝕄} (v5 v8 v32 v33 v829 c0_i32_639 : BitVec 32) :
    iprop(St m K c 17 19 4 ∗ crd c 9)
      ⊢ iprop(((St m K c 18 21 4 ∗ storeSrc m 5 c ∗ p5 c (cA c 0) sRR (QY m c) ∗ crd c 17 ∗ sendPay m 9 c)
          -∗ Q' ⟨⟩)
        -∗ WP c (onArgs (k0_part27 (F := F)) c v5 v8 v32 v33 v829 c0_i32_639) Q') := by
  rw [k0_part27_eq_skeleton]; unfold k0_part27_skel
  simp only [Prog.lift, Prog.bind_op, Prog.bind_ret, Prog.pure_eq_ret]
  iintro ⟨HSt, C9⟩ Hk
  iapply (wait_recv K c 13 (by decide) rfl rfl 17 19 4 rfl (by decide) (by decide)) $$ HSt
  iintro ⟨HSt, R13⟩
  ihave Hs := (splitY_on m c 0).1 $$ R13
  icases Hs with ⟨O5, P17, YS0⟩
  iapply (send_step K c (xDx m c 0 rfl (off5_eq c 0)) (dev22_eq c) rfl rfl rfl 17 20 4 rfl) $$ [HSt P17]
  · isplitl [HSt]; · iexact HSt
    iexact P17
  iintro ⟨HSt, C17⟩
  iapply (wait_send K c 9 (by decide) rfl rfl 18 20 4 rfl (by decide)) $$ [HSt C9]
  · isplitl [HSt] <;> iassumption
  iintro ⟨HSt, P9⟩
  iapply WP_ret
  iapply Hk
  isplitl [HSt]; · iexact HSt
  isplitl [O5]; · iexact O5
  isplitl [YS0]; · iexact YS0
  isplitl [C17]; · iexact C17
  iexact P9

theorem run28 {Q' : _ → sProp 𝕄} (v8 v804 v807 v823 : BitVec 32) :
    iprop(St m K c 18 21 4 ∗ storeSrc m 5 c)
      ⊢ iprop(((St m K c 18 22 6 ∗ p4 c (cA c 0) sRL (QX m c) ∗ p4 c (cA c 0) sRR (QX m c) ∗ crdS c 4 ∗ crdS c 5)
          -∗ ∀ v, Q' v)
        -∗ WP c (onArgs (k0_part28 (F := F)) c v8 v804 v807 v823) Q') := by
  rw [k0_part28_eq_skeleton]; unfold k0_part28_skel
  simp only [Prog.lift, Prog.bind_op, Prog.bind_ret, Prog.pure_eq_ret]
  iintro ⟨HSt, O5⟩ Hk
  iapply (wait_recv K c 9 (by decide) rfl rfl 18 21 4 rfl (by decide) (by decide)) $$ HSt
  iintro ⟨HSt, R9⟩
  ihave Hs := (splitX m c 0).1 $$ R9
  icases Hs with ⟨O4, X0, XS0⟩
  iapply (store_x K c 0 18 22 4 rfl (off5_eq c 0) (off9_eq c 0) rfl) $$ [HSt O4]
  · isplitl [HSt] <;> iassumption
  iintro ⟨HSt, D4⟩
  iapply (store_y K c 0 18 22 5 rfl (off5_eq c 0) (off10_eq c 0) rfl) $$ [HSt O5]
  · isplitl [HSt] <;> iassumption
  iintro ⟨HSt, D5⟩
  iapply WP_ret
  ispecialize Hk $$ [HSt X0 XS0 D4 D5]
  · isplitl [HSt]; · iexact HSt
    isplitl [X0]; · iexact X0
    isplitl [XS0]; · iexact XS0
    isplitl [D4]; · iexact D4
    iexact D5
  iapply Hk

theorem run29 {Q' : _ → sProp 𝕄} (v2 v5 v8 v32 v33 : BitVec 32) :
    iprop(St m K c 18 22 6 ∗ crd c 14 ∗ crd c 10)
      ⊢ iprop(((St m K c 19 25 6 ∗ sendPay m 14 c ∗ storeSrc m 7 c ∗ p5 c (cA c 1) sRR (QY m c) ∗ crd c 18 ∗ sendPay m 10 c)
          -∗ ∀ v, Q' v)
        -∗ WP c (onArgs (k0_part29 (F := F)) c v2 v5 v8 v32 v33) Q') := by
  rw [k0_part29_eq_skeleton]; unfold k0_part29_skel
  simp only [Prog.lift, Prog.bind_op, Prog.bind_ret, Prog.pure_eq_ret]
  iintro ⟨HSt, C14, C10⟩ Hk
  iapply (wait_send K c 14 (by decide) rfl rfl 18 22 6 rfl (by decide)) $$ [HSt C14]
  · isplitl [HSt] <;> iassumption
  iintro ⟨HSt, P14⟩
  iapply (wait_recv K c 14 (by decide) rfl rfl 18 23 6 rfl (by decide) (by decide)) $$ HSt
  iintro ⟨HSt, R14⟩
  ihave Hs := (splitY_on m c 1).1 $$ R14
  icases Hs with ⟨O7, P18, YS1⟩
  iapply (send_step K c (xDx m c 1 rfl (off5_eq c 1)) (dev23_eq c) rfl rfl rfl 18 24 6 rfl) $$ [HSt P18]
  · isplitl [HSt]; · iexact HSt
    iexact P18
  iintro ⟨HSt, C18⟩
  iapply (wait_send K c 10 (by decide) rfl rfl 19 24 6 rfl (by decide)) $$ [HSt C10]
  · isplitl [HSt] <;> iassumption
  iintro ⟨HSt, P10⟩
  iapply WP_ret
  ispecialize Hk $$ [HSt P14 O7 YS1 C18 P10]
  · isplitl [HSt]; · iexact HSt
    isplitl [P14]; · iexact P14
    isplitl [O7]; · iexact O7
    isplitl [YS1]; · iexact YS1
    isplitl [C18]; · iexact C18
    iexact P10
  iapply Hk

theorem run30 {Q' : _ → sProp 𝕄} (v8 v804 v807 v890 v923 v924 : BitVec 32) :
    iprop(St m K c 19 25 6 ∗ storeSrc m 7 c)
      ⊢ iprop(((St m K c 19 26 8 ∗ p4 c (cA c 1) sRL (QX m c) ∗ p4 c (cA c 1) sRR (QX m c) ∗ crdS c 6 ∗ crdS c 7)
          -∗ ∀ v, Q' v)
        -∗ WP c (onArgs (k0_part30 (F := F)) c v8 v804 v807 v890 v923 v924) Q') := by
  rw [k0_part30_eq_skeleton]; unfold k0_part30_skel
  simp only [Prog.lift, Prog.bind_op, Prog.bind_ret, Prog.pure_eq_ret]
  iintro ⟨HSt, O7⟩ Hk
  iapply (wait_recv K c 10 (by decide) rfl rfl 19 25 6 rfl (by decide) (by decide)) $$ HSt
  iintro ⟨HSt, R10⟩
  ihave Hs := (splitX m c 1).1 $$ R10
  icases Hs with ⟨O6, X1, XS1⟩
  iapply (store_x K c 1 19 26 6 rfl (off5_eq c 1) (off9_eq c 1) rfl) $$ [HSt O6]
  · isplitl [HSt] <;> iassumption
  iintro ⟨HSt, D6⟩
  iapply (store_y K c 1 19 26 7 rfl (off5_eq c 1) (off10_eq c 1) rfl) $$ [HSt O7]
  · isplitl [HSt] <;> iassumption
  iintro ⟨HSt, D7⟩
  iapply WP_ret
  ispecialize Hk $$ [HSt X1 XS1 D6 D7]
  · isplitl [HSt]; · iexact HSt
    isplitl [X1]; · iexact X1
    isplitl [XS1]; · iexact XS1
    isplitl [D6]; · iexact D6
    iexact D7
  iapply Hk

theorem run31 {Q' : _ → sProp 𝕄} (v2 v5 v8 v32 v43 : BitVec 32) :
    iprop(St m K c 19 26 8 ∗ crd c 11)
      ⊢ iprop(((St m K c 19 28 8 ∗ sendPay m 11 c ∗ storeSrc m 8 c ∗ sendPay m 19 c ∗ p4 c (cA c 2) sRR (QX m c))
          -∗ ∀ v, Q' v)
        -∗ WP c (onArgs (k0_part31 (F := F)) c v2 v5 v8 v32 v43) Q') := by
  rw [k0_part31_eq_skeleton]; unfold k0_part31_skel
  simp only [Prog.lift, Prog.bind_op, Prog.bind_ret, Prog.pure_eq_ret]
  iintro ⟨HSt, C11⟩ Hk
  iapply (wait_send K c 11 (by decide) rfl rfl 19 26 8 rfl (by decide)) $$ [HSt C11]
  · isplitl [HSt] <;> iassumption
  iintro ⟨HSt, P11⟩
  iapply (wait_recv K c 11 (by decide) rfl rfl 19 27 8 rfl (by decide) (by decide)) $$ HSt
  iintro ⟨HSt, R11⟩
  ihave Hs := (splitX_on m c).1 $$ R11
  icases Hs with ⟨O8, P19, XS2⟩
  iapply WP_ret
  ispecialize Hk $$ [HSt P11 O8 P19 XS2]
  · isplitl [HSt]; · iexact HSt
    isplitl [P11]; · iexact P11
    isplitl [O8]; · iexact O8
    isplitl [P19]; · iexact P19
    iexact XS2
  iapply Hk

theorem run32 {Q' : PUnit → sProp 𝕄} (v2 v5 v8 v33 v46 v990 : BitVec 32) :
    iprop(St m K c 19 28 8 ∗ p4 c (cA c 0) sRR (QX m c) ∗ p4 c (cA c 2) sRR (QX m c) ∗ sendPay m 19 c ∗ crd c 15)
      ⊢ iprop(((St m K c 21 29 8 ∗ p4 c (offSwap c) sRR (QX m c) ∗ crd c 21 ∗ crd c 19 ∗ sendPay m 15 c)
          -∗ Q' ⟨⟩)
        -∗ WP c (onArgs (k0_part32 (F := F)) c v2 v5 v8 v33 v46 v990) Q') := by
  rw [k0_part32_eq_skeleton]; unfold k0_part32_skel
  simp only [Prog.lift, Prog.bind_op, Prog.bind_ret, Prog.pure_eq_ret]
  iintro ⟨HSt, XS0, XS2, P19, C15⟩ Hk
  ihave Hs := (swapX m c).1 $$ [XS0 XS2]
  · isplitl [XS0]; · iexact XS0
    iexact XS2
  icases Hs with ⟨P21, XO⟩
  iapply (send_step K c (xPx m c (off11_eq c)) (dev24_eq c) rfl rfl rfl 19 28 8 rfl) $$ [HSt P21]
  · isplitl [HSt]; · iexact HSt
    iexact P21
  iintro ⟨HSt, C21⟩
  iapply (send_step K c (xDy m c 0 rfl (off5_eq c 2)) (dev25_eq c) rfl rfl rfl 20 28 8 rfl) $$ [HSt P19]
  · isplitl [HSt]; · iexact HSt
    iexact P19
  iintro ⟨HSt, C19⟩
  iapply (wait_send K c 15 (by decide) rfl rfl 21 28 8 rfl (by decide)) $$ [HSt C15]
  · isplitl [HSt] <;> iassumption
  iintro ⟨HSt, P15⟩
  iapply WP_ret
  iapply Hk
  isplitl [HSt]; · iexact HSt
  isplitl [XO]; · iexact XO
  isplitl [C21]; · iexact C21
  isplitl [C19]; · iexact C19
  iexact P15

theorem run33 {Q' : _ → sProp 𝕄} (v2 v5 v8 v46 v804 v807 v957 : BitVec 32) :
    iprop(St m K c 21 29 8 ∗ p5 c (cA c 0) sRR (QY m c) ∗ storeSrc m 8 c)
      ⊢ iprop(((St m K c 22 30 10 ∗ p5 c (cA c 2) sRL (QY m c) ∗ p5 c (offSwap c) sRR (QY m c) ∗ crd c 22 ∗ crdS c 8 ∗ crdS c 9)
          -∗ ∀ v, Q' v)
        -∗ WP c (onArgs (k0_part33 (F := F)) c v2 v5 v8 v46 v804 v807 v957) Q') := by
  rw [k0_part33_eq_skeleton]; unfold k0_part33_skel
  simp only [Prog.lift, Prog.bind_op, Prog.bind_ret, Prog.pure_eq_ret]
  iintro ⟨HSt, YS0, O8⟩ Hk
  iapply (wait_recv K c 15 (by decide) rfl rfl 21 29 8 rfl (by decide) (by decide)) $$ HSt
  iintro ⟨HSt, R15⟩
  ihave Hs := (splitY m c 2).1 $$ R15
  icases Hs with ⟨O9, Y2, YS2⟩
  ihave Hs := (swapY m c).1 $$ [YS0 YS2]
  · isplitl [YS0]; · iexact YS0
    iexact YS2
  icases Hs with ⟨P22, YO⟩
  iapply (send_step K c (xPy m c (off11_eq c)) (dev26_eq c) rfl rfl rfl 21 30 8 rfl) $$ [HSt P22]
  · isplitl [HSt]; · iexact HSt
    iexact P22
  iintro ⟨HSt, C22⟩
  iapply (store_x K c 2 22 30 8 rfl (off5_eq c 2) (off9_eq c 2) rfl) $$ [HSt O8]
  · isplitl [HSt] <;> iassumption
  iintro ⟨HSt, D8⟩
  iapply (store_y K c 2 22 30 9 rfl (off5_eq c 2) (off10_eq c 2) rfl) $$ [HSt O9]
  · isplitl [HSt] <;> iassumption
  iintro ⟨HSt, D9⟩
  iapply WP_ret
  ispecialize Hk $$ [HSt Y2 YO C22 D8 D9]
  · isplitl [HSt]; · iexact HSt
    isplitl [Y2]; · iexact Y2
    isplitl [YO]; · iexact YO
    isplitl [C22]; · iexact C22
    isplitl [D8]; · iexact D8
    iexact D9
  iapply Hk

theorem run34 {Q' : _ → sProp 𝕄} (v2 v5 v8 v32 v1054 c4_i32_804 c1_i32_806 : BitVec 32) (v1055 : BitVec 1) :
    iprop(St m K c 22 30 10 ∗ crd c 12 ∗ crd c 21)
      ⊢ iprop(((St m K c 22 33 10 ∗ sendPay m 12 c ∗ recvPay m 12 c ∗ sendPay m 21 c)
          -∗ ∀ v, Q' v)
        -∗ WP c (onArgs (k0_part34 (F := F)) c v2 v5 v8 v32 v1054 c4_i32_804 v1055 c1_i32_806) Q') := by
  rw [k0_part34_eq_skeleton]; unfold k0_part34_skel
  simp only [Prog.lift, Prog.bind_op, Prog.bind_ret, Prog.pure_eq_ret]
  iintro ⟨HSt, C12, C21⟩ Hk
  iapply (wait_send K c 12 (by decide) rfl rfl 22 30 10 rfl (by decide)) $$ [HSt C12]
  · isplitl [HSt] <;> iassumption
  iintro ⟨HSt, P12⟩
  iapply (wait_recv K c 12 (by decide) rfl rfl 22 31 10 rfl (by decide) (by decide)) $$ HSt
  iintro ⟨HSt, R12⟩
  iapply (wait_send K c 21 (by decide) rfl rfl 22 32 10 rfl (by decide)) $$ [HSt C21]
  · isplitl [HSt] <;> iassumption
  iintro ⟨HSt, P21⟩
  iapply WP_ret
  ispecialize Hk $$ [HSt P12 R12 P21]
  · isplitl [HSt]; · iexact HSt
    isplitl [P12]; · iexact P12
    isplitl [R12]; · iexact R12
    iexact P21
  iapply Hk

theorem run35 {Q' : _ → sProp 𝕄} (v2 v5 v8 v33 v46 v804 v1064 v1085 c4_i32_833 : BitVec 32) :
    iprop(St m K c 22 33 10 ∗ recvPay m 12 c ∗ crd c 16)
      ⊢ iprop(((St m K c 23 35 11 ∗ p4 c (cA c 3) sRR (QX m c) ∗ crd c 20 ∗ crdS c 10 ∗ sendPay m 16 c)
          -∗ ∀ v, Q' v)
        -∗ WP c (onArgs (k0_part35 (F := F)) c v2 v5 v8 v33 v46 v804 v1064 v1085 c4_i32_833) Q') := by
  rw [k0_part35_eq_skeleton]; unfold k0_part35_skel
  simp only [Prog.lift, Prog.bind_op, Prog.bind_ret, Prog.pure_eq_ret]
  iintro ⟨HSt, R12, C16⟩ Hk
  iapply (wait_recv K c 21 (by decide) rfl rfl 22 33 10 rfl (by decide) (by decide)) $$ HSt
  iintro ⟨HSt, R21⟩
  ihave Hs := (splitX3 m c).1 $$ [R12 R21]
  · isplitl [R12]; · iexact R12
    iexact R21
  icases Hs with ⟨O10, P20, XS3⟩
  iapply (send_step K c (xDy m c 1 rfl (off5_eq c 3)) (dev27_eq c) rfl rfl rfl 22 34 10 rfl) $$ [HSt P20]
  · isplitl [HSt]; · iexact HSt
    iexact P20
  iintro ⟨HSt, C20⟩
  iapply (store_x K c 3 23 34 10 rfl (off5_eq c 3) (off9_eq c 3) rfl) $$ [HSt O10]
  · isplitl [HSt] <;> iassumption
  iintro ⟨HSt, D10⟩
  iapply (wait_send K c 16 (by decide) rfl rfl 23 34 11 rfl (by decide)) $$ [HSt C16]
  · isplitl [HSt] <;> iassumption
  iintro ⟨HSt, P16⟩
  iapply WP_ret
  ispecialize Hk $$ [HSt XS3 C20 D10 P16]
  · isplitl [HSt]; · iexact HSt
    isplitl [XS3]; · iexact XS3
    isplitl [C20]; · iexact C20
    isplitl [D10]; · iexact D10
    iexact P16
  iapply Hk

theorem run36 {Q' : PUnit → sProp 𝕄} (v2 v5 v8 v33 v46 v807 v1064 v1117 : BitVec 32) :
    iprop(St m K c 23 35 11 ∗ crd c 22)
      ⊢ iprop(((St m K c 23 38 12 ∗ sendPay m 22 c ∗ p5 c (cA c 3) sRL (QY m c) ∗ p5 c (cA c 3) sRR (QY m c) ∗ crdS c 11)
          -∗ Q' ⟨⟩)
        -∗ WP c (onArgs (k0_part36 (F := F)) c v2 v5 v8 v33 v46 v807 v1064 v1117) Q') := by
  rw [k0_part36_eq_skeleton]; unfold k0_part36_skel
  simp only [Prog.lift, Prog.bind_op, Prog.bind_ret, Prog.pure_eq_ret]
  iintro ⟨HSt, C22⟩ Hk
  iapply (wait_recv K c 16 (by decide) rfl rfl 23 35 11 rfl (by decide) (by decide)) $$ HSt
  iintro ⟨HSt, R16⟩
  iapply (wait_send K c 22 (by decide) rfl rfl 23 36 11 rfl (by decide)) $$ [HSt C22]
  · isplitl [HSt] <;> iassumption
  iintro ⟨HSt, P22⟩
  iapply (wait_recv K c 22 (by decide) rfl rfl 23 37 11 rfl (by decide) (by decide)) $$ HSt
  iintro ⟨HSt, R22⟩
  ihave Hs := (splitY3 m c).1 $$ [R16 R22]
  · isplitl [R16]; · iexact R16
    iexact R22
  icases Hs with ⟨O11, Y3, YS3⟩
  iapply (store_y K c 3 23 38 11 rfl (off5_eq c 3) (off10_eq c 3) rfl) $$ [HSt O11]
  · isplitl [HSt] <;> iassumption
  iintro ⟨HSt, D11⟩
  iapply WP_ret
  iapply Hk
  isplitl [HSt]; · iexact HSt
  isplitl [P22]; · iexact P22
  isplitl [Y3]; · iexact Y3
  isplitl [YS3]; · iexact YS3
  iexact D11

end Cert.AllReduce
-- ==== Proof.AllReduce.PartsOut.lean ====
/-
# The diagonal quarter and the last stores
-/
module

public import proofs.«01_k».proof.Proof.AllReduce.Shares

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

theorem run37 {Q' : PUnit → sProp 𝕄} (v5 v8 v32 v811 : BitVec 32) :
    iprop(St m K c 23 38 12 ∗ crd c 17)
      ⊢ iprop(((St m K c 23 40 12 ∗ sendPay m 17 c ∗ recvPay m 17 c)
          -∗ Q' ⟨⟩)
        -∗ WP c (onArgs (k0_part37 (F := F)) c v5 v8 v32 v811) Q') := by
  rw [k0_part37_eq_skeleton]; unfold k0_part37_skel
  simp only [Prog.lift, Prog.bind_op, Prog.bind_ret, Prog.pure_eq_ret]
  iintro ⟨HSt, C17⟩ Hk
  iapply (wait_send K c 17 (by decide) rfl rfl 23 38 12 rfl (by decide)) $$ [HSt C17]
  · isplitl [HSt] <;> iassumption
  iintro ⟨HSt, P17⟩
  iapply (wait_recv K c 17 (by decide) rfl rfl 23 39 12 rfl (by decide) (by decide)) $$ HSt
  iintro ⟨HSt, R17⟩
  iapply WP_ret
  iapply Hk
  isplitl [HSt]; · iexact HSt
  isplitl [P17]; · iexact P17
  iexact R17

theorem run38 {Q' : PUnit → sProp 𝕄} (v5 v8 v32 v811 : BitVec 32) :
    iprop(St m K c 23 40 12 ∗ storeSrc m 12 c ∗ crd c 18)
      ⊢ iprop(((St m K c 23 42 13 ∗ crdS c 12 ∗ sendPay m 18 c ∗ recvPay m 18 c)
          -∗ Q' ⟨⟩)
        -∗ WP c (onArgs (k0_part38 (F := F)) c v5 v8 v32 v811) Q') := by
  rw [k0_part38_eq_skeleton]; unfold k0_part38_skel
  simp only [Prog.lift, Prog.bind_op, Prog.bind_ret, Prog.pure_eq_ret]
  iintro ⟨HSt, O12, C18⟩ Hk
  iapply (store_d K c 0 23 40 12 rfl (off5_eq c 0) (off12_eq c 0) rfl) $$ [HSt O12]
  · isplitl [HSt] <;> iassumption
  iintro ⟨HSt, D12⟩
  iapply (wait_send K c 18 (by decide) rfl rfl 23 40 13 rfl (by decide)) $$ [HSt C18]
  · isplitl [HSt] <;> iassumption
  iintro ⟨HSt, P18⟩
  iapply (wait_recv K c 18 (by decide) rfl rfl 23 41 13 rfl (by decide) (by decide)) $$ HSt
  iintro ⟨HSt, R18⟩
  iapply WP_ret
  iapply Hk
  isplitl [HSt]; · iexact HSt
  isplitl [D12]; · iexact D12
  isplitl [P18]; · iexact P18
  iexact R18

theorem run39 {Q' : _ → sProp 𝕄} (v2 v8 v33 v811 : BitVec 32) :
    iprop(St m K c 23 42 13 ∗ storeSrc m 13 c ∗ crd c 19)
      ⊢ iprop(((St m K c 23 44 14 ∗ crdS c 13 ∗ sendPay m 19 c ∗ recvPay m 19 c)
          -∗ ∀ v, Q' v)
        -∗ WP c (onArgs (k0_part39 (F := F)) c v2 v8 v33 v811) Q') := by
  rw [k0_part39_eq_skeleton]; unfold k0_part39_skel
  simp only [Prog.lift, Prog.bind_op, Prog.bind_ret, Prog.pure_eq_ret]
  iintro ⟨HSt, O13, C19⟩ Hk
  iapply (store_d K c 1 23 42 13 rfl (off5_eq c 1) (off12_eq c 1) rfl) $$ [HSt O13]
  · isplitl [HSt] <;> iassumption
  iintro ⟨HSt, D13⟩
  iapply (wait_send K c 19 (by decide) rfl rfl 23 42 14 rfl (by decide)) $$ [HSt C19]
  · isplitl [HSt] <;> iassumption
  iintro ⟨HSt, P19⟩
  iapply (wait_recv K c 19 (by decide) rfl rfl 23 43 14 rfl (by decide) (by decide)) $$ HSt
  iintro ⟨HSt, R19⟩
  iapply WP_ret
  ispecialize Hk $$ [HSt D13 P19 R19]
  · isplitl [HSt]; · iexact HSt
    isplitl [D13]; · iexact D13
    isplitl [P19]; · iexact P19
    iexact R19
  iapply Hk

theorem run40 {Q' : _ → sProp 𝕄} (v2 v8 v33 v1243 v1244 : BitVec 32) :
    iprop(St m K c 23 44 14 ∗ storeSrc m 14 c ∗ crd c 20)
      ⊢ iprop(((St m K c 23 46 15 ∗ crdS c 14 ∗ sendPay m 20 c ∗ recvPay m 20 c)
          -∗ ∀ v, Q' v)
        -∗ WP c (onArgs (k0_part40 (F := F)) c v2 v8 v33 v1243 v1244) Q') := by
  rw [k0_part40_eq_skeleton]; unfold k0_part40_skel
  simp only [Prog.lift, Prog.bind_op, Prog.bind_ret, Prog.pure_eq_ret]
  iintro ⟨HSt, O14, C20⟩ Hk
  iapply (store_d K c 2 23 44 14 rfl (off5_eq c 2) (off12_eq c 2) rfl) $$ [HSt O14]
  · isplitl [HSt] <;> iassumption
  iintro ⟨HSt, D14⟩
  iapply (wait_send K c 20 (by decide) rfl rfl 23 44 15 rfl (by decide)) $$ [HSt C20]
  · isplitl [HSt] <;> iassumption
  iintro ⟨HSt, P20⟩
  iapply (wait_recv K c 20 (by decide) rfl rfl 23 45 15 rfl (by decide) (by decide)) $$ HSt
  iintro ⟨HSt, R20⟩
  iapply WP_ret
  ispecialize Hk $$ [HSt D14 P20 R20]
  · isplitl [HSt]; · iexact HSt
    isplitl [D14]; · iexact D14
    isplitl [P20]; · iexact P20
    iexact R20
  iapply Hk

theorem run41 {Q' : PUnit → sProp 𝕄} (v811 v1275 : BitVec 32) :
    iprop(St m K c 23 46 15 ∗ storeSrc m 15 c ∗ crdS c 0 ∗ crdS c 1 ∗ crdS c 2 ∗ crdS c 3
      ∗ crdS c 4)
      ⊢ iprop(((St m K c 23 51 16 ∗ crdS c 15 ∗ storePay m 0 c ∗ storePay m 1 c ∗ storePay m 2 c ∗ storePay m 3 c
      ∗ storePay m 4 c)
          -∗ Q' ⟨⟩)
        -∗ WP c (onArgs (k0_part41 (F := F)) c v811 v1275) Q') := by
  rw [k0_part41_eq_skeleton]; unfold k0_part41_skel
  simp only [Prog.lift, Prog.bind_op, Prog.bind_ret, Prog.pure_eq_ret]
  iintro ⟨HSt, O15, D0, D1, D2, D3, D4⟩ Hk
  iapply (store_d K c 3 23 46 15 rfl (off5_eq c 3) (off12_eq c 3) rfl) $$ [HSt O15]
  · isplitl [HSt] <;> iassumption
  iintro ⟨HSt, D15⟩
  iapply (wait_store K c 0 (by decide) rfl rfl 23 46 16 rfl (by decide)) $$ [HSt D0]
  · isplitl [HSt] <;> iassumption
  iintro ⟨HSt, E0⟩
  iapply (wait_store K c 1 (by decide) rfl rfl 23 47 16 rfl (by decide)) $$ [HSt D1]
  · isplitl [HSt] <;> iassumption
  iintro ⟨HSt, E1⟩
  iapply (wait_store K c 2 (by decide) rfl rfl 23 48 16 rfl (by decide)) $$ [HSt D2]
  · isplitl [HSt] <;> iassumption
  iintro ⟨HSt, E2⟩
  iapply (wait_store K c 3 (by decide) rfl rfl 23 49 16 rfl (by decide)) $$ [HSt D3]
  · isplitl [HSt] <;> iassumption
  iintro ⟨HSt, E3⟩
  iapply (wait_store K c 4 (by decide) rfl rfl 23 50 16 rfl (by decide)) $$ [HSt D4]
  · isplitl [HSt] <;> iassumption
  iintro ⟨HSt, E4⟩
  iapply WP_ret
  iapply Hk
  isplitl [HSt]; · iexact HSt
  isplitl [D15]; · iexact D15
  isplitl [E0]; · iexact E0
  isplitl [E1]; · iexact E1
  isplitl [E2]; · iexact E2
  isplitl [E3]; · iexact E3
  iexact E4

theorem run42 {Q' : PUnit → sProp 𝕄} :
    iprop(St m K c 23 51 16 ∗ crdS c 5 ∗ crdS c 6 ∗ crdS c 7 ∗ crdS c 8 ∗ crdS c 9
      ∗ crdS c 10 ∗ crdS c 11 ∗ crdS c 12)
      ⊢ iprop(((St m K c 23 59 16 ∗ storePay m 5 c ∗ storePay m 6 c ∗ storePay m 7 c ∗ storePay m 8 c ∗ storePay m 9 c
      ∗ storePay m 10 c ∗ storePay m 11 c ∗ storePay m 12 c)
          -∗ Q' ⟨⟩)
        -∗ WP c (onArgs (k0_part42 (F := F)) c) Q') := by
  rw [k0_part42_eq_skeleton]; unfold k0_part42_skel
  simp only [Prog.lift, Prog.bind_op, Prog.bind_ret, Prog.pure_eq_ret]
  iintro ⟨HSt, D5, D6, D7, D8, D9, D10, D11, D12⟩ Hk
  iapply (wait_store K c 5 (by decide) rfl rfl 23 51 16 rfl (by decide)) $$ [HSt D5]
  · isplitl [HSt] <;> iassumption
  iintro ⟨HSt, E5⟩
  iapply (wait_store K c 6 (by decide) rfl rfl 23 52 16 rfl (by decide)) $$ [HSt D6]
  · isplitl [HSt] <;> iassumption
  iintro ⟨HSt, E6⟩
  iapply (wait_store K c 7 (by decide) rfl rfl 23 53 16 rfl (by decide)) $$ [HSt D7]
  · isplitl [HSt] <;> iassumption
  iintro ⟨HSt, E7⟩
  iapply (wait_store K c 8 (by decide) rfl rfl 23 54 16 rfl (by decide)) $$ [HSt D8]
  · isplitl [HSt] <;> iassumption
  iintro ⟨HSt, E8⟩
  iapply (wait_store K c 9 (by decide) rfl rfl 23 55 16 rfl (by decide)) $$ [HSt D9]
  · isplitl [HSt] <;> iassumption
  iintro ⟨HSt, E9⟩
  iapply (wait_store K c 10 (by decide) rfl rfl 23 56 16 rfl (by decide)) $$ [HSt D10]
  · isplitl [HSt] <;> iassumption
  iintro ⟨HSt, E10⟩
  iapply (wait_store K c 11 (by decide) rfl rfl 23 57 16 rfl (by decide)) $$ [HSt D11]
  · isplitl [HSt] <;> iassumption
  iintro ⟨HSt, E11⟩
  iapply (wait_store K c 12 (by decide) rfl rfl 23 58 16 rfl (by decide)) $$ [HSt D12]
  · isplitl [HSt] <;> iassumption
  iintro ⟨HSt, E12⟩
  iapply WP_ret
  iapply Hk
  isplitl [HSt]; · iexact HSt
  isplitl [E5]; · iexact E5
  isplitl [E6]; · iexact E6
  isplitl [E7]; · iexact E7
  isplitl [E8]; · iexact E8
  isplitl [E9]; · iexact E9
  isplitl [E10]; · iexact E10
  isplitl [E11]; · iexact E11
  iexact E12

end Cert.AllReduce
-- ==== Proof.AllReduce.Chain.lean ====
/-
# The parts in order
-/
module

public import proofs.«01_k».proof.Proof.AllReduce.Handshake
public import proofs.«01_k».proof.Proof.AllReduce.PartsAG
public import proofs.«01_k».proof.Proof.AllReduce.PartsSwap
public import proofs.«01_k».proof.Proof.AllReduce.PartsOut

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

theorem WP_bind {α β : Type} (p : Prog (TpuEff nD τ sig (Elt F) Λ₀ .tc) α) (k : α → Prog (TpuEff nD τ sig (Elt F) Λ₀ .tc) β) (Q' : β → sProp 𝕄) :
    WP c (p >>= k) Q' = WP c p fun a => WP c (k a) Q' := wp_bind ..

/-- The two halves of the first own chunk, in the shares of its transfers and its store. -/
theorem own_first : iprop(p3 c (Finset.Ico (2 * ck c 0 + ((0 : Fin 2).val)) (2 * ck c 0 + ((0 : Fin 2).val) + 1)) fullShare (Q m c)
      ∗ p3 c (Finset.Ico (2 * ck c 0 + ((1 : Fin 2).val)) (2 * ck c 0 + ((1 : Fin 2).val) + 1)) fullShare (Q m c))
    ⊢ iprop(sendPay m 6 c ∗ sendPay m 9 c ∗ sendPay m 13 c ∗ storeSrc m 0 c) := by
  have e : (bk2 (Finset.Ico (2 * ck c 0 + ((0 : Fin 2).val)) (2 * ck c 0 + ((0 : Fin 2).val) + 1)) ∪ bk2 (Finset.Ico (2 * ck c 0 + ((1 : Fin 2).val)) (2 * ck c 0 + ((1 : Fin 2).val) + 1)) : Finset S2048x2048.Idx) = bk2 (cA c 0) := by
    rw [← bk2_union]; congr 1
    exact Finset.Ico_union_Ico_eq_Ico (Nat.le_succ _) (Nat.le_succ _)
  exact (BiEntails.symm (pieces e (bk2_disjoint (Finset.Ico_disjoint_Ico_consecutive _ _ _)))).1.trans (splitQ m c 0).1
theorem recv_own (t : Fin 3) (ht : t ≠ 0) : recvPay m (5 + t.val) c = p3 c (cA c t.val) fullShare (Q m c) := by
  have h1 := t.isLt
  have h2 : t.val ≠ 0 := fun h => ht (Fin.ext h)
  have e1 : ¬ 5 + t.val < 6 := by omega
  have e2 : 5 + t.val < 9 := by omega
  unfold recvPay; rw [if_neg e1, if_pos e2, Nat.add_sub_cancel_left]
/-- A chunk that arrived along z. -/
theorem own_next (t : Fin 3) {k : ℕ} (hk : k = 5 + t.val) (ht : t ≠ 0) : recvPay m k c ⊢ iprop(sendPay m (6 + t.val) c ∗ sendPay m (9 + t.val) c ∗ sendPay m (13 + t.val) c ∗ storeSrc m t.val c) := by
  rw [hk, recv_own m c t ht]; exact (splitQ m c t).1
theorem own_last : recvPay m 8 c ⊢ iprop(p3 c (cA c 3) sL (Q m c) ∗ (sendPay m 12 c ∗ p3 c (hB c) sRL (Q m c))
    ∗ (sendPay m 16 c ∗ p3 c (hB c) sRRL (Q m c)) ∗ storeSrc m 3 c) := (splitQ3 m c).1
theorem diag (t : Fin 4) {j s : ℕ} (hj : j = 17 + t.val) (hs : s = 12 + t.val) : recvPay m j c ⊢ storeSrc m s c := by
  have h1 := t.isLt
  have e1 : ¬ 17 + t.val < 6 := by omega
  have e2 : ¬ 17 + t.val < 9 := by omega
  have e3 : ¬ 17 + t.val < 12 := by omega
  have e4 : ¬ 17 + t.val = 12 := by omega
  have e5 : ¬ 17 + t.val < 16 := by omega
  have e6 : ¬ 17 + t.val = 16 := by omega
  have e7 : 17 + t.val < 21 := by omega
  have e8 : ¬ 12 + t.val < 4 := by omega
  have e9 : ¬ 12 + t.val < 12 := by omega
  rw [hj, hs]; unfold recvPay storeSrc
  rw [if_neg e1, if_neg e2, if_neg e3, if_neg e4, if_neg e5, if_neg e6, if_pos e7, if_neg e8, if_neg e9, Nat.add_sub_cancel_left, Nat.add_sub_cancel_left]

/-- What the body starts from besides the state. -/
def Begin (c : Dev nD) (f0 f1 : S2x512x2048.Idx → Elt F .f32) (f2 : S512x2048.Idx → Elt F .f32) (g0 g1 : S512x2048.Idx → Elt F .bf16)
    (e0 e1 : S2048x2048.Idx → Elt F .bf16) : sProp 𝕄 :=
  iprop(dutyTok ER (bar (nbi 0 c)) 0 (0 : Fin 4) ∗ barPay (nbi 0 c) 0 ∗ dutyTok ER (bar (nbi 1 c)) 0 (1 : Fin 4) ∗ barPay (nbi 1 c) 1
      ∗ dutyTok ER (bar (nbi 2 c)) 0 (2 : Fin 4) ∗ barPay (nbi 2 c) 2 ∗ dutyTok ER (bar (nbi 3 c)) 0 (3 : Fin 4) ∗ barPay (nbi 3 c) 3
      ∗ argP m c ∗ argR m c ∗ gam m c ∗ p0 c (Finset.Ico (2 * ((0 : Fin 2).val)) (2 * ((0 : Fin 2).val) + 2)) fullShare f0
      ∗ p0 c (Finset.Ico (2 * ((1 : Fin 2).val)) (2 * ((1 : Fin 2).val) + 2)) fullShare f1 ∗ p7 c f2 ∗ p1 c (Finset.Ico ((0 : Fin 2).val) (((0 : Fin 2).val) + 1)) fullShare g0 ∗ p1 c (Finset.Ico ((1 : Fin 2).val) (((1 : Fin 2).val) + 1)) fullShare g1
      ∗ p3 c (Finset.Ico (2 * ck c 0 + ((0 : Fin 2).val)) (2 * ck c 0 + ((0 : Fin 2).val) + 1)) fullShare e0 ∗ p3 c (Finset.Ico (2 * ck c 0 + ((1 : Fin 2).val)) (2 * ck c 0 + ((1 : Fin 2).val) + 1)) fullShare e1 ∗ dutyTok ER (dcell c 47) 0 (0 : Fin 4) ∗ dutyTok ER (dcell c 47) 1 (0 : Fin 4)
      ∗ dutyTok ER (dcell c 48) 0 (0 : Fin 4) ∗ dutyTok ER (dcell c 48) 1 (0 : Fin 4) ∗ dutyTok ER (dcell c 49) 0 (0 : Fin 4) ∗ atPos ER (dcell c 47) 0 (∅ : Finset (Fin 4)) 0
      ∗ atPos ER (dcell c 48) 0 (∅ : Finset (Fin 4)) 0 ∗ atPos ER (dcell c 49) 0 (∅ : Finset (Fin 4)) 0)

/-- What it holds after all but the last wait. -/
def Held : sProp 𝕄 :=
  iprop(semVal (bar c) 0 ∗ argR m c ∗ sendPay m 0 c ∗ sendPay m 1 c
      ∗ argP m c ∗ atPos ER (dcell c 47) 2 (∅ : Finset (Fin 4)) 0 ∗ sendPay m 2 c ∗ sendPay m 3 c
      ∗ slot c 0 (PC m 3 c) ∗ atPos ER (dcell c 48) 2 (∅ : Finset (Fin 4)) 0 ∗ atPos ER (dcell c 49) 1 (∅ : Finset (Fin 4)) 0 ∗ sendPay m 4 c
      ∗ ring c 4 (RCV m 2 c) ∗ sendPay m 5 c ∗ ring c 5 (RCV m 2 c) ∗ slot c 1 (PC m 0 c)
      ∗ p7 c (RES m c) ∗ gam m c ∗ sendPay m 6 c ∗ sendPay m 7 c
      ∗ sendPay m 8 c ∗ p3 c (cA c 3) sL (Q m c) ∗ p3 c (hB c) sRL (Q m c) ∗ p3 c (hB c) sRRL (Q m c)
      ∗ sendPay m 13 c ∗ sendPay m 9 c ∗ p4 c (cA c 0) sRL (QX m c) ∗ sendPay m 14 c
      ∗ p5 c (cA c 1) sRR (QY m c) ∗ sendPay m 10 c ∗ p4 c (cA c 1) sRL (QX m c) ∗ p4 c (cA c 1) sRR (QX m c)
      ∗ sendPay m 11 c ∗ p4 c (offSwap c) sRR (QX m c) ∗ sendPay m 15 c ∗ p5 c (cA c 2) sRL (QY m c)
      ∗ p5 c (offSwap c) sRR (QY m c) ∗ sendPay m 12 c ∗ sendPay m 21 c ∗ p4 c (cA c 3) sRR (QX m c)
      ∗ sendPay m 16 c ∗ sendPay m 22 c ∗ p5 c (cA c 3) sRL (QY m c) ∗ p5 c (cA c 3) sRR (QY m c)
      ∗ sendPay m 17 c ∗ sendPay m 18 c ∗ sendPay m 19 c ∗ sendPay m 20 c
      ∗ crdS c 15 ∗ storePay m 0 c ∗ storePay m 1 c ∗ storePay m 2 c
      ∗ storePay m 3 c ∗ storePay m 4 c ∗ storePay m 5 c ∗ storePay m 6 c
      ∗ storePay m 7 c ∗ storePay m 8 c ∗ storePay m 9 c ∗ storePay m 10 c
      ∗ storePay m 11 c ∗ storePay m 12 c ∗ storePay m 13 c ∗ storePay m 14 c)

set_option maxHeartbeats 4000000 in
theorem run43 {Q' : Dev nD → sProp 𝕄} {f0 f1 : S2x512x2048.Idx → Elt F .f32} {f2 : S512x2048.Idx → Elt F .f32} {g0 g1 : S512x2048.Idx → Elt F .bf16} {e0 e1 : S2048x2048.Idx → Elt F .bf16} :
    iprop(Pend m K c (O₀ c) ∗ recs m K ∗ Begin m c f0 f1 f2 g0 g1 e0 e1)
      ⊢ iprop(((St m K c 23 61 16 ∗ Held m c) -∗ Q' c) -∗ WP c (onArgs (k0_part43 (F := F))) Q') := by
  unfold Begin Held
  rw [k0_part43_eq_skeleton]; unfold k0_part43_skel
  dsimp only [onArgs]
  iintro ⟨HP, #Hr, Tb0, Pb0, Tb1, Pb1, Tb2, Pb2, Tb3, Pb3, A, B, HG, Z0, Z1, Z2, B0, B1, V0, V1, T47_0, T47_1, T48_0, T48_1, T49_0, G47, G48, G49⟩ Hk
  rw [WP_bind]
  iapply run1
  iintro %v2 %v5 %v8 %v19 %v31 %v32 %v33 %u2 %u0
  dsimp only
  rw [WP_bind]
  iapply (run2 K (owedL c ord + tallyAt (bar (nbi 3 c)) () 1 + tallyAt (bar (nbi 2 c)) () 1) v2 v5 v8 v19 v31 v32 u2 u0) $$ [HP Tb0 Pb0 Tb1 Pb1]
  · isplitl [HP]; · iexact HP
    isplitl [Tb0]; · iexact Tb0
    isplitl [Pb0]; · iexact Pb0
    isplitl [Tb1]; · iexact Tb1
    iexact Pb1
  iintro HP
  iintro %v43 %v46 %v49
  dsimp only
  rw [WP_bind]
  iapply (run3 K v2 v8 v33 v49) $$ [HP Tb2 Pb2 Tb3 Pb3 A Z0 T47_0]
  · isplitl [HP]; · iexact HP
    isplitl [Tb2]; · iexact Tb2
    isplitl [Pb2]; · iexact Pb2
    isplitl [Tb3]; · iexact Tb3
    isplitl [Pb3]; · iexact Pb3
    isplitl [Hr]; · iexact Hr
    isplitl [A]; · iexact A
    isplitl [Z0]; · iexact Z0
    iexact T47_0
  iintro ⟨HSt, Hb, A, L47⟩
  iintro %v96 %u4 %v97 %u1
  dsimp only
  rw [WP_bind]
  iapply (run4 m K c v8 v49 v96 u4 u1 v97) $$ [HSt A Z1 T48_0 B Z2 T49_0 G47 L47 B0]
  · isplitl [Hr]; · iexact Hr
    isplitl [HSt]; · iexact HSt
    isplitl [A]; · iexact A
    isplitl [Z1]; · iexact Z1
    isplitl [T48_0]; · iexact T48_0
    isplitl [B]; · iexact B
    isplitl [Z2]; · iexact Z2
    isplitl [T49_0]; · iexact T49_0
    isplitl [G47]; · iexact G47
    isplitl [L47]; · iexact L47
    iexact B0
  iintro ⟨HSt, A, L48, B, L49, G47, K0, Z0, B0⟩
  rw [WP_bind]
  iapply (run5 m K c v2 v5 v19) $$ [HSt B0 Z0 B1]
  · isplitl [Hr]; · iexact Hr
    isplitl [HSt]; · iexact HSt
    isplitl [B0]; · iexact B0
    isplitl [Z0]; · iexact Z0
    iexact B1
  iintro ⟨HSt, C0, Z0, P1⟩
  rw [WP_bind]
  iapply (run6 m K c v8 v49) $$ [HSt P1 A Z0 K0 T47_1 G48 L48]
  · isplitl [Hr]; · iexact Hr
    isplitl [HSt]; · iexact HSt
    isplitl [P1]; · iexact P1
    isplitl [A]; · iexact A
    isplitl [Z0]; · iexact Z0
    isplitl [K0]; · iexact K0
    isplitl [T47_1]; · iexact T47_1
    isplitl [G48]; · iexact G48
    iexact L48
  iintro ⟨HSt, C1, A, L47, G48, K1, Z1⟩
  rw [WP_bind]
  iapply (run7 m K c v2 v5 v19) $$ [HSt C0 Z1]
  · isplitl [Hr]; · iexact Hr
    isplitl [HSt]; · iexact HSt
    isplitl [C0]; · iexact C0
    iexact Z1
  iintro ⟨HSt, P0, Z1, P2⟩
  iintro %v
  obtain ⟨v217, v218⟩ := v
  dsimp only
  rw [WP_bind]
  iapply (run8 m K c v2 v5 v19 v217 v218) $$ [HSt P2 C1]
  · isplitl [Hr]; · iexact Hr
    isplitl [HSt]; · iexact HSt
    isplitl [P2]; · iexact P2
    iexact C1
  iintro ⟨HSt, C2, P1, R1⟩
  rw [WP_bind]
  iapply (run9 m K c v2 v5 v8 v19 v49) $$ [HSt Z1 R1 A K1 T48_1]
  · isplitl [Hr]; · iexact Hr
    isplitl [HSt]; · iexact HSt
    isplitl [Z1]; · iexact Z1
    isplitl [R1]; · iexact R1
    isplitl [A]; · iexact A
    isplitl [K1]; · iexact K1
    iexact T48_1
  iintro ⟨HSt, C3, A, L48⟩
  rw [WP_bind]
  iapply (run10 m K c v2 v5 v19) $$ [HSt G47 L47 C2]
  · isplitl [Hr]; · iexact Hr
    isplitl [HSt]; · iexact HSt
    isplitl [G47]; · iexact G47
    isplitl [L47]; · iexact L47
    iexact C2
  iintro ⟨HSt, G47, Z0, P2, R2⟩
  rw [WP_bind]
  iapply (run11 m K c v2 v5 v19) $$ [HSt Z0 R2 C3]
  · isplitl [Hr]; · iexact Hr
    isplitl [HSt]; · iexact HSt
    isplitl [Z0]; · iexact Z0
    isplitl [R2]; · iexact R2
    iexact C3
  iintro ⟨HSt, Z0, C4, P3⟩
  iintro %v332
  rw [WP_bind]
  iapply (run12 m K c v2 v5 v19 v332) $$ [HSt Z0]
  · isplitl [Hr]; · iexact Hr
    isplitl [HSt]; · iexact HSt
    iexact Z0
  iintro ⟨HSt, Z0, P5⟩
  rw [WP_bind]
  iapply (run13 m K c v2 v5 v19) $$ [HSt P5 G48 L48 G49 L49 C4]
  · isplitl [Hr]; · iexact Hr
    isplitl [HSt]; · iexact HSt
    isplitl [P5]; · iexact P5
    isplitl [G48]; · iexact G48
    isplitl [L48]; · iexact L48
    isplitl [G49]; · iexact G49
    isplitl [L49]; · iexact L49
    iexact C4
  iintro ⟨HSt, C5, G48, Z1, G49, Z2, P4⟩
  rw [WP_bind]
  iapply (run14 m K c v8) $$ [HSt Z1 Z2 HG V0]
  · isplitl [Hr]; · iexact Hr
    isplitl [HSt]; · iexact HSt
    isplitl [Z1]; · iexact Z1
    isplitl [Z2]; · iexact Z2
    isplitl [HG]; · iexact HG
    iexact V0
  iintro ⟨HSt, R4, Z1, Z2, HG, V0⟩
  rw [WP_bind]
  iapply (run15 m K c v2 v5 v19) $$ [HSt C5 Z1 Z2]
  · isplitl [Hr]; · iexact Hr
    isplitl [HSt]; · iexact HSt
    isplitl [C5]; · iexact C5
    isplitl [Z1]; · iexact Z1
    iexact Z2
  iintro ⟨HSt, P5, R5, Z1, Z2⟩
  dsimp only
  rw [WP_bind]
  iapply (run16 m K c v2 v5 v8 v19) $$ [HSt HG V1]
  · isplitl [Hr]; · iexact Hr
    isplitl [HSt]; · iexact HSt
    isplitl [HG]; · iexact HG
    iexact V1
  iintro ⟨HSt, HG, V1⟩
  rw [WP_bind]
  ihave Hs := (own_first m c) $$ [V0 V1]
  · isplitl [V0]; · iexact V0
    iexact V1
  icases Hs with ⟨P6, P9, P13, O0⟩
  iapply (run17 m K c v2 v5 v8 v32 v33) $$ [HSt P6 P9]
  · isplitl [HSt]; · iexact HSt
    isplitl [P6]; · iexact P6
    iexact P9
  iintro ⟨HSt, C6, C9⟩
  rw [WP_bind]
  iapply (run18 m K c v2 v5 v8 v19 v49) $$ [HSt P13 O0 C6]
  · isplitl [HSt]; · iexact HSt
    isplitl [P13]; · iexact P13
    isplitl [O0]; · iexact O0
    iexact C6
  iintro ⟨HSt, C13, D0, P6, R6⟩
  iintro %v
  obtain ⟨v557, v558, v559⟩ := v
  dsimp only
  rw [WP_bind]
  ihave Hs := (own_next m c 1 (k := 6) rfl (by decide)) $$ R6
  icases Hs with ⟨P7, P10, P14, O1⟩
  iapply (run19 m K c v2 v5 v8 v19 v557 v558 v559) $$ [HSt P7]
  · isplitl [HSt]; · iexact HSt
    iexact P7
  iintro ⟨HSt, C7⟩
  iintro %v
  obtain ⟨v590, v592, v594⟩ := v
  dsimp only
  rw [WP_bind]
  iapply (run20 m K c v2 v5 v8 v32 v33 v49 v590 v592 v594) $$ [HSt P10 P14]
  · isplitl [HSt]; · iexact HSt
    isplitl [P10]; · iexact P10
    iexact P14
  iintro ⟨HSt, C10, C14⟩
  rw [WP_bind]
  iapply (run21 m K c v2 v5 v8 v19) $$ [HSt O1 C7]
  · isplitl [HSt]; · iexact HSt
    isplitl [O1]; · iexact O1
    iexact C7
  iintro ⟨HSt, D1, P7, R7⟩
  rw [WP_bind]
  ihave Hs := (own_next m c 2 (k := 7) rfl (by decide)) $$ R7
  icases Hs with ⟨P8, P11, P15, O2⟩
  iapply (run22 m K c v2 v5 v8 v19) $$ [HSt P8]
  · isplitl [HSt]; · iexact HSt
    iexact P8
  iintro ⟨HSt, C8⟩
  iintro %v
  obtain ⟨v685, v697⟩ := v
  dsimp only
  rw [WP_bind]
  iapply (run23 m K c v2 v5 v8 v32 v33 v49 v685 v697) $$ [HSt P11 P15 O2]
  · isplitl [HSt]; · iexact HSt
    isplitl [P11]; · iexact P11
    isplitl [P15]; · iexact P15
    iexact O2
  iintro ⟨HSt, C11, C15, D2⟩
  rw [WP_bind]
  iapply (run24 m K c v2 v5 v8 v19) $$ [HSt C8]
  · isplitl [HSt]; · iexact HSt
    iexact C8
  iintro ⟨HSt, P8, R8⟩
  iintro %v
  obtain ⟨v755, v759, v760, v761, v762⟩ := v
  dsimp only
  rw [WP_bind]
  ihave Hs := (own_last m c) $$ R8
  icases Hs with ⟨W0, ⟨P12, W1⟩, ⟨P16, W2⟩, O3⟩
  iapply (run25 m K c v2 v5 v8 v32 v33 v43 v49 v755 v759 v760 v761 v762) $$ [HSt P12 P16]
  · isplitl [HSt]; · iexact HSt
    isplitl [P12]; · iexact P12
    iexact P16
  iintro ⟨HSt, C12, C16⟩
  rw [WP_bind]
  iapply (run26 m K c v2 v5 v8) $$ [HSt O3 C13]
  · isplitl [HSt]; · iexact HSt
    isplitl [O3]; · iexact O3
    iexact C13
  iintro ⟨HSt, D3, P13⟩
  iintro %v
  obtain ⟨v804, v807, v811, v823, v829, c0_i32_639⟩ := v
  dsimp only
  rw [WP_bind]
  iapply (run27 m K c v5 v8 v32 v33 v829 c0_i32_639) $$ [HSt C9]
  · isplitl [HSt]; · iexact HSt
    iexact C9
  iintro ⟨HSt, O5, YS0, C17, P9⟩
  rw [WP_bind]
  iapply (run28 m K c v8 v804 v807 v823) $$ [HSt O5]
  · isplitl [HSt]; · iexact HSt
    iexact O5
  iintro ⟨HSt, X0, XS0, D4, D5⟩
  iintro %v890
  rw [WP_bind]
  iapply (run29 m K c v2 v5 v8 v32 v33) $$ [HSt C14 C10]
  · isplitl [HSt]; · iexact HSt
    isplitl [C14]; · iexact C14
    iexact C10
  iintro ⟨HSt, P14, O7, YS1, C18, P10⟩
  iintro %v
  obtain ⟨v923, v924⟩ := v
  dsimp only
  rw [WP_bind]
  iapply (run30 m K c v8 v804 v807 v890 v923 v924) $$ [HSt O7]
  · isplitl [HSt]; · iexact HSt
    iexact O7
  iintro ⟨HSt, X1, XS1, D6, D7⟩
  iintro %v957
  rw [WP_bind]
  iapply (run31 m K c v2 v5 v8 v32 v43) $$ [HSt C11]
  · isplitl [HSt]; · iexact HSt
    iexact C11
  iintro ⟨HSt, P11, O8, P19, XS2⟩
  iintro %v990
  rw [WP_bind]
  iapply (run32 m K c v2 v5 v8 v33 v46 v990) $$ [HSt XS0 XS2 P19 C15]
  · isplitl [HSt]; · iexact HSt
    isplitl [XS0]; · iexact XS0
    isplitl [XS2]; · iexact XS2
    isplitl [P19]; · iexact P19
    iexact C15
  iintro ⟨HSt, XO, C21, C19, P15⟩
  rw [WP_bind]
  iapply (run33 m K c v2 v5 v8 v46 v804 v807 v957) $$ [HSt YS0 O8]
  · isplitl [HSt]; · iexact HSt
    isplitl [YS0]; · iexact YS0
    iexact O8
  iintro ⟨HSt, Y2, YO, C22, D8, D9⟩
  iintro %v
  obtain ⟨v1054, c4_i32_804, v1055, c1_i32_806⟩ := v
  dsimp only
  rw [WP_bind]
  iapply (run34 m K c v2 v5 v8 v32 v1054 c4_i32_804 c1_i32_806 v1055) $$ [HSt C12 C21]
  · isplitl [HSt]; · iexact HSt
    isplitl [C12]; · iexact C12
    iexact C21
  iintro ⟨HSt, P12, R12, P21⟩
  iintro %v
  obtain ⟨v1064, v1085, c4_i32_833⟩ := v
  dsimp only
  rw [WP_bind]
  iapply (run35 m K c v2 v5 v8 v33 v46 v804 v1064 v1085 c4_i32_833) $$ [HSt R12 C16]
  · isplitl [HSt]; · iexact HSt
    isplitl [R12]; · iexact R12
    iexact C16
  iintro ⟨HSt, XS3, C20, D10, P16⟩
  iintro %v1117
  rw [WP_bind]
  iapply (run36 m K c v2 v5 v8 v33 v46 v807 v1064 v1117) $$ [HSt C22]
  · isplitl [HSt]; · iexact HSt
    iexact C22
  iintro ⟨HSt, P22, Y3, YS3, D11⟩
  rw [WP_bind]
  iapply (run37 m K c v5 v8 v32 v811) $$ [HSt C17]
  · isplitl [HSt]; · iexact HSt
    iexact C17
  iintro ⟨HSt, P17, R17⟩
  rw [WP_bind]
  ihave O12 := (diag m c 0 (j := 17) (s := 12) rfl rfl) $$ R17
  iapply (run38 m K c v5 v8 v32 v811) $$ [HSt O12 C18]
  · isplitl [HSt]; · iexact HSt
    isplitl [O12]; · iexact O12
    iexact C18
  iintro ⟨HSt, D12, P18, R18⟩
  rw [WP_bind]
  ihave O13 := (diag m c 1 (j := 18) (s := 13) rfl rfl) $$ R18
  iapply (run39 m K c v2 v8 v33 v811) $$ [HSt O13 C19]
  · isplitl [HSt]; · iexact HSt
    isplitl [O13]; · iexact O13
    iexact C19
  iintro ⟨HSt, D13, P19, R19⟩
  iintro %v
  obtain ⟨v1243, v1244⟩ := v
  dsimp only
  rw [WP_bind]
  ihave O14 := (diag m c 2 (j := 19) (s := 14) rfl rfl) $$ R19
  iapply (run40 m K c v2 v8 v33 v1243 v1244) $$ [HSt O14 C20]
  · isplitl [HSt]; · iexact HSt
    isplitl [O14]; · iexact O14
    iexact C20
  iintro ⟨HSt, D14, P20, R20⟩
  iintro %v1275
  rw [WP_bind]
  ihave O15 := (diag m c 3 (j := 20) (s := 15) rfl rfl) $$ R20
  iapply (run41 m K c v811 v1275) $$ [HSt O15 D0 D1 D2 D3 D4]
  · isplitl [HSt]; · iexact HSt
    isplitl [O15]; · iexact O15
    isplitl [D0]; · iexact D0
    isplitl [D1]; · iexact D1
    isplitl [D2]; · iexact D2
    isplitl [D3]; · iexact D3
    iexact D4
  iintro ⟨HSt, D15, E0, E1, E2, E3, E4⟩
  rw [WP_bind]
  iapply (run42 m K c) $$ [HSt D5 D6 D7 D8 D9 D10 D11 D12]
  · isplitl [HSt]; · iexact HSt
    isplitl [D5]; · iexact D5
    isplitl [D6]; · iexact D6
    isplitl [D7]; · iexact D7
    isplitl [D8]; · iexact D8
    isplitl [D9]; · iexact D9
    isplitl [D10]; · iexact D10
    isplitl [D11]; · iexact D11
    iexact D12
  iintro ⟨HSt, E5, E6, E7, E8, E9, E10, E11, E12⟩
  simp only [Prog.lift, Prog.bind_op, Prog.bind_ret, Prog.pure_eq_ret]
  iapply (wait_store K c 13 (by decide) rfl rfl 23 59 16 rfl (by decide)) $$ [HSt D13]
  · isplitl [HSt]; · iexact HSt
    iexact D13
  iintro ⟨HSt, E13⟩
  iapply (wait_store K c 14 (by decide) rfl rfl 23 60 16 rfl (by decide)) $$ [HSt D14]
  · isplitl [HSt]; · iexact HSt
    iexact D14
  iintro ⟨HSt, E14⟩
  iapply WP_ret
  iapply Hk
  isplitl [HSt]; · iexact HSt
  isplitl [Hb]; · iexact Hb
  isplitl [B]; · iexact B
  isplitl [P0]; · iexact P0
  isplitl [P1]; · iexact P1
  isplitl [A]; · iexact A
  isplitl [G47]; · iexact G47
  isplitl [P2]; · iexact P2
  isplitl [P3]; · iexact P3
  isplitl [Z0]; · iexact Z0
  isplitl [G48]; · iexact G48
  isplitl [G49]; · iexact G49
  isplitl [P4]; · iexact P4
  isplitl [R4]; · iexact R4
  isplitl [P5]; · iexact P5
  isplitl [R5]; · iexact R5
  isplitl [Z1]; · iexact Z1
  isplitl [Z2]; · iexact Z2
  isplitl [HG]; · iexact HG
  isplitl [P6]; · iexact P6
  isplitl [P7]; · iexact P7
  isplitl [P8]; · iexact P8
  isplitl [W0]; · iexact W0
  isplitl [W1]; · iexact W1
  isplitl [W2]; · iexact W2
  isplitl [P13]; · iexact P13
  isplitl [P9]; · iexact P9
  isplitl [X0]; · iexact X0
  isplitl [P14]; · iexact P14
  isplitl [YS1]; · iexact YS1
  isplitl [P10]; · iexact P10
  isplitl [X1]; · iexact X1
  isplitl [XS1]; · iexact XS1
  isplitl [P11]; · iexact P11
  isplitl [XO]; · iexact XO
  isplitl [P15]; · iexact P15
  isplitl [Y2]; · iexact Y2
  isplitl [YO]; · iexact YO
  isplitl [P12]; · iexact P12
  isplitl [P21]; · iexact P21
  isplitl [XS3]; · iexact XS3
  isplitl [P16]; · iexact P16
  isplitl [P22]; · iexact P22
  isplitl [Y3]; · iexact Y3
  isplitl [YS3]; · iexact YS3
  isplitl [P17]; · iexact P17
  isplitl [P18]; · iexact P18
  isplitl [P19]; · iexact P19
  isplitl [P20]; · iexact P20
  isplitl [D15]; · iexact D15
  isplitl [E0]; · iexact E0
  isplitl [E1]; · iexact E1
  isplitl [E2]; · iexact E2
  isplitl [E3]; · iexact E3
  isplitl [E4]; · iexact E4
  isplitl [E5]; · iexact E5
  isplitl [E6]; · iexact E6
  isplitl [E7]; · iexact E7
  isplitl [E8]; · iexact E8
  isplitl [E9]; · iexact E9
  isplitl [E10]; · iexact E10
  isplitl [E11]; · iexact E11
  isplitl [E12]; · iexact E12
  isplitl [E13]; · iexact E13
  iexact E14

end Cert.AllReduce
-- ==== Proof.AllReduce.Buffers.lean ====
/-
# A device's buffers, cut and put together

The places other devices write are cut out of the kernel's buffers before the handshake.
-/
module

public import proofs.«01_k».proof.Proof.AllReduce.Handshake

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer in blocks of 256 rows -/

section Blocks
variable {ℓ : Loc nD τ sig} (S : Finset ℕ → Finset (Idx ℓ))

/-- Some contents on the blocks `A`. -/
def any (A : Finset ℕ) : sProp 𝕄 := iprop(∃ f : Buf (Elt F) ℓ, ℓ ↦[S A]{fullShare} f)

/-- Blocks of a union are the union, and disjoint sets of blocks have no element in common. -/
def Tiled : Prop := (∀ A B, S (A ∪ B) = S A ∪ S B) ∧ ∀ A B, Disjoint A B → Disjoint (S A) (S B)

variable {S} (hS : Tiled S)
include hS

theorem any_union {A B C : Finset ℕ} (h : A ∪ B = C) (hd : Disjoint A B) : any (F := F) S C ⊣⊢ iprop(any S A ∗ any S B) := by
  subst h
  unfold any
  constructor
  · iintro ⟨%f, H⟩
    rw [hS.1]
    ihave Hs := (pointsTo_union (hS.2 A B hd)).1 $$ H
    icases Hs with ⟨H1, H2⟩
    isplitl [H1]; · iexists f; iexact H1
    iexists f; iexact H2
  · iintro ⟨⟨%f, H1⟩, ⟨%g, H2⟩⟩
    ihave Hs := (pointsTo_join (hS.2 A B hd)) $$ [H1 H2]
    · isplitl [H1]; · iexact H1
      iexact H2
    rw [hS.1]
    iexists _; iexact Hs

/-- Four chunks of two blocks. -/
theorem any_chunks (c : Dev nD) : any (F := F) S (Finset.range 8) ⊣⊢ iprop(any S (cA c 0) ∗ any S (cA c 1) ∗ any S (cA c 2) ∗ any S (cA c 3)) :=
  BiEntails.trans (any_union hS (chunks_cover c) (by
      rw [Finset.disjoint_union_right, Finset.disjoint_union_right]
      exact ⟨cA_disjoint c 0 1 (by decide), cA_disjoint c 0 2 (by decide), cA_disjoint c 0 3 (by decide)⟩))
    (sep_congr_right (BiEntails.trans (any_union hS rfl (by
      rw [Finset.disjoint_union_right]
      exact ⟨cA_disjoint c 1 2 (by decide), cA_disjoint c 1 3 (by decide)⟩))
    (sep_congr_right (any_union hS rfl (cA_disjoint c 2 3 (by decide))))))

theorem any_halves (c : Dev nD) : any (F := F) S (cA c 3) ⊣⊢ iprop(any S (hA c) ∗ any S (hB c)) := any_union hS (halves c) (halves_disjoint c)

theorem any_next {a b d : ℕ} (h : a ≤ b) (h' : b ≤ d) : any (F := F) S (Finset.Ico a d) ⊣⊢ iprop(any S (Finset.Ico a b) ∗ any S (Finset.Ico b d)) :=
  any_union hS (Finset.Ico_union_Ico_eq_Ico h h') (Finset.Ico_disjoint_Ico_consecutive _ _ _)

theorem any_own (c : Dev nD) : any (F := F) S (cA c 0) ⊣⊢ iprop(any S (Finset.Ico (2 * ck c 0 + 0) (2 * ck c 0 + 0 + 1)) ∗ any S (Finset.Ico (2 * ck c 0 + 1) (2 * ck c 0 + 1 + 1))) :=
  any_next hS (Nat.le_succ _) (Nat.le_succ _)

theorem any_six : any (F := F) S (Finset.Ico 0 6) ⊣⊢ iprop(any S (Finset.Ico 0 1) ∗ any S (Finset.Ico 1 2) ∗ any S (Finset.Ico 2 3) ∗ any S (Finset.Ico 3 4)
    ∗ any S (Finset.Ico 4 5) ∗ any S (Finset.Ico 5 6)) := by
  refine BiEntails.trans (any_next hS (b := 1) (by decide) (by decide)) (sep_congr_right ?_)
  refine BiEntails.trans (any_next hS (b := 2) (by decide) (by decide)) (sep_congr_right ?_)
  refine BiEntails.trans (any_next hS (b := 3) (by decide) (by decide)) (sep_congr_right ?_)
  refine BiEntails.trans (any_next hS (b := 4) (by decide) (by decide)) (sep_congr_right ?_)
  exact any_next hS (by decide) (by decide)

omit hS in
theorem any_all {A : Finset ℕ} (h : S A = Finset.univ) : any (F := F) S A = iprop(∃ f : Buf (Elt F) ℓ, ℓ ↦{fullShare} f) := by unfold any; rw [h]

omit hS in
theorem any_of {A : Finset ℕ} {f : Buf (Elt F) ℓ} : (ℓ ↦[S A]{fullShare} f : sProp 𝕄) ⊢ any S A := by
  unfold any; iintro H; iexists f; iexact H

end Blocks

theorem tiled2 {n : ℕ} : (∀ A B, (bk2 (A ∪ B) : Finset (⟨2, ![n, 2048]⟩ : Shape).Idx) = bk2 A ∪ bk2 B) ∧ ∀ A B, Disjoint A B → Disjoint (bk2 A : Finset (⟨2, ![n, 2048]⟩ : Shape).Idx) (bk2 B) :=
  ⟨bk2_union, fun _ _ => bk2_disjoint⟩
theorem tiled3 {n : ℕ} : (∀ A B, (bk3 (A ∪ B) : Finset (⟨3, ![n, 512, 2048]⟩ : Shape).Idx) = bk3 A ∪ bk3 B) ∧ ∀ A B, Disjoint A B → Disjoint (bk3 A : Finset (⟨3, ![n, 512, 2048]⟩ : Shape).Idx) (bk3 B) :=
  ⟨bk3_union, fun _ _ => bk3_disjoint⟩

/-- Blocks of scratch buffer 0, at some contents. -/
abbrev b0 (c : Dev nD) (A : Finset ℕ) : sProp 𝕄 := any (ℓ := (c : Thread nD τ).loc cc0_scratch0) (fun A => (bk3 A : Finset S2x512x2048.Idx)) A
/-- Blocks of scratch buffer 1, at some contents. -/
abbrev b1 (c : Dev nD) (A : Finset ℕ) : sProp 𝕄 := any (ℓ := (c : Thread nD τ).loc cc0_scratch1) (fun A => (bk2 A : Finset S512x2048.Idx)) A
/-- Blocks of scratch buffer 2, at some contents. -/
abbrev b2 (c : Dev nD) (A : Finset ℕ) : sProp 𝕄 := any (ℓ := (c : Thread nD τ).loc cc0_scratch2) (fun A => (bk3 A : Finset S3x512x2048.Idx)) A
/-- Blocks of scratch buffer 3, at some contents. -/
abbrev b3 (c : Dev nD) (A : Finset ℕ) : sProp 𝕄 := any (ℓ := (c : Thread nD τ).loc cc0_scratch3) (fun A => (bk2 A : Finset S2048x2048.Idx)) A
/-- Blocks of scratch buffer 4, at some contents. -/
abbrev b4 (c : Dev nD) (A : Finset ℕ) : sProp 𝕄 := any (ℓ := (c : Thread nD τ).loc cc0_scratch4) (fun A => (bk2 A : Finset S2048x2048.Idx)) A
/-- Blocks of scratch buffer 5, at some contents. -/
abbrev b5 (c : Dev nD) (A : Finset ℕ) : sProp 𝕄 := any (ℓ := (c : Thread nD τ).loc cc0_scratch5) (fun A => (bk2 A : Finset S2048x2048.Idx)) A
/-- Blocks of scratch buffer 6, at some contents. -/
abbrev b6 (c : Dev nD) (A : Finset ℕ) : sProp 𝕄 := any (ℓ := (c : Thread nD τ).loc cc0_scratch6) (fun A => (bk2 A : Finset S2048x2048.Idx)) A

theorem t0 (c : Dev nD) : Tiled (ℓ := (c : Thread nD τ).loc cc0_scratch0) (fun A => (bk3 A : Finset S2x512x2048.Idx)) := tiled3
theorem t1 (c : Dev nD) : Tiled (ℓ := (c : Thread nD τ).loc cc0_scratch1) (fun A => (bk2 A : Finset S512x2048.Idx)) := tiled2
theorem t2 (c : Dev nD) : Tiled (ℓ := (c : Thread nD τ).loc cc0_scratch2) (fun A => (bk3 A : Finset S3x512x2048.Idx)) := tiled3
theorem t3 (c : Dev nD) : Tiled (ℓ := (c : Thread nD τ).loc cc0_scratch3) (fun A => (bk2 A : Finset S2048x2048.Idx)) := tiled2
theorem t4 (c : Dev nD) : Tiled (ℓ := (c : Thread nD τ).loc cc0_scratch4) (fun A => (bk2 A : Finset S2048x2048.Idx)) := tiled2
theorem t5 (c : Dev nD) : Tiled (ℓ := (c : Thread nD τ).loc cc0_scratch5) (fun A => (bk2 A : Finset S2048x2048.Idx)) := tiled2
theorem t6 (c : Dev nD) : Tiled (ℓ := (c : Thread nD τ).loc cc0_scratch6) (fun A => (bk2 A : Finset S2048x2048.Idx)) := tiled2

/-- The kernel's buffers as the launch gives them and takes them back. -/
def Bufs (c : Dev nD) : sProp 𝕄 :=
  iprop(b0 c (Finset.Ico 0 4) ∗ b1 c (Finset.Ico 0 2) ∗ b2 c (Finset.Ico 0 6) ∗ b3 c (Finset.range 8) ∗ b4 c (Finset.range 8) ∗ b5 c (Finset.range 8) ∗ b6 c (Finset.range 8)
    ∗ ∃ f : Buf (Elt F) ((c : Thread nD τ).loc cc0_scratch7), ((c : Thread nD τ).loc cc0_scratch7) ↦{fullShare} f)

theorem range_Ico (n : ℕ) : Finset.Ico 0 n = Finset.range n := by ext; simp

theorem bufs_eq (c : Dev nD) : (Pipeline.scopedRest (Ix := Unit) (Name := ℕ) (U := UU) (Lvl := ℕ) (Val := Elt F) spec0 c : sProp 𝕄) = Bufs c := by
  rw [scopedRest0_eq]; unfold Bufs b0 b1 b2 b3 b4 b5 b6
  rw [any_all, any_all, any_all, any_all, any_all, any_all, any_all]
  · exact bk2_univ 8 (by decide)
  · exact bk2_univ 8 (by decide)
  · exact bk2_univ 8 (by decide)
  · exact bk2_univ 8 (by decide)
  · rw [range_Ico]; exact bk3_univ (n := 3)
  · rw [range_Ico]; exact bk2_univ 2 (by decide)
  · rw [range_Ico]; exact bk3_univ (n := 2)

/-- The places transfers write on `c`, one after another. -/
theorem dests_list (c : Dev nD) : (bigSep Finset.univ fun j : Fin 23 => destAt (F := F) j.val c)
    = iprop(b2 c (Finset.Ico 0 1) ∗ b2 c (Finset.Ico 1 2) ∗ b2 c (Finset.Ico 2 3) ∗ b2 c (Finset.Ico 3 4) ∗ b2 c (Finset.Ico 4 5) ∗ b2 c (Finset.Ico 5 6) ∗ b3 c (cA c 1) ∗ b3 c (cA c 2) ∗ b3 c (cA c 3) ∗ b4 c (cA c 0) ∗ b4 c (cA c 1) ∗ b4 c (cA c 2) ∗ b4 c (hA c) ∗ b5 c (cA c 0) ∗ b5 c (cA c 1) ∗ b5 c (cA c 2) ∗ b5 c (hA c) ∗ b6 c (cA c 0) ∗ b6 c (cA c 1) ∗ b6 c (cA c 2) ∗ b6 c (cA c 3) ∗ b4 c (hB c) ∗ b5 c (hB c)) :=
  (bigSep_univ_eq_bigSepL [0, 1, 2, 3, 4, 5, 6, 7, 8, 9, 10, 11, 12, 13, 14, 15, 16, 17, 18, 19, 20, 21, 22] (by decide) (by decide) _).trans rfl

/-- What a device keeps of its buffers through the handshake. -/
def Keep (c : Dev nD) : sProp 𝕄 :=
  iprop(b0 c (Finset.Ico 0 2) ∗ b0 c (Finset.Ico 2 4) ∗ b1 c (Finset.Ico 0 1) ∗ b1 c (Finset.Ico 1 2) ∗ b3 c (Finset.Ico (2 * ck c 0 + 0) (2 * ck c 0 + 0 + 1)) ∗ b3 c (Finset.Ico (2 * ck c 0 + 1) (2 * ck c 0 + 1 + 1)) ∗ ∃ f : Buf (Elt F) ((c : Thread nD τ).loc cc0_scratch7), ((c : Thread nD τ).loc cc0_scratch7) ↦{fullShare} f)

theorem deal (c : Dev nD) : Bufs (F := F) c ⊢ iprop((bigSep Finset.univ fun j : Fin 23 => destAt (F := F) j.val c) ∗ Keep c) := by
  rw [dests_list]
  unfold Bufs Keep
  iintro ⟨H0, H1, H2, H3, H4, H5, H6, H7⟩
  ihave Hs := (any_next (t0 c) (b := 2) (by decide) (by decide)).1 $$ H0
  icases Hs with ⟨Z0, Z1⟩
  ihave Hs := (any_next (t1 c) (b := 1) (by decide) (by decide)).1 $$ H1
  icases Hs with ⟨B0, B1⟩
  ihave Hs := (any_six (t2 c)).1 $$ H2
  icases Hs with ⟨D0, D1, D2, D3, D4, D5⟩
  ihave Hs := (any_chunks (t3 c) c).1 $$ H3
  icases Hs with ⟨HV, D6, D7, D8⟩
  ihave Hs := (any_own (t3 c) c).1 $$ HV
  icases Hs with ⟨V0, V1⟩
  ihave Hs := (any_chunks (t4 c) c).1 $$ H4
  icases Hs with ⟨D9, D10, D11, HX⟩
  ihave Hs := (any_halves (t4 c) c).1 $$ HX
  icases Hs with ⟨D12, D21⟩
  ihave Hs := (any_chunks (t5 c) c).1 $$ H5
  icases Hs with ⟨D13, D14, D15, HY⟩
  ihave Hs := (any_halves (t5 c) c).1 $$ HY
  icases Hs with ⟨D16, D22⟩
  ihave Hs := (any_chunks (t6 c) c).1 $$ H6
  icases Hs with ⟨D17, D18, D19, D20⟩
  isplitl [D0 D1 D2 D3 D4 D5 D6 D7 D8 D9 D10 D11 D12 D13 D14 D15 D16 D17 D18 D19 D20 D21 D22]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    isplitl [D18]; · iexact D18
    isplitl [D19]; · iexact D19
    isplitl [D20]; · iexact D20
    isplitl [D21]; · iexact D21
    iexact D22
  isplitl [Z0]; · iexact Z0
  isplitl [Z1]; · iexact Z1
  isplitl [B0]; · iexact B0
  isplitl [B1]; · iexact B1
  isplitl [V0]; · iexact V0
  isplitl [V1]; · iexact V1
  iexact H7

end Cert.AllReduce
-- ==== Proof.AllReduce.Finish.lean ====
/-
# The end of the body

The last wait, and everything put together again: the buffers, the result, the semaphores.
-/
module

public import proofs.«01_k».proof.Proof.AllReduce.Chain
public import proofs.«01_k».proof.Proof.AllReduce.Buffers

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

/-! ## The result's blocks -/

theorem oset_cover : ∀ c : Dev nD, ∀ b : Fin 32, ∃ s : Fin 16, b.val ∈ oset c s.val := by decide +kernel
theorem oset_disjoint : ∀ c : Dev nD, ∀ s s' : Fin 16, s ≠ s' → Disjoint (oset c s.val) (oset c s'.val) := by decide +kernel

/-- The whole result is the sixteen stores' places. -/
theorem out_cut (f : S8192x2048.Idx → Elt F .bf16) : (((c : Thread nD τ).loc main_v1) ↦{fullShare} f : sProp 𝕄)
    = bigSep (Finset.univ : Finset (Fin 16)) fun s => pO c (oset c s.val) fullShare f := by
  have hu : (Finset.univ : Finset S8192x2048.Idx) = (Finset.univ : Finset (Fin 16)).biUnion fun s => bk2 (oset c s.val) := by
    ext i
    simp only [Finset.mem_univ, Finset.mem_biUnion, true_and, true_iff]
    have h : (i 0).val < 8192 := (i 0).isLt
    obtain ⟨s, hs⟩ := oset_cover c ⟨(i 0).val / 256, by omega⟩
    exact ⟨s, by simp only [bk2, Finset.mem_filter, Finset.mem_univ, true_and]; exact hs⟩
  exact (congrArg (fun A => (((c : Thread nD τ).loc main_v1) ↦[A]{fullShare} f : sProp 𝕄)) hu).trans
    (pointsTo_biUnion (ℓ := (c : Thread nD τ).loc main_v1) (Finset.univ : Finset (Fin 16)) (fun s => bk2 (oset c s.val)) fun s _ s' _ hne => bk2_disjoint (oset_disjoint c s s' hne))

theorem range16 : (List.range 16).toFinset = Finset.range 16 := by decide
theorem stores_in (f : S8192x2048.Idx → Elt F .bf16) :
    iprop((((c : Thread nD τ).loc main_v1) ↦{fullShare} f) ∗ sepL (fun s => dutyTok ER (dcell c (50 + s)) 0 (0 : Fin 4)) (List.range 16))
      ⊢ sepL (storeItem c) (List.range 16) := by
  show _ ⊢ sepL (fun s => iprop((∃ f, pO c (oset c s) fullShare f) ∗ dutyTok ER (dcell c (50 + s)) 0 (0 : Fin 4))) (List.range 16)
  rw [sepL_both _ _ _ List.nodup_range, out_cut, sepL_fin (fun s => iprop(∃ f, pO c (oset c s) fullShare f)) _ List.nodup_range range16]
  have h (s : Fin 16) : pO c (oset c s.val) fullShare f ⊢ iprop(∃ f, pO c (oset c s.val) fullShare f) := by
    iintro H; iexists f; iexact H
  exact sep_mono_left (bigSep_mono fun s _ => h s)

/-! ## The semaphores -/

/-- All the cells of transfers, copies and stores at zero. -/
def Zeros : sProp 𝕄 := bigSep (Finset.univ : Finset (Fin 65)) fun k => semVal (dcell c (k.val + 1)) 0

theorem zeros_eq : sepL (F := F) (zeroItem c) (47 :: 48 :: 49 :: (wts.take 62).reverse) = Zeros c := by
  rw [sepL_eq _ _ (by decide)]
  unfold Zeros
  refine Eq.trans ?_ (bigSep_map (s := (Finset.univ : Finset (Fin 65))) (Fin.valEmbedding.trans (addRightEmbedding 1)) (Φ := fun k => (semVal (dcell c k) 0 : sProp 𝕄)))
  have hs : (47 :: 48 :: 49 :: (wts.take 62).reverse).toFinset = (Finset.univ : Finset (Fin 65)).map (Fin.valEmbedding.trans (addRightEmbedding 1)) := by decide +kernel
  rw [hs]; rfl

/-! ## The buffers whole again -/

theorem of0 {A : Finset ℕ} {f : S2x512x2048.Idx → Elt F .f32} : p0 c A fullShare f ⊢ b0 c A := any_of (ℓ := (c : Thread nD τ).loc cc0_scratch0) (S := fun A => (bk3 A : Finset S2x512x2048.Idx))
theorem of1 {A : Finset ℕ} {f : S512x2048.Idx → Elt F .bf16} : p1 c A fullShare f ⊢ b1 c A := any_of (ℓ := (c : Thread nD τ).loc cc0_scratch1) (S := fun A => (bk2 A : Finset S512x2048.Idx))
theorem of2 {A : Finset ℕ} {f : S3x512x2048.Idx → Elt F .bf16} : p2 c A fullShare f ⊢ b2 c A := any_of (ℓ := (c : Thread nD τ).loc cc0_scratch2) (S := fun A => (bk3 A : Finset S3x512x2048.Idx))
theorem of3 {A : Finset ℕ} {f : S2048x2048.Idx → Elt F .bf16} : p3 c A fullShare f ⊢ b3 c A := any_of (ℓ := (c : Thread nD τ).loc cc0_scratch3) (S := fun A => (bk2 A : Finset S2048x2048.Idx))
theorem of4 {A : Finset ℕ} {f : S2048x2048.Idx → Elt F .bf16} : p4 c A fullShare f ⊢ b4 c A := any_of (ℓ := (c : Thread nD τ).loc cc0_scratch4) (S := fun A => (bk2 A : Finset S2048x2048.Idx))
theorem of5 {A : Finset ℕ} {f : S2048x2048.Idx → Elt F .bf16} : p5 c A fullShare f ⊢ b5 c A := any_of (ℓ := (c : Thread nD τ).loc cc0_scratch5) (S := fun A => (bk2 A : Finset S2048x2048.Idx))
theorem of6 {A : Finset ℕ} {f : S2048x2048.Idx → Elt F .bf16} : p6 c A fullShare f ⊢ b6 c A := any_of (ℓ := (c : Thread nD τ).loc cc0_scratch6) (S := fun A => (bk2 A : Finset S2048x2048.Idx))
theorem back0 : iprop(slot c 0 (PC m 3 c) ∗ slot c 1 (PC m 0 c)) ⊢ b0 c (Finset.Ico 0 4) := by
  iintro ⟨Z0, Z1⟩
  iapply (any_next (t0 c) (b := 2) (by decide) (by decide)).2
  isplitl [Z0]; · iapply (of0 c); iexact Z0
  iapply (of0 c); iexact Z1
theorem send_block (j : ℕ) (h : j < 2) : sendPay m j c ⊢ b1 c (Finset.Ico j (j + 1)) := (Entails.of_eq (if_pos h)).trans (of1 c)
theorem back1 : iprop(sendPay m 0 c ∗ sendPay m 1 c) ⊢ b1 c (Finset.Ico 0 2) := by
  iintro ⟨P0, P1⟩
  iapply (any_next (t1 c) (b := 1) (by decide) (by decide)).2
  isplitl [P0]; · iapply (send_block m c 0 (by decide)); iexact P0
  iapply (send_block m c 1 (by decide)); iexact P1
theorem send_slot (j : ℕ) (h : 2 ≤ j) (h' : j < 6) {a d : ℕ} (ha : j - 2 = a) (hd : j - 1 = d) : sendPay m j c ⊢ b2 c (Finset.Ico a d) := by
  subst ha hd
  exact (Entails.of_eq ((if_neg (by omega)).trans (if_pos h'))).trans (of2 c)
theorem back2 : iprop(sendPay m 2 c ∗ sendPay m 3 c ∗ sendPay m 4 c ∗ sendPay m 5 c ∗ ring c 4 (RCV m 2 c) ∗ ring c 5 (RCV m 2 c)) ⊢ b2 c (Finset.Ico 0 6) := by
  iintro ⟨P2, P3, P4, P5, R4, R5⟩
  iapply (any_six (t2 c)).2
  isplitl [P2]; · iapply (send_slot m c 2 (by decide) (by decide) rfl rfl); iexact P2
  isplitl [P3]; · iapply (send_slot m c 3 (by decide) (by decide) rfl rfl); iexact P3
  isplitl [P4]; · iapply (send_slot m c 4 (by decide) (by decide) rfl rfl); iexact P4
  isplitl [P5]; · iapply (send_slot m c 5 (by decide) (by decide) rfl rfl); iexact P5
  isplitl [R4]; · iapply (of2 c); iexact R4
  iapply (of2 c); iexact R5
theorem back3 : iprop(sendPay m 6 c ∗ sendPay m 9 c ∗ sendPay m 13 c ∗ storeSrc m 0 c ∗ sendPay m 7 c ∗ sendPay m 10 c ∗ sendPay m 14 c ∗ storeSrc m 1 c ∗ sendPay m 8 c ∗ sendPay m 11 c ∗ sendPay m 15 c ∗ storeSrc m 2 c ∗ p3 c (cA c 3) sL (Q m c) ∗ sendPay m 12 c ∗ p3 c (hB c) sRL (Q m c) ∗ sendPay m 16 c ∗ p3 c (hB c) sRRL (Q m c) ∗ storeSrc m 3 c) ⊢ b3 c (Finset.range 8) := by
  iintro ⟨P6, P9, P13, O0, P7, P10, P14, O1, P8, P11, P15, O2, W0, P12, W1, P16, W2, O3⟩
  ihave H0 := (splitQ m c 0).2 $$ [P6 P9 P13 O0]
  · isplitl [P6]; · iexact P6
    isplitl [P9]; · iexact P9
    isplitl [P13]; · iexact P13
    iexact O0
  ihave H1 := (splitQ m c 1).2 $$ [P7 P10 P14 O1]
  · isplitl [P7]; · iexact P7
    isplitl [P10]; · iexact P10
    isplitl [P14]; · iexact P14
    iexact O1
  ihave H2 := (splitQ m c 2).2 $$ [P8 P11 P15 O2]
  · isplitl [P8]; · iexact P8
    isplitl [P11]; · iexact P11
    isplitl [P15]; · iexact P15
    iexact O2
  ihave H3 := (splitQ3 m c).2 $$ [W0 P12 W1 P16 W2 O3]
  · isplitl [W0]; · iexact W0
    isplitl [P12 W1]
    · isplitl [P12]; · iexact P12
      iexact W1
    isplitl [P16 W2]
    · isplitl [P16]; · iexact P16
      iexact W2
    iexact O3
  iapply (any_chunks (t3 c) c).2
  isplitl [H0]; · iapply (of3 c); iexact H0
  isplitl [H1]; · iapply (of3 c); iexact H1
  isplitl [H2]; · iapply (of3 c); iexact H2
  iapply (of3 c); iexact H3
theorem recvX (t : Fin 3) : recvPay m (9 + t.val) c ⊢ b4 c (cA c t.val) := by
  have h := t.isLt
  have e1 : ¬ 9 + t.val < 6 := by omega
  have e2 : ¬ 9 + t.val < 9 := by omega
  have e3 : 9 + t.val < 12 := by omega
  unfold recvPay; rw [if_neg e1, if_neg e2, if_pos e3, Nat.add_sub_cancel_left]; exact of4 c
theorem recvY (t : Fin 3) : recvPay m (13 + t.val) c ⊢ b5 c (cA c t.val) := by
  have h := t.isLt
  have e1 : ¬ 13 + t.val < 6 := by omega
  have e2 : ¬ 13 + t.val < 9 := by omega
  have e3 : ¬ 13 + t.val < 12 := by omega
  have e4 : ¬ 13 + t.val = 12 := by omega
  have e5 : 13 + t.val < 16 := by omega
  unfold recvPay; rw [if_neg e1, if_neg e2, if_neg e3, if_neg e4, if_pos e5, Nat.add_sub_cancel_left]; exact of5 c
theorem recvD (t : Fin 4) : storeSrc m (12 + t.val) c ⊢ b6 c (cA c t.val) := by
  have e1 : ¬ 12 + t.val < 4 := by omega
  have e2 : ¬ 12 + t.val < 12 := by omega
  unfold storeSrc; rw [if_neg e1, if_neg e2, Nat.add_sub_cancel_left]; exact of6 c
theorem halfX : iprop(recvPay m 12 c ∗ recvPay m 21 c) ⊢ b4 c (cA c 3) := by
  iintro ⟨H1, H2⟩
  iapply (any_halves (t4 c) c).2
  isplitl [H1]; · iapply (show recvPay m 12 c ⊢ b4 c (hA c) from of4 c (f := QX m c)); iexact H1
  iapply (show recvPay m 21 c ⊢ b4 c (hB c) from of4 c (f := QX m c)); iexact H2
theorem halfY : iprop(recvPay m 16 c ∗ recvPay m 22 c) ⊢ b5 c (cA c 3) := by
  iintro ⟨H1, H2⟩
  iapply (any_halves (t5 c) c).2
  isplitl [H1]; · iapply (show recvPay m 16 c ⊢ b5 c (hA c) from of5 c (f := QY m c)); iexact H1
  iapply (show recvPay m 22 c ⊢ b5 c (hB c) from of5 c (f := QY m c)); iexact H2
theorem back4 : iprop(storeSrc m 4 c ∗ p4 c (cA c 0) sRL (QX m c) ∗ sendPay m 21 c ∗ p4 c (offSwap c) sRR (QX m c) ∗ storeSrc m 6 c ∗ p4 c (cA c 1) sRL (QX m c) ∗ p4 c (cA c 1) sRR (QX m c) ∗ storeSrc m 8 c ∗ sendPay m 19 c ∗ storeSrc m 10 c ∗ sendPay m 20 c ∗ p4 c (cA c 3) sRR (QX m c)) ⊢ b4 c (Finset.range 8) := by
  iintro ⟨O4, X0, P21, XO, O6, X1, XS1, O8, P19, O10, P20, XS3⟩
  ihave Hs := (swapX m c).2 $$ [P21 XO]
  · isplitl [P21]; · iexact P21
    iexact XO
  icases Hs with ⟨XS0, XS2⟩
  ihave H0 := (splitX m c 0).2 $$ [O4 X0 XS0]
  · isplitl [O4]; · iexact O4
    isplitl [X0]; · iexact X0
    iexact XS0
  ihave H1 := (splitX m c 1).2 $$ [O6 X1 XS1]
  · isplitl [O6]; · iexact O6
    isplitl [X1]; · iexact X1
    iexact XS1
  ihave H2 := (splitX_on m c).2 $$ [O8 P19 XS2]
  · isplitl [O8]; · iexact O8
    isplitl [P19]; · iexact P19
    iexact XS2
  ihave H3 := (splitX3 m c).2 $$ [O10 P20 XS3]
  · isplitl [O10]; · iexact O10
    isplitl [P20]; · iexact P20
    iexact XS3
  iapply (any_chunks (t4 c) c).2
  isplitl [H0]; · iapply (recvX m c 0); iexact H0
  isplitl [H1]; · iapply (recvX m c 1); iexact H1
  isplitl [H2]; · iapply (recvX m c 2); iexact H2
  iapply (halfX m c); iexact H3
theorem back5 : iprop(storeSrc m 5 c ∗ sendPay m 17 c ∗ sendPay m 22 c ∗ p5 c (offSwap c) sRR (QY m c) ∗ storeSrc m 7 c ∗ sendPay m 18 c ∗ p5 c (cA c 1) sRR (QY m c) ∗ storeSrc m 9 c ∗ p5 c (cA c 2) sRL (QY m c) ∗ storeSrc m 11 c ∗ p5 c (cA c 3) sRL (QY m c) ∗ p5 c (cA c 3) sRR (QY m c)) ⊢ b5 c (Finset.range 8) := by
  iintro ⟨O5, P17, P22, YO, O7, P18, YS1, O9, Y2, O11, Y3, YS3⟩
  ihave Hs := (swapY m c).2 $$ [P22 YO]
  · isplitl [P22]; · iexact P22
    iexact YO
  icases Hs with ⟨YS0, YS2⟩
  ihave H0 := (splitY_on m c 0).2 $$ [O5 P17 YS0]
  · isplitl [O5]; · iexact O5
    isplitl [P17]; · iexact P17
    iexact YS0
  ihave H1 := (splitY_on m c 1).2 $$ [O7 P18 YS1]
  · isplitl [O7]; · iexact O7
    isplitl [P18]; · iexact P18
    iexact YS1
  ihave H2 := (splitY m c 2).2 $$ [O9 Y2 YS2]
  · isplitl [O9]; · iexact O9
    isplitl [Y2]; · iexact Y2
    iexact YS2
  ihave H3 := (splitY3 m c).2 $$ [O11 Y3 YS3]
  · isplitl [O11]; · iexact O11
    isplitl [Y3]; · iexact Y3
    iexact YS3
  iapply (any_chunks (t5 c) c).2
  isplitl [H0]; · iapply (recvY m c 0); iexact H0
  isplitl [H1]; · iapply (recvY m c 1); iexact H1
  isplitl [H2]; · iapply (recvY m c 2); iexact H2
  iapply (halfY m c); iexact H3
theorem back6 : iprop(storeSrc m 12 c ∗ storeSrc m 13 c ∗ storeSrc m 14 c ∗ storeSrc m 15 c) ⊢ b6 c (Finset.range 8) := by
  iintro ⟨O12, O13, O14, O15⟩
  iapply (any_chunks (t6 c) c).2
  isplitl [O12]; · iapply (recvD m c 0); iexact O12
  isplitl [O13]; · iapply (recvD m c 1); iexact O13
  isplitl [O14]; · iapply (recvD m c 2); iexact O14
  iapply (recvD m c 3); iexact O15

theorem outs : iprop(pO c (oset c 0) fullShare (OUT m) ∗ pO c (oset c 1) fullShare (OUT m) ∗ pO c (oset c 2) fullShare (OUT m) ∗ pO c (oset c 3) fullShare (OUT m) ∗ pO c (oset c 4) fullShare (OUT m) ∗ pO c (oset c 5) fullShare (OUT m) ∗ pO c (oset c 6) fullShare (OUT m) ∗ pO c (oset c 7) fullShare (OUT m) ∗ pO c (oset c 8) fullShare (OUT m) ∗ pO c (oset c 9) fullShare (OUT m) ∗ pO c (oset c 10) fullShare (OUT m) ∗ pO c (oset c 11) fullShare (OUT m) ∗ pO c (oset c 12) fullShare (OUT m) ∗ pO c (oset c 13) fullShare (OUT m) ∗ pO c (oset c 14) fullShare (OUT m) ∗ pO c (oset c 15) fullShare (OUT m)) = (((c : Thread nD τ).loc main_v1) ↦{fullShare} (OUT m) : sProp 𝕄) :=
  ((out_cut c (OUT m)).trans ((bigSep_univ_eq_bigSepL [0, 1, 2, 3, 4, 5, 6, 7, 8, 9, 10, 11, 12, 13, 14, 15] (by decide) (by decide) _).trans rfl)).symm

/-- What the body ends with. -/
def Done : sProp 𝕄 :=
  iprop((∃ W, owes (c : Thread nD τ) 0 W) ∗ Bufs c ∗ gam m c ∗ argP m c ∗ argR m c ∗ (((c : Thread nD τ).loc main_v1) ↦{fullShare} (OUT m)) ∗ Zeros c ∗ semVal (bar c) 0)

theorem St_done : St m K c 23 62 16 ⊢ iprop((∃ W, owes (c : Thread nD τ) 0 W) ∗ sepL (zeroItem c) (wts.take 62).reverse) := by
  unfold St
  iintro ⟨-, -, HO, -, -, Hz, -⟩
  isplitl [HO]; · iexact HO
  iexact Hz

set_option maxHeartbeats 4000000 in
/-- The body from the handshake to its end. -/
theorem run_rest {Q' : PUnit → sProp 𝕄} {f0 f1 : S2x512x2048.Idx → Elt F .f32} {f2 : S512x2048.Idx → Elt F .f32} {g0 g1 : S512x2048.Idx → Elt F .bf16} {e0 e1 : S2048x2048.Idx → Elt F .bf16} :
    iprop(Pend m K c (O₀ c) ∗ recs m K ∗ Begin m c f0 f1 f2 g0 g1 e0 e1)
      ⊢ iprop((Done m c -∗ Q' ⟨⟩) -∗ WP c (onArgs (cc0_body (F := F))) Q') := by
  rw [cc0_body_eq_skeleton]; unfold cc0_body_skel
  dsimp only [onArgs]
  iintro ⟨HP, #Hr, HB⟩ Hk
  rw [WP_bind]
  iapply (run43 m K c) $$ [HP HB]
  · isplitl [HP]; · iexact HP
    isplitr; · iexact Hr
    iexact HB
  unfold Held
  iintro ⟨HSt, Hb, B, P0, P1, A, G47, P2, P3, Z0, G48, G49, P4, R4, P5, R5, Z1, Z2, HG, P6, P7, P8, W0, W1, W2, P13, P9, X0, P14, YS1, P10, X1, XS1, P11, XO, P15, Y2, YO, P12, P21, XS3, P16, P22, Y3, YS3, P17, P18, P19, P20, D15, E0, E1, E2, E3, E4, E5, E6, E7, E8, E9, E10, E11, E12, E13, E14⟩
  simp only [Prog.lift, Prog.bind_op, Prog.bind_ret, Prog.pure_eq_ret]
  iapply (wait_store K c 15 (by decide) rfl rfl 23 61 16 rfl (by decide)) $$ [HSt D15]
  · isplitl [HSt]; · iexact HSt
    iexact D15
  iintro ⟨HSt, E15⟩
  unfold storePay
  icases E0 with ⟨U0, O0⟩
  icases E1 with ⟨U1, O1⟩
  icases E2 with ⟨U2, O2⟩
  icases E3 with ⟨U3, O3⟩
  icases E4 with ⟨U4, O4⟩
  icases E5 with ⟨U5, O5⟩
  icases E6 with ⟨U6, O6⟩
  icases E7 with ⟨U7, O7⟩
  icases E8 with ⟨U8, O8⟩
  icases E9 with ⟨U9, O9⟩
  icases E10 with ⟨U10, O10⟩
  icases E11 with ⟨U11, O11⟩
  icases E12 with ⟨U12, O12⟩
  icases E13 with ⟨U13, O13⟩
  icases E14 with ⟨U14, O14⟩
  icases E15 with ⟨U15, O15⟩
  imod (loc_close (m := m) K c 47 2 (by decide) (by decide)) $$ [G47] with N47
  · isplitr; · iexact Hr
    iexact G47
  imod (loc_close (m := m) K c 48 2 (by decide) (by decide)) $$ [G48] with N48
  · isplitr; · iexact Hr
    iexact G48
  imod (loc_close (m := m) K c 49 1 (by decide) (by decide)) $$ [G49] with N49
  · isplitr; · iexact Hr
    iexact G49
  ihave J0 := (back0 m c) $$ [Z0 Z1]
  · isplitl [Z0]; · iexact Z0
    iexact Z1
  ihave J1 := (back1 m c) $$ [P0 P1]
  · isplitl [P0]; · iexact P0
    iexact P1
  ihave J2 := (back2 m c) $$ [P2 P3 P4 P5 R4 R5]
  · isplitl [P2]; · iexact P2
    isplitl [P3]; · iexact P3
    isplitl [P4]; · iexact P4
    isplitl [P5]; · iexact P5
    isplitl [R4]; · iexact R4
    iexact R5
  ihave J3 := (back3 m c) $$ [P6 P9 P13 O0 P7 P10 P14 O1 P8 P11 P15 O2 W0 P12 W1 P16 W2 O3]
  · isplitl [P6]; · iexact P6
    isplitl [P9]; · iexact P9
    isplitl [P13]; · iexact P13
    isplitl [O0]; · iexact O0
    isplitl [P7]; · iexact P7
    isplitl [P10]; · iexact P10
    isplitl [P14]; · iexact P14
    isplitl [O1]; · iexact O1
    isplitl [P8]; · iexact P8
    isplitl [P11]; · iexact P11
    isplitl [P15]; · iexact P15
    isplitl [O2]; · iexact O2
    isplitl [W0]; · iexact W0
    isplitl [P12]; · iexact P12
    isplitl [W1]; · iexact W1
    isplitl [P16]; · iexact P16
    isplitl [W2]; · iexact W2
    iexact O3
  ihave J4 := (back4 m c) $$ [O4 X0 P21 XO O6 X1 XS1 O8 P19 O10 P20 XS3]
  · isplitl [O4]; · iexact O4
    isplitl [X0]; · iexact X0
    isplitl [P21]; · iexact P21
    isplitl [XO]; · iexact XO
    isplitl [O6]; · iexact O6
    isplitl [X1]; · iexact X1
    isplitl [XS1]; · iexact XS1
    isplitl [O8]; · iexact O8
    isplitl [P19]; · iexact P19
    isplitl [O10]; · iexact O10
    isplitl [P20]; · iexact P20
    iexact XS3
  ihave J5 := (back5 m c) $$ [O5 P17 P22 YO O7 P18 YS1 O9 Y2 O11 Y3 YS3]
  · isplitl [O5]; · iexact O5
    isplitl [P17]; · iexact P17
    isplitl [P22]; · iexact P22
    isplitl [YO]; · iexact YO
    isplitl [O7]; · iexact O7
    isplitl [P18]; · iexact P18
    isplitl [YS1]; · iexact YS1
    isplitl [O9]; · iexact O9
    isplitl [Y2]; · iexact Y2
    isplitl [O11]; · iexact O11
    isplitl [Y3]; · iexact Y3
    iexact YS3
  ihave J6 := (back6 m c) $$ [O12 O13 O14 O15]
  · isplitl [O12]; · iexact O12
    isplitl [O13]; · iexact O13
    isplitl [O14]; · iexact O14
    iexact O15
  ihave HO := (Entails.of_eq (outs m c)) $$ [U0 U1 U2 U3 U4 U5 U6 U7 U8 U9 U10 U11 U12 U13 U14 U15]
  · isplitl [U0]; · iexact U0
    isplitl [U1]; · iexact U1
    isplitl [U2]; · iexact U2
    isplitl [U3]; · iexact U3
    isplitl [U4]; · iexact U4
    isplitl [U5]; · iexact U5
    isplitl [U6]; · iexact U6
    isplitl [U7]; · iexact U7
    isplitl [U8]; · iexact U8
    isplitl [U9]; · iexact U9
    isplitl [U10]; · iexact U10
    isplitl [U11]; · iexact U11
    isplitl [U12]; · iexact U12
    isplitl [U13]; · iexact U13
    isplitl [U14]; · iexact U14
    iexact U15
  ihave Hd := (St_done m K c) $$ HSt
  icases Hd with ⟨HW, Hz⟩
  iapply WP_ret
  iapply Hk
  unfold Done Bufs
  isplitl [HW]; · iexact HW
  isplitl [J0 J1 J2 J3 J4 J5 J6 Z2]
  · isplitl [J0]; · iexact J0
    isplitl [J1]; · iexact J1
    isplitl [J2]; · iexact J2
    isplitl [J3]; · iexact J3
    isplitl [J4]; · iexact J4
    isplitl [J5]; · iexact J5
    isplitl [J6]; · iexact J6
    iexists _; iexact Z2
  isplitl [HG]; · iexact HG
  isplitl [A]; · iexact A
  isplitl [B]; · iexact B
  isplitl [HO]; · iexact HO
  isplitl [Hz N47 N48 N49]
  · rw [← zeros_eq, sepL_cons, sepL_cons, sepL_cons]
    isplitl [N47]; · iexact N47
    isplitl [N48]; · iexact N48
    isplitl [N49]; · iexact N49
    iexact Hz
  iexact Hb

end Cert.AllReduce
-- ==== Proof.AllReduce.Deal.lean ====
/-
# What each device starts with

The positions, duties and credits of the protocol, dealt to the devices.
-/
module

public import proofs.«01_k».proof.Proof.AllReduce.Finish

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 66 → ℕ) (c : Dev nD)

/-! ## The duties -/

/-- A device's own duties: its barrier's four; its receive cells', its send cells', its copies' and its stores'; and
    the second round of the two copies that run twice. -/
abbrev Duty : Type := Fin 4 ⊕ Fin 23 ⊕ Fin 23 ⊕ Fin 3 ⊕ Fin 16 ⊕ Fin 2
def duty : Duty → SemLoc sig × ℕ × Fin 4
  | .inl d => (.reg barS, 0, d)
  | .inr (.inl j) => (.dma (dsem (24 + j.val)), 0, 0)
  | .inr (.inr (.inl j)) => (.dma (dsem (1 + j.val)), 0, 0)
  | .inr (.inr (.inr (.inl i))) => (.dma (dsem (47 + i.val)), 0, 0)
  | .inr (.inr (.inr (.inr (.inl s)))) => (.dma (dsem (50 + s.val)), 0, 0)
  | .inr (.inr (.inr (.inr (.inr i)))) => (.dma (dsem (47 + i.val)), 1, 0)
/-- A cell's number, and a duty's. -/
def semNum : SemLoc sig → ℕ
  | .reg _ => 0
  | .dma s => s.val
def dutyNum : Duty → ℕ × ℕ × Fin 4
  | .inl d => (0, 0, d)
  | .inr (.inl j) => (24 + j.val, 0, 0)
  | .inr (.inr (.inl j)) => (1 + j.val, 0, 0)
  | .inr (.inr (.inr (.inl i))) => (47 + i.val, 0, 0)
  | .inr (.inr (.inr (.inr (.inl s)))) => (50 + s.val, 0, 0)
  | .inr (.inr (.inr (.inr (.inr i)))) => (47 + i.val, 1, 0)
theorem duty_injective : Function.Injective duty := by
  have h : ∀ a b : Duty, dutyNum a = dutyNum b → a = b := by
    rintro (⟨a, ha⟩ | ⟨a, ha⟩ | ⟨a, ha⟩ | ⟨a, ha⟩ | ⟨a, ha⟩ | ⟨a, ha⟩) (⟨b, hb⟩ | ⟨b, hb⟩ | ⟨b, hb⟩ | ⟨b, hb⟩ | ⟨b, hb⟩ | ⟨b, hb⟩) h <;>
      simp only [dutyNum, Prod.mk.injEq, Fin.mk.injEq, true_and, and_true] at h <;>
      first
        | (exfalso; omega)
        | (have e : a = b := by omega
           subst e; rfl)
  have e : ∀ a b : Duty, duty a = duty b → dutyNum a = dutyNum b := fun a b hab => by
    have h1 : semNum (duty a).1 = semNum (duty b).1 := congrArg (fun x => semNum x.1) hab
    have h2 : (duty a).2 = (duty b).2 := congrArg Prod.snd hab
    have key : ∀ a : Duty, dutyNum a = (semNum (duty a).1, (duty a).2) := by
      rintro (⟨d, hd⟩ | ⟨d, hd⟩ | ⟨d, hd⟩ | ⟨d, hd⟩ | ⟨d, hd⟩ | ⟨d, hd⟩) <;> first | rfl | (refine Prod.ext ?_ rfl; simp only [dutyNum, duty, semNum, dsem]; omega)
    rw [key, key, h1, h2]
  exact fun a b hab => h a b (e a b hab)

abbrev tokOf (ct : Dev nD × Duty) : GSem nD τ sig × ℕ × Fin 4 := (((ct.1 : Thread nD τ), (duty ct.2).1), (duty ct.2).2)
theorem tokOf_injective : Function.Injective tokOf := by
  rintro ⟨c, a⟩ ⟨c', a'⟩ h
  have h1 : c = c' := congrArg (fun x : GSem nD τ sig × ℕ × Fin 4 => x.1.1.1) h
  have h2 : duty a = duty a' := Prod.ext (congrArg (fun x : GSem nD τ sig × ℕ × Fin 4 => x.1.2) h) (congrArg (fun x : GSem nD τ sig × ℕ × Fin 4 => x.2) h)
  rw [h1, duty_injective h2]
def allToks : Finset (GSem nD τ sig × ℕ × Fin 4) := Finset.univ.map ⟨tokOf, tokOf_injective⟩

theorem kcell_injective : Function.Injective (kcell : Dev nD × Fin 66 → GSem nD τ sig) := by
  rintro ⟨c, k⟩ ⟨c', k'⟩ h
  have h1 : c = c' := congrArg (fun g : GSem nD τ sig => g.1.1) h
  have h2 : csem k = csem k' := congrArg Prod.snd h
  have h3 : ∀ a b : Fin 66, csem a = csem b → a = b := by decide +kernel
  rw [h1, h3 k k' h2]
def allCells : Finset (GSem nD τ sig) := Finset.univ.map ⟨kcell, kcell_injective⟩

/-- The duties of a device's cells, minted there; -/
def ownToks : sProp 𝕄 :=
  iprop((bigSep Finset.univ fun d : Fin 4 => dutyTok ER (bar c) 0 d) ∗ (bigSep Finset.univ fun j : Fin 23 => dutyTok ER (dcell c (24 + j.val)) 0 (0 : Fin 4))
    ∗ (bigSep Finset.univ fun j : Fin 23 => dutyTok ER (dcell c (1 + j.val)) 0 (0 : Fin 4)) ∗ (bigSep Finset.univ fun i : Fin 3 => dutyTok ER (dcell c (47 + i.val)) 0 (0 : Fin 4))
    ∗ (bigSep Finset.univ fun s : Fin 16 => dutyTok ER (dcell c (50 + s.val)) 0 (0 : Fin 4)) ∗ (bigSep Finset.univ fun i : Fin 2 => dutyTok ER (dcell c (47 + i.val)) 1 (0 : Fin 4)))
/-- and those a device performs: its neighbours' barriers', and its transfers'. -/
def payToks : sProp 𝕄 :=
  iprop((bigSep Finset.univ fun d : Fin 4 => dutyTok ER (bar (nbi d c)) 0 d) ∗ (bigSep Finset.univ fun j : Fin 23 => dutyTok ER (dcell (tgt j.val c) (24 + j.val)) 0 (0 : Fin 4))
    ∗ (bigSep Finset.univ fun j : Fin 23 => dutyTok ER (dcell c (1 + j.val)) 0 (0 : Fin 4)) ∗ (bigSep Finset.univ fun i : Fin 3 => dutyTok ER (dcell c (47 + i.val)) 0 (0 : Fin 4))
    ∗ (bigSep Finset.univ fun s : Fin 16 => dutyTok ER (dcell c (50 + s.val)) 0 (0 : Fin 4)) ∗ (bigSep Finset.univ fun i : Fin 2 => dutyTok ER (dcell c (47 + i.val)) 1 (0 : Fin 4)))

theorem minted : bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  rw [bigSep_univ_sum, bigSep_univ_sum, bigSep_univ_sum, bigSep_univ_sum, bigSep_univ_sum]
  rfl

/-- The device from which transfer `j` to `c` comes. -/
def tinv (j : ℕ) (c : Dev nD) : Dev nD := nbi (srcOf j c) c
theorem tgt_tinv : ∀ (j : Fin 23) (c : Dev nD), tgt j.val (tinv j.val c) = c := by decide +kernel
theorem tinv_tgt : ∀ (j : Fin 23) (c : Dev nD), tinv j.val (tgt j.val c) = c := by decide +kernel
def tgtE (j : Fin 23) : Dev nD ≃ Dev nD := ⟨tgt j.val, tinv j.val, tinv_tgt j, tgt_tinv j⟩
def nbiE (d : Fin 4) : Dev nD ≃ Dev nD := ⟨nbi d, nb d, nb_nbi d, nbi_nb d⟩

/-- A family over devices and another index, each index's members moved along a permutation of the devices. -/
theorem moved {J : Type} [Fintype J] (e : J → Dev nD ≃ Dev nD) (Φ : Dev nD → J → sProp 𝕄) :
    (bigSep Finset.univ fun c : Dev nD => bigSep Finset.univ fun j : J => Φ c j) = bigSep Finset.univ fun c : Dev nD => bigSep Finset.univ fun j : J => Φ (e j c) j := by
  rw [bigSep_univ_comm, bigSep_univ_comm (fun c j => Φ (e j c) j)]
  exact bigSep_congr fun j _ => bigSep_univ_equiv (e j) fun c => Φ c j

theorem dealt : (bigSep Finset.univ fun c : Dev nD => (ownToks c : sProp 𝕄)) = bigSep Finset.univ fun c : Dev nD => payToks c := by
  unfold ownToks payToks
  simp only [bigSep_sep']
  rw [moved nbiE fun c d => dutyTok ER (bar c) 0 d, moved tgtE fun c j => dutyTok ER (dcell c (24 + j.val)) 0 (0 : Fin 4)]
  rfl

/-! ## What a device starts with -/

def atAll : sProp 𝕄 := bigSep Finset.univ fun k : Fin 66 => atPos ER (kcell (c, k)) 0 (∅ : Finset (Fin 4)) 0

/-- The position at a cell by its number, `0` being the barrier's. -/
def atNum (k : ℕ) : sProp 𝕄 := atPos ER (if k = 0 then bar c else dcell c k) 0 (∅ : Finset (Fin 4)) 0

theorem atAll_list : atAll c = sepL (F := F) (atNum c) (0 :: 47 :: 48 :: 49 :: wts) := by
  rw [sepL_fin (n := 66) (atNum c) (0 :: 47 :: 48 :: 49 :: wts) (by decide) (by decide)]
  unfold atAll
  refine bigSep_congr fun k _ => ?_
  unfold atNum
  by_cases h : k.val = 0
  · have : k = 0 := Fin.ext h
    subst this; rfl
  · rw [if_neg h]
    exact congrArg (fun g => (atPos ER g 0 (∅ : Finset (Fin 4)) 0 : sProp 𝕄)) (kcell_dma c k.val (Nat.pos_of_ne_zero h) k.isLt)

theorem sepL_congr {Φ Ψ : ℕ → sProp 𝕄} (l : List ℕ) (h : ∀ k ∈ l, Φ k = Ψ k) : sepL Φ l = sepL Ψ l := by
  induction l with
  | nil => rfl
  | cons a l ih => rw [sepL_cons, sepL_cons, h a List.mem_cons_self, ih fun k hk => h k (List.mem_cons_of_mem _ hk)]

/-- What is credited at the launch: what others will send. -/
def credJ (j : ℕ) : sProp 𝕄 := cred (tallyAt (dcell c (24 + j)) () (amtJ j))

theorem wts_recv : wts.toFinset.filter (fun k => 24 ≤ k ∧ k < 47) = ord.toFinset.map (addLeftEmbedding 24) := by decide +kernel
theorem wts_nodup : wts.Nodup := by decide +kernel

theorem waits_in : iprop(sepL (atNum c) wts ∗ sepL (credJ c) ord) = sepL (F := F) (waitItem c) wts := by
  have h : sepL (fun k => if 24 ≤ k ∧ k < 47 then (cred (tallyAt (dcell c k) () (amt k)) : sProp 𝕄) else iprop(emp)) wts = sepL (credJ c) ord := by
    rw [sepL_eq _ _ wts_nodup, sepL_eq _ _ ord_nodup]
    refine (bigSep_filter wts.toFinset (fun k => 24 ≤ k ∧ k < 47) (fun k => (cred (tallyAt (dcell c k) () (amt k)) : sProp 𝕄))).symm.trans ?_
    rw [wts_recv, bigSep_map]
    refine bigSep_congr fun j hj => ?_
    have hj' : j < 23 := by rw [ord_range, Finset.mem_range] at hj; exact hj
    unfold credJ
    rw [addLeftEmbedding_apply, amt_recv j hj']
  have h0 : ∀ k ∈ wts, k ≠ 0 := by decide +kernel
  rw [← h, ← sepL_both _ _ _ wts_nodup]
  refine sepL_congr _ fun k hk => ?_
  unfold atNum waitItem
  rw [if_neg (h0 k hk)]

/-! ## The launch credit -/

theorem creds_list (l : List ℕ) (hl : ∀ j ∈ l, j < 23) : (Pipeline.launchCred (fun d => owedL d l) c : sProp 𝕄) ⊢ sepL (credJ c) l := by
  induction l with
  | nil =>
    unfold owedL; rw [Pipeline.launchCred_zero]; exact Entails.of_eq rfl
  | cons j l ih =>
    have hj := hl j List.mem_cons_self
    show (Pipeline.launchCred (fun d => owedL d l + tallyAt (dcell (tgt j d) (24 + j)) () (amtJ j)) c : sProp 𝕄) ⊢ _
    rw [Pipeline.launchCred_add, sepL_cons]
    iintro ⟨H1, H2⟩
    isplitl [H2]
    · unfold credJ; iapply (Pipeline.launchCred_tallyAt (.dma (dsem (24 + j))) (tgt j) (tinv j) (tgt_tinv ⟨j, hj⟩) (tinv_tgt ⟨j, hj⟩) () (amtJ j) c); iexact H2
    iapply (ih fun i hi => hl i (List.mem_cons_of_mem _ hi)); iexact H1

theorem cred_bar (d : Fin 4) : (Pipeline.launchCred (fun x : Dev nD => tallyAt (bar (nbi d x)) () 1) c : sProp 𝕄) ⊢ cred (tallyAt (bar c) () 1) :=
  Pipeline.launchCred_tallyAt (.reg barS) (nbi d) (nb d) (nbi_nb d) (nb_nbi d) () 1 c

theorem tally_four : (tallyAt (bar c) () 4 : CellTallies nD τ sig Unit) = tallyAt (bar c) () 1 + tallyAt (bar c) () 1 + tallyAt (bar c) () 1 + tallyAt (bar c) () 1 := by
  have h : ∀ n : ℕ, n = 1 + 1 + 1 + 1 → (tallyAt (bar c) () n : CellTallies nD τ sig Unit) = tallyAt (bar c) () 1 + tallyAt (bar c) () 1 + tallyAt (bar c) () 1 + tallyAt (bar c) () 1 := by
    rintro _ rfl; rw [tallyAt_add, tallyAt_add, tallyAt_add]
  exact h 4 rfl

theorem creds : (Pipeline.launchCred O₀ c : sProp 𝕄) ⊢ iprop(cred (tallyAt (bar c) () 4) ∗ sepL (credJ c) ord) := by
  show (Pipeline.launchCred (fun c => owedL c ord + tallyAt (bar (nbi 3 c)) () 1 + tallyAt (bar (nbi 2 c)) () 1 + tallyAt (bar (nbi 1 c)) () 1 + tallyAt (bar (nbi 0 c)) () 1) c : sProp 𝕄) ⊢ _
  rw [Pipeline.launchCred_add, Pipeline.launchCred_add, Pipeline.launchCred_add, Pipeline.launchCred_add]
  iintro ⟨⟨⟨⟨H, H3⟩, H2⟩, H1⟩, H0⟩
  isplitr [H]
  · rw [tally_four]
    iapply (cred_add _ _).2
    isplitr [H0]
    · iapply (cred_add _ _).2
      isplitr [H1]
      · iapply (cred_add _ _).2
        isplitl [H3]; · iapply (cred_bar c 3); iexact H3
        iapply (cred_bar c 2); iexact H2
      iapply (cred_bar c 1); iexact H1
    iapply (cred_bar c 0); iexact H0
  iapply (creds_list c ord (by decide +kernel)); iexact H

/-! ## Into the body -/

theorem toks_list : iprop((bigSep Finset.univ fun j : Fin 23 => dutyTok ER (dcell (tgt j.val c) (24 + j.val)) 0 (0 : Fin 4))
    ∗ (bigSep Finset.univ fun j : Fin 23 => dutyTok ER (dcell c (1 + j.val)) 0 (0 : Fin 4))) = sepL (F := F) (tokItem c) ord := by
  rw [← bigSep_sep', sepL_fin (tokItem c) ord ord_nodup ord_range]; rfl
theorem stores_list : (bigSep Finset.univ fun s : Fin 16 => (dutyTok ER (dcell c (50 + s.val)) 0 (0 : Fin 4) : sProp 𝕄))
    = sepL (fun s => dutyTok ER (dcell c (50 + s)) 0 (0 : Fin 4)) (List.range 16) := by
  rw [sepL_fin (fun s => dutyTok ER (dcell c (50 + s)) 0 (0 : Fin 4)) _ List.nodup_range range16]
theorem three (Φ : Fin 3 → sProp 𝕄) : bigSep Finset.univ Φ = iprop(Φ 0 ∗ Φ 1 ∗ Φ 2) := bigSep_univ_eq_bigSepL [0, 1, 2] (by decide) (by decide) Φ

theorem two (Φ : Fin 2 → sProp 𝕄) : bigSep Finset.univ Φ = iprop(Φ 0 ∗ Φ 1) := bigSep_univ_eq_bigSepL [0, 1] (by decide) (by decide) Φ

/-- What the launch hands a device. -/
def Start : sProp 𝕄 :=
  iprop((∃ K, recs m K ∗ atAll c ∗ payToks c) ∗ (cred (tallyAt (bar c) () 4) ∗ sepL (credJ c) ord) ∗ levAts L lv
    ∗ argP m c ∗ argR m c ∗ ∃ f : S8192x2048.Idx → Elt F .bf16, ((c : Thread nD τ).loc main_v1) ↦{fullShare} f)

set_option maxHeartbeats 1000000 in
/-- The body, from what the launch hands it to what it gives back. -/
theorem run_body {Q' : PUnit → sProp 𝕄} :
    iprop(Start m c ∗ Bufs c ∗ gam m c ∗ (∃ W, owes (c : Thread nD τ) (O₀ c) W))
      ⊢ iprop((Done m c -∗ Q' ⟨⟩) -∗ WP c (onArgs (cc0_body (F := F))) Q') := by
  unfold Start payToks
  rw [four, three, two, atAll_list, sepL_cons, sepL_cons, sepL_cons, sepL_cons]
  iintro ⟨⟨⟨%K, #Hr, Hat, ⟨Tb0, Tb1, Tb2, Tb3⟩, HtR, HtS, ⟨T47, T48, T49⟩, HtO, T47', T48'⟩, ⟨Hcb, Hcj⟩, Hlev, HA, HB, ⟨%f, HV⟩⟩, HBufs, HG, HO⟩ Hk
  ihave Hd := (deal c) $$ HBufs
  icases Hd with ⟨Hdest, Hkeep⟩
  ihave Hdest := (Entails.of_eq (dests_out c)) $$ Hdest
  icases Hdest with ⟨Pb0, Pb1, Pb2, Pb3⟩
  icases Hat with ⟨Gb, G47, G48, G49, Gw⟩
  ihave Gb := (show atNum c 0 ⊢ atPos ER (bar c) 0 (∅ : Finset (Fin 4)) 0 from Entails.refl _) $$ Gb
  ihave G47 := (show atNum c 47 ⊢ atPos ER (dcell c 47) 0 (∅ : Finset (Fin 4)) 0 from Entails.refl _) $$ G47
  ihave G48 := (show atNum c 48 ⊢ atPos ER (dcell c 48) 0 (∅ : Finset (Fin 4)) 0 from Entails.refl _) $$ G48
  ihave G49 := (show atNum c 49 ⊢ atPos ER (dcell c 49) 0 (∅ : Finset (Fin 4)) 0 from Entails.refl _) $$ G49
  unfold Keep b0 b1 b3 any
  icases Hkeep with ⟨⟨%f0, Z0⟩, ⟨%f1, Z1⟩, ⟨%g0, B0⟩, ⟨%g1, B1⟩, ⟨%e0, V0⟩, ⟨%e1, V1⟩, ⟨%f2, Z2⟩⟩
  iapply (run_rest m K c (f0 := f0) (f1 := f1) (f2 := f2) (g0 := g0) (g1 := g1) (e0 := e0) (e1 := e1)) $$ [-Hk]
  · isplitl [Hlev HO Gb Hcb HtR HtS Gw Hcj HV HtO]
    · unfold Pend
      isplitr; · iexact Hr
      isplitl [Hlev]; · iexact Hlev
      isplitl [HO]; · iexact HO
      isplitl [Gb]; · iexact Gb
      isplitl [Hcb]; · iexact Hcb
      isplitl [HtR HtS]
      · iapply (Entails.of_eq (toks_list c))
        isplitl [HtR]; · iexact HtR
        iexact HtS
      isplitl [Gw Hcj]
      · iapply (Entails.of_eq (waits_in c))
        isplitl [Gw]; · iexact Gw
        iexact Hcj
      iapply (stores_in c f)
      isplitl [HV]; · iexact HV
      iapply (Entails.of_eq (stores_list c)); iexact HtO
    isplitr; · iexact Hr
    unfold Begin
    isplitl [Tb0]; · iexact Tb0
    isplitl [Pb0]; · iexact Pb0
    isplitl [Tb1]; · iexact Tb1
    isplitl [Pb1]; · iexact Pb1
    isplitl [Tb2]; · iexact Tb2
    isplitl [Pb2]; · iexact Pb2
    isplitl [Tb3]; · iexact Tb3
    isplitl [Pb3]; · iexact Pb3
    isplitl [HA]; · iexact HA
    isplitl [HB]; · iexact HB
    isplitl [HG]; · iexact HG
    isplitl [Z0]; · iexact Z0
    isplitl [Z1]; · iexact Z1
    isplitl [Z2]; · iexact Z2
    isplitl [B0]; · iexact B0
    isplitl [B1]; · iexact B1
    isplitl [V0]; · iexact V0
    isplitl [V1]; · iexact V1
    isplitl [T47]; · iexact T47
    isplitl [T47']; · iexact T47'
    isplitl [T48]; · iexact T48
    isplitl [T48']; · iexact T48'
    isplitl [T49]; · iexact T49
    isplitl [G47]; · iexact G47
    isplitl [G48]; · iexact G48
    iexact G49
  iexact Hk

end Cert.AllReduce
-- ==== Proof.AllReduce.Launch.lean ====
/-
# The launch

The program runs: from any memory, on all sixteen devices, to its end.
-/
module

public import proofs.«01_k».proof.Proof.AllReduce.Deal
public import Idealize.ShloMosaic.Lib.Quiescent
public import Idealize.ShloMosaic.Lib.Pipeline.CollectiveSegs

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem one_point : cfg0.N = 1 := N_0
def pt : Fin cfg0.N := t0_0
theorem is_pt (t : Fin cfg0.N) : t = pt := fin_N0 t

/-- The staged copy of the gain. -/
def gstg (c : Dev nD) : (cc0_stg0_0 : Ref sig .tc).ty.Contents (Elt F) :=
  (win0_0.blk pt).view.read (Elt F) (m ((c : Thread nD τ).loc main_arg2))
theorem gstg_eq (c : Dev nD) : gstg m c = a2 m c :=
  Memref.read_access_unit_zero (Elt F) main_arg2 (funext fun a => Nat.zero_mul _) _ _

/-- What the body leaves: its buffers, its closed cells, and the three arrays. -/
def After (c : Dev nD) : sProp 𝕄 :=
  iprop(Bufs c ∗ argP m c ∗ argR m c ∗ (((c : Thread nD τ).loc main_v1) ↦{fullShare} (OUT m)) ∗ Zeros c ∗ semVal (bar c) 0)

def dats (_ : Fin 1) (c : Dev nD) : Dat τ (Elt F) Unit ℕ UU ℕ cfg0 c where
  A w := m ((cfg0.win w).arr.view.loc (c : Thread nD τ))
  after w _ := match w with
    | ⟨0, _⟩ => gstg m c
    | ⟨_ + 1, h⟩ => absurd h (Nat.not_lt.2 (Nat.le_add_left _ _))
  Φ t := match t with
    | ⟨0, _⟩ => iprop(Start m c ∗ Bufs c)
    | ⟨_ + 1, _⟩ => After m c
  q _ := fullShare
  owed t := match t with
    | ⟨0, _⟩ => O₀ c
    | ⟨_ + 1, _⟩ => 0

theorem window (Φ : Fin cfg0.W → sProp 𝕄) : bigSep Finset.univ Φ = Φ (0 : Fin 1) := bigSep_W0 Φ
theorem fetched (t : Fin cfg0.N) : (cfg0.win (0 : Fin 1)).fetch t = true := by rw [is_pt t]; rfl
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((Start m c ∗ Bufs c) ∗ (dats m 0 c).owesAt () pt.castSucc ∗ (∃ d, stg c cc0_stg0_0 ((dats m 0 c).before (0 : Fin 1) pt d)))
def bodyPost (c : Dev nD) : sProp 𝕄 :=
  iprop(After m c ∗ (dats m 0 c).owesAt () pt.succ ∗ stg c cc0_stg0_0 (gstg m c))

theorem sound_body (c : Dev nD) : bodyPre m c ⊢ WP c (onArgs (cc0_body (F := F))) (fun _ => bodyPost m c) := by
  unfold bodyPre Dat.owesAt Pipeline.owesWithin
  iintro ⟨⟨Hs, Hb⟩, ⟨%W, %hW, HO⟩, ⟨%d, %g, %hg, Hg⟩⟩
  have hx : g = a2 m c := by rw [hg, ← gstg_eq]; unfold Dat.before; rw [if_pos (fetched pt)]; rfl
  subst hx
  rw [show (dats m 0 c).owed pt.castSucc = O₀ c from rfl]
  iapply (run_body m c (Q' := fun _ => bodyPost m c)) $$ [Hs Hb HO Hg]
  · isplitl [Hs]; · iexact Hs
    isplitl [Hb]; · iexact Hb
    isplitl [Hg]; · iexact Hg
    iexists W; iexact HO
  unfold Done
  iintro ⟨⟨%W', HO⟩, Hb, Hg, HA, HB, HV, Hz, Hz'⟩
  unfold bodyPost After Dat.owesAt Pipeline.owesWithin
  rw [show (dats m 0 c).owed pt.succ = 0 from rfl]
  isplitl [Hb HA HB HV Hz Hz']
  · isplitl [Hb]; · iexact Hb
    isplitl [HA]; · iexact HA
    isplitl [HB]; · iexact HB
    isplitl [HV]; · iexact HV
    isplitl [Hz] <;> iassumption
  isplitl [HO]
  · iexists W'
    isplitr; · ipureintro; exact fun _ _ => Or.inl trivial
    iexact HO
  iexists (a2 m c)
  isplitr; · (ipureintro; exact (gstg_eq m c).symm)
  iexact Hg

set_option maxRecDepth 100000 in
theorem body_obligation (c : Dev nD) : BodyObligation (dats (F := F) m 0 c) (defs₀ (F := F)) 𝒱₀ () Set.univ := fun t => by
  rw [is_pt t]
  rw [window, window]
  simp only [owns_buf]
  exact sound_body m c

/-! ## The cells -/

abbrev osem : Fin 65 → SemLoc sig := fun k => .dma (dsem (k.val + 1))
theorem ownSemFacts : Pipeline.OwnSemFacts cfg0.spec osem := by decide +kernel
theorem share_eq (c : Dev nD) (w : Fin cfg0.W) : (dats m 0 c).share w = fullShare := by unfold Dat.share; split <;> rfl

theorem own_zeros (c : Dev nD) : (Pipeline.ownSems0 (Ix := Unit) (Name := ℕ) (U := UU) (Lvl := ℕ) (Val := Elt F) (τ := τ) osem c : sProp 𝕄) = Zeros c := rfl

def u₀ : UU :=
  (initOf (Pipeline.cells cfgs cellOf_inj) (Pipeline.launchToks cfgs cellOf_inj), initOf allCells allToks)

def G (c : Dev nD) : sProp 𝕄 :=
  iprop((bigSep Finset.univ fun k : Fin 66 => roundState ER (Rd m) (kcell (c, k)) 0)
    ∗ (bigSep Finset.univ fun k : Fin 66 => reached ER (kcell (c, k)) 0) ∗ atAll c ∗ ownToks c)
def G' (c : Dev nD) : sProp 𝕄 := iprop(∃ K, recs m K ∗ atAll c ∗ payToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 66 => Φ (kcell (c, k)) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq minted) $$ Htok
  unfold G atAll; simp only [bigSep_sep']
  isplitl [Hst']; · iexact Hst'
  isplitl [Hr']; · iexact Hr'
  isplitl [Hat'] <;> iassumption

theorem unscopedSems0_eq (c : Dev nD) : (unscopedSems0 c : sProp 𝕄) = semVal (bar c) 0 := by
  unfold unscopedSems0; rw [bigSep_eq_bigSepL_of_eq [SemLoc.reg barS] (by decide +kernel) (by decide)]; rfl

/-- The sum of the two kinds of semaphores, as one family over the cells. -/
theorem sems0_eq (c : Dev nD) :
    iprop(Zeros (F := F) c ∗ semVal (bar c) 0) = (bigSep Finset.univ fun k : Fin 66 => semVal (kcell (c, k)) 0 : sProp 𝕄) := by
  have hz : (Finset.univ : Finset (Fin 66)) = insert 0 (Finset.univ.map (Fin.succEmb 65)) := by decide +kernel
  rw [hz, bigSep_insert (by decide +kernel), bigSep_map]
  unfold Zeros
  exact Std.Commutative.comm (op := (BI.sep : sProp 𝕄 → sProp 𝕄 → sProp 𝕄)) _ _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 66 => reached ER (kcell (c, k)) 0) ∗ atAll c ∗ ownToks c) := by
  unfold G
  rw [unscopedSems0_eq, own_zeros]
  iintro ⟨Hos, Hus, Hst, Hr, Hat, Htok⟩
  ihave Hv := (Entails.of_eq (sems0_eq (F := F) c)) $$ [Hos Hus]
  · isplitl [Hos]
    · iexact Hos
    iexact Hus
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem regroup :
    (bigSep Finset.univ fun c : Dev nD => iprop((bigSep Finset.univ fun k => iprop(∃ κ : ℕ, cellInv ER (Rd m) κ (kcell (c, k))))
          ∗ (bigSep Finset.univ fun k : Fin 66 => reached ER (kcell (c, k)) 0) ∗ atAll c ∗ ownToks c) : sProp 𝕄)
      ⊢ bigSep Finset.univ (G' m) := by
  rw [bigSep_sep', bigSep_sep', bigSep_sep', ← bigSep_univ_prod (fun ck : Dev nD × Fin 66 => iprop(∃ κ : ℕ, cellInv ER (Rd m) κ (kcell ck))),
    ← bigSep_univ_prod (fun ck : Dev nD × Fin 66 => (reached ER (kcell ck) 0 : sProp 𝕄)), dealt]
  iintro ⟨HI, #HR, Hat, Htok⟩
  ihave HK := (BI.bigSep_exists_pi Finset.univ (fun (ck : Dev nD × Fin 66) (κ : ℕ) => (cellInv ER (Rd m) κ (kcell ck) : sProp 𝕄))) $$ HI
  icases HK with ⟨%K, #HI⟩
  have h : ∀ c ∈ (Finset.univ : Finset (Dev nD)), iprop(recs m K ∗ atAll c ∗ payToks c) ⊢ G' m c := fun c _ => by
    unfold G'; iintro H; iexists K; iexact H
  iapply (bigSep_with_persistent (R := recs m K) h)
  isplitr
  · unfold recs; isplitl; · iexact HI
    iexact HR
  · iapply (Entails.of_eq (bigSep_sep' Finset.univ (fun c : Dev nD => (atAll c : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  rw [Pipeline.unscopedRestP_none, unscopedRest0_eq]
  iintro ⟨⟨HA, HB, HV⟩, Hlev, Hcr, -, HG⟩
  ihave Hc := (creds (F := F) c) $$ Hcr
  imodintro
  unfold Start G' argP argR
  isplitl
  · isplitl [HG]; · iexact HG
    isplitl [Hc]; · iexact Hc
    isplitl [Hlev]; · iexact Hlev
    isplitl [HA]; · iexists fullShare; iexact HA
    isplitl [HB]; · iexists fullShare; iexact HB
    iexists _; iexact HV
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Start m c ∗ Bufs c) from rfl, show Pipeline.scopedRest cfg0.spec c = (Bufs c : sProp 𝕄) from bufs_eq c]
  iintro ⟨Hs, -, Hr⟩
  isplitl [Hs] <;> iassumption

/-- What a device's final state is read from. -/
def End (c : Dev nD) : sProp 𝕄 :=
  iprop(unscopedSems0 c ∗ argP m c ∗ argR m c ∗ (((c : Thread nD τ).loc main_v1) ↦{fullShare} (OUT m)))

theorem phi1_exit (c : Dev nD) :
    (dats m 0 c).Φ (Fin.last cfg0.N) ⊢ iprop(End m c ∗ Pipeline.ownSems0 osem c ∗ Pipeline.scopedRest cfg0.spec c) := by
  rw [show (dats m 0 c).Φ (Fin.last cfg0.N) = After m c from rfl, show Pipeline.scopedRest cfg0.spec c = (Bufs c : sProp 𝕄) from bufs_eq c]
  unfold After End
  rw [unscopedSems0_eq, own_zeros]
  iintro ⟨Hb, HA, HB, HV, Hz, Hz'⟩
  isplitl [HA HB HV Hz']
  · isplitl [Hz']; · iexact Hz'
    isplitl [HA]; · iexact HA
    isplitl [HB] <;> iassumption
  isplitl [Hz]; · iexact Hz
  iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A device's final state. -/
def Final (c : Dev nD) (s : MemSt nD τ sig (Elt F)) : Prop :=
  (∀ sm : SemLoc sig, sm.isScoped .tc = false → s.sem ((c.tc : Thread nD τ), sm) = 0)
    ∧ s.mem ((c : Thread nD τ).loc main_arg0) = a0 m c ∧ s.mem ((c : Thread nD τ).loc main_arg1) = a1 m c
    ∧ s.mem ((c : Thread nD τ).loc main_v1) = OUT m

theorem read_end (c : Dev nD) (s' : Phys nD τ sig (Elt F)) :
    iprop(End m c ∗ iprop(emp) ∗ SI s') ⊢ (|={Set.univ}=> iprop(⌜Final m c s'.mem⌝ ∗ SI s') : sProp 𝕄) := by
  unfold End argP argR
  iintro ⟨⟨Hz, ⟨%q, HA⟩, ⟨%q', HB⟩, HV⟩, -, HSI⟩
  icombine HSI HA gives %hA
  icombine HSI HB gives %hB
  icombine HSI HV gives %hV
  imod (Pipeline.unscopedSems0_read (X := unscopedSems0 c) (c := c) fupd_intro s') $$ [Hz HSI] with ⟨%hz, HSI⟩
  · isplitl [Hz] <;> iassumption
  imodintro
  isplitr
  · ipureintro
    exact ⟨hz, Buf.eq_of_forall_mem_univ hA, Buf.eq_of_forall_mem_univ hB, Buf.eq_of_forall_mem_univ hV⟩
  iexact HSI

/-! ## The run -/

/-- What a run of the program ends in: the arguments unchanged and the result on every device, and no counter left. -/
def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1) = OUT m)
  ∧ r.2.sem = fun _ => 0

set_option maxRecDepth 8000 in
/-- From any memory with every counter zero, at any float values: every weakly fair run of the sixteen devices ends, and
    ends so. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := Start m) (Y := End m) (Z := fun _ => iprop(emp))
    (hX := start_intro m ρ) (hin := phi0_intro m) (hout := phi1_exit m)
    (QY := Final m) (hY := read_end m)
    (hQ := fun s h hs => ⟨fun c => ⟨(h c).2.2.2.1, (h c).2.2.2.2.1,
      ((h c).1 (0 : Fin 1)).trans ((dats m 0 c).arrAt_in (0 : Fin 1) rfl _), (h c).2.2.2.2.2⟩,
      sem_eq_zero hs fun c => (h c).2.2.1⟩)

end Cert.AllReduce
-- ==== Proof.AllReduce.KernelValue.lean ====
/-
# What one block computes, over the extended reals

The casts between formats are the identity there, so each step of a block is plain arithmetic at every
row and column: a cast copies, a step of the ring adds, and the last step adds the residual, divides the
row by the root of its mean square and scales it.
-/
module

public import proofs.«01_k».proof.Proof.AllReduce.Vals
public import Idealize.ShloMosaic.Lib.Pointwise

@[expose] public section

noncomputable section

namespace Cert.AllReduce

open Cert.KernelIdeal Cert.KernelIdeal.Gen
open Idealize.ShloMosaic Idealize.ShloMosaic.TcCoe

/-- The cast of a block copies it. -/
theorem cast_apply (p : Vec Ideal S1x256x2048 .f32) (a : Fin 256) (l : Fin 2048) :
    k0_pay3 p (ValueIdx.ix2 a l) = p (ValueIdx.ix3 0 a l) := by
  rw [← ix3_eq_valueIdx, ← ix2_eq_valueIdx]
  unfold k0_pay3
  pointwise

/-- A step of the ring adds the device's own block to the one received. -/
theorem step_apply (w : Vec Ideal S1x256x2048 .bf16) (p : Vec Ideal S1x256x2048 .f32) (a : Fin 256) (l : Fin 2048) :
    k0_pay4 w p (ValueIdx.ix3 0 a l) = (w (ValueIdx.ix3 0 a l) + p (ValueIdx.ix3 0 a l) : EReal) := by
  simp only [← ix3_eq_valueIdx]
  unfold k0_pay4
  pointwise

/-- The last step at row `a` and column `l`, with `y` the row it normalises. -/
theorem last_apply (w : Vec Ideal S1x256x2048 .bf16) (p : Vec Ideal S1x256x2048 .f32) (r : Vec Ideal S256x2048 .f32)
    (g : Vec Ideal S1x2048 .f32) (a : Fin 256) (l : Fin 2048) (y : Fin 2048 → EReal)
    (hy : ∀ l, y l = (w (ValueIdx.ix3 0 a l) + p (ValueIdx.ix3 0 a l) + r (ValueIdx.ix2 a l) : EReal)) :
    k0_pay10 w p r g (ValueIdx.ix2 a l) = (y l * Ideal.rsqrt (Ideal.div (∑ k, y k * y k) (Ideal.ofBits .f32 0x45000000#32)
      + Ideal.ofBits .f32 0x358637BD#32) * g (ValueIdx.ix2 0 l) : EReal) := by
  simp only [hy, ← ix3_eq_valueIdx, ← ix2_eq_valueIdx]
  unfold k0_pay10
  pointwise

end Cert.AllReduce

end
-- ==== Proof.AllReduce.RefValue.lean ====
/-
# What the reference computes, over the extended reals

The reference's result at a row and a column: the four partial sums and the residual added up, divided by
the root of the row's mean square and scaled.
-/
module

public import proofs.«01_k».proof.Proof.Gen.ReferenceIdeal.Run
public import Idealize.ShloMosaic.Lib.Pointwise

@[expose] public section

noncomputable section

namespace Cert.AllReduce

open Cert.ReferenceIdeal Cert.ReferenceIdeal.Gen
open Idealize.ShloMosaic Idealize.ShloMosaic.TcCoe

/-- The reference's rows before they are normalised: the sum of the four partial sums and the residual. -/
def refY (X : FVec Ideal S4x8192x2048 .f32) (R : FVec Ideal S8192x2048 .f32) : FVec Ideal S8192x2048 .f32 :=
  addf (Host.reduceAdd X (constant S_ .f32 0x00000000#32) reducesTo_S4x8192x2048_S8192x2048_d0 h_S_) R

/-- The reference's result, as its operations spell it. -/
def refZ (X : FVec Ideal S4x8192x2048 .f32) (R : FVec Ideal S8192x2048 .f32) (G : FVec Ideal S1x2048 .f32) : FVec Ideal S8192x2048 .bf16 :=
  truncf .bf16 (mulf (Host.divf (refY X R) (broadcastInDim S8192x2048 ![0, 1] bcast_S8192x1_S8192x2048_0_1 (Host.sqrt (addf (Host.divf (broadcastInDim S8192x1 ![0] bcast_S8192_S8192x1_0 (Host.reduceAdd (mulf (refY X R) (refY X R)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 G)) bitsLt_bf16_f32

theorem refY_apply (X : FVec Ideal S4x8192x2048 .f32) (R : FVec Ideal S8192x2048 .f32) (r : Fin 8192) (l : Fin 2048) :
    refY X R (ValueIdx.ix2 r l) = ((∑ k : Fin 4, X (ValueIdx.ix3 k r l)) + R (ValueIdx.ix2 r l) : EReal) := by
  simp only [← ix3_eq_valueIdx, ← ix2_eq_valueIdx]
  unfold refY
  pointwise

theorem refZ_apply (X : FVec Ideal S4x8192x2048 .f32) (R : FVec Ideal S8192x2048 .f32) (G : FVec Ideal S1x2048 .f32) (r : Fin 8192) (l : Fin 2048) :
    refZ X R G (ValueIdx.ix2 r l) = (Ideal.div (refY X R (ValueIdx.ix2 r l))
      (Ideal.sqrt (Ideal.div (∑ k : Fin 2048, refY X R (ValueIdx.ix2 r k) * refY X R (ValueIdx.ix2 r k)) (Ideal.ofBits .f32 0x45000000#32)
        + Ideal.ofBits .f32 0x358637BD#32)) * G (ValueIdx.ix2 0 l) : EReal) := by
  simp only [← ix2_eq_valueIdx]
  unfold refZ
  generalize refY X R = Y
  pointwise

end Cert.AllReduce

end
-- ==== Proof.AllReduce.Roots.lean ====
/-
# Dividing by a root and multiplying by its reciprocal

Over the extended reals a quotient by the square root of a positive number is the product with the
reciprocal root, infinite numbers included. A row's mean square with the small constant added is positive.
-/
module

public import Idealize.ShloMosaic.Lib.Pointwise

@[expose] public section

noncomputable section

namespace Cert.AllReduce

open Idealize.ShloMosaic

theorem div_sqrt (y v : EReal) (hv : 0 < v) : Ideal.div y (Ideal.sqrt v) = y * Ideal.rsqrt v := by
  induction v with
  | bot => exact absurd hv (by simp)
  | top => simp [Ideal.div]
  | coe r =>
    have hr : 0 < r := by exact_mod_cast hv
    have h1 : ¬ r < 0 := not_lt.2 hr.le
    have h2 : ((Real.sqrt r : ℝ) : EReal) ≠ 0 := by exact_mod_cast (Real.sqrt_pos.2 hr).ne'
    rw [Ideal.sqrt_coe, Ideal.rsqrt_coe, if_neg h1, if_neg h1, if_neg hr.ne', Ideal.div, if_neg h2, EReal.coe_inv]

/-- The two constants: 2048 and a positive number. -/
theorem width_eq : Ideal.ofBits .f32 0x45000000#32 = ((2048 : ℝ) : EReal) := by
  simp [Ideal.ofBits, Ideal.ieee, -EReal.coe_mul]; norm_num
theorem small_pos : (0 : EReal) < Ideal.ofBits .f32 0x358637BD#32 := by
  simp [Ideal.ofBits, Ideal.ieee, -EReal.coe_mul]

theorem square_nonneg (y : EReal) : 0 ≤ y * y := by
  rcases le_total 0 y with h | h
  · exact mul_nonneg h h
  · rw [← neg_mul_neg]; exact mul_nonneg (EReal.neg_nonneg.2 h) (EReal.neg_nonneg.2 h)

theorem mean_pos (y : Fin 2048 → EReal) :
    0 < Ideal.div (∑ k, y k * y k) (Ideal.ofBits .f32 0x45000000#32) + Ideal.ofBits .f32 0x358637BD#32 := by
  have h0 : 0 ≤ Ideal.div (∑ k, y k * y k) (Ideal.ofBits .f32 0x45000000#32) := by
    rw [width_eq, Ideal.div_coe (by norm_num : (2048 : ℝ) ≠ 0)]
    exact mul_nonneg (Finset.sum_nonneg fun k _ => square_nonneg (y k)) (by exact_mod_cast (by norm_num : (0 : ℝ) ≤ 1 / 2048))
  exact lt_of_lt_of_le small_pos (le_add_of_nonneg_left h0)

end Cert.AllReduce

end
-- ==== Proof.AllReduce.Equation.lean ====
/-
# The kernel's result is the reference's

Row by row over the extended reals: a device's running sum of the ring, its own block added, is the sum of
the four devices' blocks, whichever device it began with, because addition is commutative and associative.
So the rows a device normalises are the reference's, and so is the whole result.
-/
module

public import proofs.«01_k».proof.Proof.AllReduce.KernelValue
public import proofs.«01_k».proof.Proof.AllReduce.RefValue
public import proofs.«01_k».proof.Proof.AllReduce.Roots
public import Idealize.ShloMosaic.Lib.Layout

@[expose] public section

set_option backward.proofsInPublic true

noncomputable section

namespace Cert.AllReduce

open Cert.KernelIdeal Cert.KernelIdeal.Gen
open Idealize.ShloMosaic Idealize.ShloMosaic.TcCoe

/-! ## A row of 512 in its half -/

section Halves
variable {α : Type}

/-- The half a row of 512 lies in, and its row there. -/
def hf (i : Fin 512) : Fin 2 := ⟨i.val / 256, by have := i.isLt; omega⟩
def rw2 (i : Fin 512) : Fin 256 := ⟨i.val % 256, Nat.mod_lt _ (by decide)⟩

theorem row_eq (i : Fin 512) (h : 256 * (hf i).val + (rw2 i).val < 512) : (⟨256 * (hf i).val + (rw2 i).val, h⟩ : Fin 512) = i :=
  Fin.ext (Nat.div_add_mod i.val 256)

theorem half3_at (X : S512x2048.Idx → α) (i : Fin 512) (l : Fin 2048) :
    half3 X (hf i) (ValueIdx.ix3 0 (rw2 i) l) = X (ValueIdx.ix2 i l) :=
  congrArg (fun r => X (ValueIdx.ix2 r l)) (row_eq i (by have := i.isLt; show 256 * (i.val / 256) + i.val % 256 < 512; omega))
theorem half2_at (X : S512x2048.Idx → α) (i : Fin 512) (l : Fin 2048) :
    half2 X (hf i) (ValueIdx.ix2 (rw2 i) l) = X (ValueIdx.ix2 i l) :=
  congrArg (fun r => X (ValueIdx.ix2 r l)) (row_eq i (by have := i.isLt; show 256 * (i.val / 256) + i.val % 256 < 512; omega))
theorem glue2_at (f : Fin 2 → S256x2048.Idx → α) (i : Fin 512) (l : Fin 2048) :
    glue2 f (ValueIdx.ix2 i l) = f (hf i) (ValueIdx.ix2 (rw2 i) l) := rfl
theorem glue3_at (f : Fin 2 → S1x256x2048.Idx → α) (i : Fin 512) (l : Fin 2048) :
    glue3 f (ValueIdx.ix2 i l) = f (hf i) (ValueIdx.ix3 0 (rw2 i) l) := rfl

end Halves

/-! ## The running sums -/

variable (m : (ℓ : Loc nD τ sig) → Buf (Elt Ideal) ℓ)

theorem S0_at (c : Dev nD) (i : Fin 512) (l : Fin 2048) : S0 m c (ValueIdx.ix2 i l) = PC m 1 c (ValueIdx.ix2 i l) := by
  unfold S0; rw [glue2_at, cast_apply, half3_at]
theorem A0_at (c : Dev nD) (i : Fin 512) (l : Fin 2048) :
    A0 m c (ValueIdx.ix2 i l) = (S0 m (lt c) (ValueIdx.ix2 i l) + PC m 2 c (ValueIdx.ix2 i l) : EReal) := by
  unfold A0 R0; rw [glue3_at, step_apply, half3_at, half3_at]
theorem A1_at (c : Dev nD) (i : Fin 512) (l : Fin 2048) :
    A1 m c (ValueIdx.ix2 i l) = (A0 m (lt c) (ValueIdx.ix2 i l) + PC m 3 c (ValueIdx.ix2 i l) : EReal) := by
  unfold A1 R1; rw [glue3_at, step_apply, half3_at, half3_at]

/-- The row a device normalises, before it is normalised. -/
def rowK (c : Dev nD) (i : Fin 512) (l : Fin 2048) : EReal :=
  PC m 1 (lt (lt (lt c))) (ValueIdx.ix2 i l) + PC m 2 (lt (lt c)) (ValueIdx.ix2 i l) + PC m 3 (lt c) (ValueIdx.ix2 i l)
    + PC m 0 c (ValueIdx.ix2 i l) + RES m c (ValueIdx.ix2 i l)

theorem LN_at (c : Dev nD) (i : Fin 512) (l : Fin 2048) :
    LN m c (ValueIdx.ix2 i l) = (rowK m c i l * Ideal.rsqrt (Ideal.div (∑ k, rowK m c i k * rowK m c i k) (Ideal.ofBits .f32 0x45000000#32)
      + Ideal.ofBits .f32 0x358637BD#32) * a2 m c (ValueIdx.ix2 0 l) : EReal) := by
  unfold LN R2
  rw [glue2_at]
  refine last_apply _ _ _ _ _ _ (rowK m c i) fun k => ?_
  rw [half3_at, half3_at, half2_at, A1_at, A0_at, S0_at]
  rfl

/-! ## The four devices of a line -/

/-- A device's place on its line along z. -/
def zc (c : Dev nD) : Fin 4 := ⟨c.val % 4, Nat.mod_lt _ (by decide)⟩

theorem zc_lt (c : Dev nD) : zc (lt c) = 3 + zc c := by revert c; decide
theorem zc_lt2 (c : Dev nD) : zc (lt (lt c)) = 2 + zc c := by revert c; decide
theorem zc_lt3 (c : Dev nD) : zc (lt (lt (lt c))) = 1 + zc c := by revert c; decide

/-- Adding up once around the ring, from any place on, adds up everything. -/
theorem around (f : Fin 4 → EReal) (z : Fin 4) : f (1 + z) + f (2 + z) + f (3 + z) + f z = ∑ k, f k := by
  rw [← Equiv.sum_comp (Equiv.addRight z) f, Fin.sum_univ_four]
  show _ = f (0 + z) + f (1 + z) + f (2 + z) + f (3 + z)
  rw [zero_add]; ac_rfl

/-- The rows a device normalises lie at 512 times its number. -/
def rowOf (c : Dev nD) (i : Fin 512) : Fin 8192 := ⟨512 * c.val + i.val, by have : c.val < 16 := c.isLt; have := i.isLt; omega⟩

theorem base0 (c : Dev nD) : 2048 * qd c + 512 * ck c 0 = 512 * c.val := by revert c; decide
theorem base1 (c : Dev nD) : 2048 * qd (lt (lt (lt c))) + 512 * ck (lt (lt (lt c))) 1 = 512 * c.val := by revert c; decide
theorem base2 (c : Dev nD) : 2048 * qd (lt (lt c)) + 512 * ck (lt (lt c)) 2 = 512 * c.val := by revert c; decide
theorem base3 (c : Dev nD) : 2048 * qd (lt c) + 512 * ck (lt c) 3 = 512 * c.val := by revert c; decide

/-! ## The equation -/

section Whole
variable (X : FVec Ideal ⟨3, ![4, 8192, 2048]⟩ .f32) (R : FVec Ideal ⟨2, ![8192, 2048]⟩ .f32) (G : FVec Ideal ⟨2, ![1, 2048]⟩ .f32)
  (h0 : ∀ c : Dev nD, a0 m c = Layout.blockN ⟨3, ![1, 8192, 2048]⟩ ⟨3, ![4, 8192, 2048]⟩ (Layout.meshBlock [2, 2, 4] ![[2], [], []] c) X)
  (h1 : ∀ c : Dev nD, a1 m c = R) (h2 : ∀ c : Dev nD, a2 m c = G)

include h0 in
/-- A device's block of the partial sums is the one its place on the line names. -/
theorem a0_at (c : Dev nD) (r : Fin 8192) (l : Fin 2048) : a0 m c (ValueIdx.ix3 0 r l) = X (ValueIdx.ix3 (zc c) r l) := by
  rw [h0 c, Layout.blockN_apply]
  refine congrArg X (funext fun b => Fin.ext ?_)
  match b with
  | ⟨0, _⟩ => show Layout.meshLin [2, 2, 4] c.val [2] * 1 + 0 = c.val % 4; revert c; decide
  | ⟨1, _⟩ => show 0 * 8192 + r.val = r.val; omega
  | ⟨2, _⟩ => show 0 * 2048 + l.val = l.val; omega

include h0 in
theorem PC_at (t : ℕ) (c d : Dev nD) (hb : 2048 * qd c + 512 * ck c t = 512 * d.val) (i : Fin 512) (l : Fin 2048) :
    PC m t c (ValueIdx.ix2 i l) = X (ValueIdx.ix3 (zc c) (rowOf d i) l) := by
  rw [← a0_at m X h0 c (rowOf d i) l]
  exact congrArg (fun r => a0 m c (ValueIdx.ix3 0 r l)) (Fin.ext (congrArg (· + i.val) hb))

include h1 in
theorem RES_at (c : Dev nD) (i : Fin 512) (l : Fin 2048) : RES m c (ValueIdx.ix2 i l) = R (ValueIdx.ix2 (rowOf c i) l) := by
  rw [← h1 c]
  exact congrArg (fun r => a1 m c (ValueIdx.ix2 r l)) (Fin.ext (congrArg (· + i.val) (base0 c)))

include h0 h1 in
/-- So the row before it is normalised is the reference's. -/
theorem rowK_eq (c : Dev nD) (i : Fin 512) (l : Fin 2048) : rowK m c i l = refY X R (ValueIdx.ix2 (rowOf c i) l) := by
  rw [refY_apply, ← around (fun k => X (ValueIdx.ix3 k (rowOf c i) l)) (zc c), ← zc_lt, ← zc_lt2, ← zc_lt3]
  unfold rowK
  rw [PC_at m X h0 1 _ c (base1 c), PC_at m X h0 2 _ c (base2 c), PC_at m X h0 3 _ c (base3 c), PC_at m X h0 0 _ c (base0 c), RES_at m R h1]

include h0 h1 h2 in
/-- The kernel's whole result is the reference's. -/
theorem OUT_eq : OUT m = refZ X R G := by
  funext j
  have hj : (j 0).val < 8192 := (j 0).isLt
  obtain ⟨r, l, rfl⟩ : ∃ (r : Fin 8192) (l : Fin 2048), j = ValueIdx.ix2 r l := ⟨j 0, j 1, ValueIdx.eq_ix2 j⟩
  have hr : r.val < 8192 := r.isLt
  show LN m ⟨r.val / 512, _⟩ (ValueIdx.ix2 ⟨r.val % 512, _⟩ l) = _
  rw [LN_at, refZ_apply, div_sqrt _ _ (mean_pos _), h2]
  have e : rowOf ⟨r.val / 512, by show _ < 16; omega⟩ ⟨r.val % 512, Nat.mod_lt _ (by decide)⟩ = r := Fin.ext (Nat.div_add_mod r.val 512)
  simp only [rowK_eq m X R h0 h1, e]

end Whole

end Cert.AllReduce

end
-- ==== Proof.lean ====
/- The proof of everything the certificate claims of the all-reduce kernel: its run at bit patterns and over the
   extended reals, the reference's run, and that the two results are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AllReduce.Launch
public import proofs.«01_k».proof.Proof.AllReduce.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (AllReduce.run_main (F := Ideal) m ρ)

/-- At bit patterns. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (AllReduce.run_main (F := Bits) m ρ)

/-- The kernel's text is its idealization's: the tables of bodies are one, -/
theorem bodies : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, (t, s) => rfl
  | ⟨_ + 1, h⟩, _ => exact absurd h (Nat.not_lt.2 (Nat.le_add_left _ _))
theorem programs : Cert.Kernel.defs (F := Bits) = Cert.KernelIdeal.defs (F := Bits) := by
  unfold Cert.Kernel.defs Cert.KernelIdeal.defs
  rw [bodies]
  rfl

/-- and so its run is that one's at bit patterns. -/
theorem frame_kernel : Cert.quiescent_Kernel (hKernel := Cert.Kernel.Gen.facts) := by
  intro m ρ _
  rw [programs]
  exact frame_bits m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- Over the extended reals every device of the kernel ends with the reference's result. -/
theorem value : Cert.algebraic_KernelIdeal_ReferenceIdeal (hKernelIdeal := Cert.KernelIdeal.Gen.facts) (hReferenceIdeal := Cert.ReferenceIdeal.Gen.facts) := by
  intro m g m' g' _ hargs
  refine ⟨AllReduce.OUT m,
    (θ_run Cert.KernelIdeal.defs _ _).mono (fun r h c => ⟨(h.1 c).2.2.2, (h.1 c).1, (h.1 c).2.1, (h.1 c).2.2.1⟩) (AllReduce.run_main (F := Ideal) m g),
    (θ_run Cert.ReferenceIdeal.defs _ _).mono (fun r h => ⟨(h 0).1.trans ?_, (h 0).2⟩) (Cert.ReferenceIdeal.Value.run (F := Ideal) m' g')⟩
  exact (AllReduce.OUT_eq m _ _ _ (fun c => (hargs c).1) (fun c => (hargs c).2.1) (fun c => (hargs c).2.2)).symm

theorem claim : Cert.Claim := ⟨Cert.Kernel.Gen.facts, Cert.KernelIdeal.Gen.facts, Cert.ReferenceIdeal.Gen.facts,
  frame_kernel, frame_ideal, frame_reference, trivial, value⟩

end Cert.Proof

end
